-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v10)) (v1 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_v11) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v20) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v9)) (v2 : (c : Dev Cert.Kernel9Ideal.nD) → Buf (Elt Ideal) ((c.tc : Thread Cert.Kernel9Ideal.nD Cert.Kernel9Ideal.τ).loc Cert.Kernel9Ideal.main_v8_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v9) = v1 c
          ∧ r.2.mem ((c.tc : Thread Cert.Kernel9Ideal.nD Cert.Kernel9Ideal.τ).loc Cert.Kernel9Ideal.main_v8_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_v28) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S32768x2048 : Shape := ⟨2, ![32768, 2048]⟩
abbrev S2048x2x5632 : Shape := ⟨3, ![2048, 2, 5632]⟩
abbrev S5632x2048 : Shape := ⟨2, ![5632, 2048]⟩
abbrev S2048 : Shape := ⟨1, ![2048]⟩
abbrev S2048x11264 : Shape := ⟨2, ![2048, 11264]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S2048x2x5632, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S2048x11264, .f32⟩
  | .hbm, ⟨6, _⟩ => ⟨S2048x11264, .bf16⟩
  | .hbm, ⟨7, _⟩ => ⟨S5632x2048, .bf16⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S32768x2048 : Shape := ⟨2, ![32768, 2048]⟩
abbrev S2048x2x5632 : Shape := ⟨3, ![2048, 2, 5632]⟩
abbrev S5632x2048 : Shape := ⟨2, ![5632, 2048]⟩
abbrev S2048 : Shape := ⟨1, ![2048]⟩
abbrev S32768x2x5632 : Shape := ⟨3, ![32768, 2, 5632]⟩
abbrev S32768x1x5632 : Shape := ⟨3, ![32768, 1, 5632]⟩
abbrev S32768x5632 : Shape := ⟨2, ![32768, 5632]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2x5632, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S32768x2x5632, .f32⟩
  | .hbm, ⟨6, _⟩ => ⟨S32768x1x5632, .f32⟩
  | .hbm, ⟨7, _⟩ => ⟨S32768x5632, .f32⟩
  | .hbm, ⟨8, _⟩ => ⟨S32768x5632, .f32⟩
  | .hbm, ⟨9, _⟩ => ⟨S32768x5632, .f32⟩
  | .hbm, ⟨10, _⟩ => ⟨S_, .f32⟩
  | .hbm, ⟨11, _⟩ => ⟨S32768x5632, .f32⟩
  | .hbm, ⟨12, _⟩ => ⟨S32768x5632, .f32⟩
  | .hbm, ⟨13, _⟩ => ⟨S_, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x1x5632, .f32⟩
  | .hbm, ⟨18, _⟩ => ⟨S32768x5632, .f32⟩
  | .hbm, ⟨19, _⟩ => ⟨S32768x5632, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x2048, .f32⟩
  | .hbm, ⟨50, _⟩ => ⟨S32768x2048, .f32⟩
  | .hbm, ⟨51, _⟩ => ⟨S1x2048, .f32⟩
  | .hbm, ⟨52, _⟩ => ⟨S32768x2048, .f32⟩
  | .hbm, ⟨53, _⟩ => ⟨S32768x2048, .f32⟩
  | .hbm, ⟨54, _⟩ => ⟨S1x2048, .f32⟩
  | .hbm, ⟨55, _⟩ => ⟨S32768x2048, .f32⟩
  | .hbm, ⟨56, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel2.lean ====
abbrev S32768x4096 : Shape := ⟨2, ![32768, 4096]⟩
abbrev S4096x2048 : Shape := ⟨2, ![4096, 2048]⟩
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x4096, .f32⟩
  | .hbm, ⟨1, _⟩ => ⟨S4096x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x4096, .bf16⟩
  | .hbm, ⟨6, _⟩ => ⟨S4096x2048, .bf16⟩
  | .hbm, ⟨7, _⟩ => ⟨S1x2048, .f32⟩
  | .hbm, ⟨8, _⟩ => ⟨S1x2048, .f32⟩
  | .hbm, ⟨9, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x4096 : Shape := ⟨2, ![32768, 4096]⟩
abbrev S4096x2048 : Shape := ⟨2, ![4096, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel3.lean ====
abbrev S32768x2048 : Shape := ⟨2, ![32768, 2048]⟩
abbrev S2048x12352 : Shape := ⟨2, ![2048, 12352]⟩
abbrev S32768x4096 : Shape := ⟨2, ![32768, 4096]⟩
abbrev S512x2048 : Shape := ⟨2, ![512, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x12352, .f32⟩
  | .hbm, ⟨2, _⟩ => ⟨S2048x12352, .bf16⟩
  | .hbm, ⟨3, _⟩ => ⟨S32768x4096, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x2048 : Shape := ⟨2, ![32768, 2048]⟩
abbrev S2048x12352 : Shape := ⟨2, ![2048, 12352]⟩
abbrev S32768x12352 : Shape := ⟨2, ![32768, 12352]⟩
abbrev S32768x4096 : Shape := ⟨2, ![32768, 4096]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x12352, .f32⟩
  | .hbm, ⟨2, _⟩ => ⟨S32768x12352, .f32⟩
  | .hbm, ⟨3, _⟩ => ⟨S32768x4096, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S32768x4096 : Shape := ⟨2, ![32768, 4096]⟩
abbrev S32768x32x64 : Shape := ⟨3, ![32768, 32, 64]⟩
abbrev S32768x32 : Shape := ⟨2, ![32768, 32]⟩
abbrev S128 : Shape := ⟨1, ![128]⟩
abbrev S256x2x64x32x64 : Shape := ⟨5, ![256, 2, 64, 32, 64]⟩
abbrev S256x1x64x32x64 : Shape := ⟨5, ![256, 1, 64, 32, 64]⟩
abbrev S_ : Shape := ⟨0, ![]⟩
abbrev S256x1x64x32x128 : Shape := ⟨5, ![256, 1, 64, 32, 128]⟩
abbrev S256x2x64x32x128 : Shape := ⟨5, ![256, 2, 64, 32, 128]⟩
abbrev S32768x128 : Shape := ⟨2, ![32768, 128]⟩
abbrev S1x128 : Shape := ⟨2, ![1, 128]⟩
abbrev S256x2048 : Shape := ⟨2, ![256, 2048]⟩
abbrev S256x128 : Shape := ⟨2, ![256, 128]⟩
abbrev S16x128x128 : Shape := ⟨3, ![16, 128, 128]⟩
abbrev S1x128x128 : Shape := ⟨3, ![1, 128, 128]⟩
abbrev S128x128 : Shape := ⟨2, ![128, 128]⟩
abbrev S64x128 : Shape := ⟨2, ![64, 128]⟩
abbrev S1x64x128 : Shape := ⟨3, ![1, 64, 128]⟩
abbrev S1 : Shape := ⟨1, ![1]⟩
abbrev S1x1 : Shape := ⟨2, ![1, 1]⟩
abbrev S64 : Shape := ⟨1, ![64]⟩
abbrev S64x1 : Shape := ⟨2, ![64, 1]⟩

abbrev nBuf : Space → Nat
  | .hbm => 28
  | .vmem => 19
  | .smem => 0
  | _ => 0

abbrev bufTy : (tb : Table) → Fin (tcTables nBuf tb) → BufTy
  | .hbm, ⟨0, _⟩ => ⟨S32768x4096, .f32⟩
  | .hbm, ⟨1, _⟩ => ⟨S32768x4096, .f32⟩
  | .hbm, ⟨2, _⟩ => ⟨S32768x4096, .f32⟩
  | .hbm, ⟨3, _⟩ => ⟨S32768x4096, .f32⟩
  | .hbm, ⟨4, _⟩ => ⟨S32768x32x64, .f32⟩
  | .hbm, ⟨5, _⟩ => ⟨S32768x32, .f32⟩
  | .hbm, ⟨6, _⟩ => ⟨S32768x4096, .f32⟩
  | .hbm, ⟨7, _⟩ => ⟨S128, .f32⟩
  | .hbm, ⟨8, _⟩ => ⟨S256x2x64x32x64, .f32⟩
  | .hbm, ⟨9, _⟩ => ⟨S256x2x64x32x64, .bf16⟩
  | .hbm, ⟨10, _⟩ => ⟨S256x1x64x32x64, .bf16⟩
  | .hbm, ⟨11, _⟩ => ⟨S_, .i32⟩
  | .hbm, ⟨12, _⟩ => ⟨S_, .bf16⟩
  | .hbm, ⟨13, _⟩ => ⟨S256x1x64x32x128, .bf16⟩
  | .hbm, ⟨14, _⟩ => ⟨S256x1x64x32x64, .bf16⟩
  | .hbm, ⟨15, _⟩ => ⟨S_, .i32⟩
  | .hbm, ⟨16, _⟩ => ⟨S_, .bf16⟩
  | .hbm, ⟨17, _⟩ => ⟨S256x1x64x32x128, .bf16⟩
  | .hbm, ⟨18, _⟩ => ⟨S256x2x64x32x128, .bf16⟩
  | .hbm, ⟨19, _⟩ => ⟨S32768x4096, .bf16⟩
  | .hbm, ⟨20, _⟩ => ⟨S_, .i32⟩
  | .hbm, ⟨21, _⟩ => ⟨S_, .f32⟩
  | .hbm, ⟨22, _⟩ => ⟨S32768x128, .f32⟩
  | .hbm, ⟨23, _⟩ => ⟨S32768x4096, .bf16⟩
  | .hbm, ⟨24, _⟩ => ⟨S32768x4096, .bf16⟩
  | .hbm, ⟨25, _⟩ => ⟨S32768x4096, .bf16⟩
  | .hbm, ⟨26, _⟩ => ⟨S1x128, .f32⟩
  | .hbm, ⟨27, _⟩ => ⟨S32768x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x128, .f32⟩
  | .local _ .vmem, ⟨11, _⟩ => ⟨S256x128, .f32⟩
  | .local _ .vmem, ⟨12, _⟩ => ⟨S256x2048, .f32⟩
  | .local _ .vmem, ⟨13, _⟩ => ⟨S256x2048, .f32⟩
  | .local _ .vmem, ⟨14, _⟩ => ⟨S1x128, .f32⟩
  | .local _ .vmem, ⟨15, _⟩ => ⟨S256x2048, .bf16⟩
  | .local _ .vmem, ⟨16, _⟩ => ⟨S256x2048, .bf16⟩
  | .local _ .vmem, ⟨17, _⟩ => ⟨S16x128x128, .f32⟩
  | .local _ .vmem, ⟨18, _⟩ => ⟨S16x128x128, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 2, 64], ![false, false, false]⟩

@[reducible] def k0_t1_loop : Scf.Loop 32 :=
  let c0_i32_2 : BitVec 32 := 0#32
  let c2_i32 : BitVec 32 := 2#32
  let v6 : BitVec 32 := Scalar.addi c0_i32_2 c2_i32
  let c1_i32 : BitVec 32 := 1#32
  ⟨c0_i32_2, v6, c1_i32⟩
def k0_mult1 (k0_t1 : Fin k0_t1_loop.trips) : BitVec 32 :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let c0_i32_4 : BitVec 32 := 0#32
  let v8 : BitVec 32 := Scalar.addi v7 c0_i32_4
  v8
def k0_off1 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let c64_i32 : BitVec 32 := 64#32
  let v10 : BitVec 32 := Scalar.addi v9 c64_i32
  let c1_i32_5 : BitVec 32 := 1#32
  let v11 : BitVec 32 := Scalar.subi v10 c1_i32_5
  let v12 : Index := Scalar.indexCast v11
  let c0_6 : Index := 0#32
  ![v12.toNat, 0]
def k0_off2 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v47 : Index := Scalar.indexCast v9
  let c0_40 : Index := 0#32
  ![v47.toNat, 0]
def k0_off3 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v56 : Index := Scalar.indexCast v9
  let c128 : Index := 128#32
  ![v56.toNat, 128]
def k0_off4 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v65 : Index := Scalar.indexCast v9
  let c256 : Index := 256#32
  ![v65.toNat, 256]
def k0_off5 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v74 : Index := Scalar.indexCast v9
  let c384 : Index := 384#32
  ![v74.toNat, 384]
def k0_off6 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v83 : Index := Scalar.indexCast v9
  let c512 : Index := 512#32
  ![v83.toNat, 512]
def k0_off7 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v92 : Index := Scalar.indexCast v9
  let c640 : Index := 640#32
  ![v92.toNat, 640]
def k0_off8 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v101 : Index := Scalar.indexCast v9
  let c768 : Index := 768#32
  ![v101.toNat, 768]
def k0_off9 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v110 : Index := Scalar.indexCast v9
  let c896 : Index := 896#32
  ![v110.toNat, 896]
def k0_off10 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v119 : Index := Scalar.indexCast v9
  let c1024 : Index := 1024#32
  ![v119.toNat, 1024]
def k0_off11 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v128 : Index := Scalar.indexCast v9
  let c1152 : Index := 1152#32
  ![v128.toNat, 1152]
def k0_off12 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v137 : Index := Scalar.indexCast v9
  let c1280 : Index := 1280#32
  ![v137.toNat, 1280]
def k0_off13 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v146 : Index := Scalar.indexCast v9
  let c1408 : Index := 1408#32
  ![v146.toNat, 1408]
def k0_off14 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v155 : Index := Scalar.indexCast v9
  let c1536 : Index := 1536#32
  ![v155.toNat, 1536]
def k0_off15 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v164 : Index := Scalar.indexCast v9
  let c1664 : Index := 1664#32
  ![v164.toNat, 1664]
def k0_off16 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v173 : Index := Scalar.indexCast v9
  let c1792 : Index := 1792#32
  ![v173.toNat, 1792]
def k0_off17 (k0_t1 : Fin k0_t1_loop.trips) (c0_i32_4 : BitVec 32) : Fin 2 → Nat :=
  let c0_i32_2 : BitVec 32 := 0#32
  let c1_i32 : BitVec 32 := 1#32
  let arg14 : BitVec 32 := Scf.iv c0_i32_2 c1_i32 k0_t1
  let c128_i32 : BitVec 32 := 128#32
  let v7 : BitVec 32 := Scalar.muli arg14 c128_i32
  let v8 : BitVec 32 := Scalar.addi v7 c0_i32_4
  let v9 : BitVec 32 := v8
  let v182 : Index := Scalar.indexCast v9
  let c1920 : Index := 1920#32
  ![v182.toNat, 1920]
def k0_mult2 (k0_t1 : Fin k0_t1_loop.trips) : BitVec 32 :=
  let c0_i32_2 : BitVec 32 := 0#32
  let c1_i32 : BitVec 32 := 1#32
  let arg14 : BitVec 32 := Scf.iv c0_i32_2 c1_i32 k0_t1
  let c128_i32_441 : BitVec 32 := 128#32
  let v1087 : BitVec 32 := Scalar.muli arg14 c128_i32_441
  let c64_i32_442 : BitVec 32 := 64#32
  let v1088 : BitVec 32 := Scalar.addi v1087 c64_i32_442
  v1088
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference4Ideal.lean ====
abbrev S32768x4096 : Shape := ⟨2, ![32768, 4096]⟩
abbrev S32768x32x64 : Shape := ⟨3, ![32768, 32, 64]⟩
abbrev S32768x32 : Shape := ⟨2, ![32768, 32]⟩
abbrev S128 : Shape := ⟨1, ![128]⟩
abbrev S2x256x64x32 : Shape := ⟨4, ![2, 256, 64, 32]⟩
abbrev S2x256x1x32 : Shape := ⟨4, ![2, 256, 1, 32]⟩
abbrev S2x256x32 : Shape := ⟨3, ![2, 256, 32]⟩
abbrev S256x2x32 : Shape := ⟨3, ![256, 2, 32]⟩
abbrev S2x256x64x32x128 : Shape := ⟨5, ![2, 256, 64, 32, 128]⟩
abbrev S256x2x32x64x128 : Shape := ⟨5, ![256, 2, 32, 64, 128]⟩
abbrev S2x256x64x32x64 : Shape := ⟨5, ![2, 256, 64, 32, 64]⟩
abbrev S256x2x32x64x64 : Shape := ⟨5, ![256, 2, 32, 64, 64]⟩
abbrev S_ : Shape := ⟨0, ![]⟩
abbrev S2x32x128x128 : Shape := ⟨4, ![2, 32, 128, 128]⟩
abbrev S1x2x32x64x128 : Shape := ⟨5, ![1, 2, 32, 64, 128]⟩
abbrev S2x32x64x128 : Shape := ⟨4, ![2, 32, 64, 128]⟩
abbrev S1x2x32x64x64 : Shape := ⟨5, ![1, 2, 32, 64, 64]⟩
abbrev S2x32x64x64 : Shape := ⟨4, ![2, 32, 64, 64]⟩
abbrev S1x2x32 : Shape := ⟨3, ![1, 2, 32]⟩
abbrev S2x32 : Shape := ⟨2, ![2, 32]⟩
abbrev S2x32x1x1 : Shape := ⟨4, ![2, 32, 1, 1]⟩
abbrev S32768x32x128 : Shape := ⟨3, ![32768, 32, 128]⟩
abbrev S32768x32x1 : Shape := ⟨3, ![32768, 32, 1]⟩
abbrev S1x1x128 : Shape := ⟨3, ![1, 1, 128]⟩

abbrev nBuf : Space → Nat
  | .hbm => 122
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768x4096, .f32⟩
  | .hbm, ⟨2, _⟩ => ⟨S32768x4096, .f32⟩
  | .hbm, ⟨3, _⟩ => ⟨S32768x4096, .f32⟩
  | .hbm, ⟨4, _⟩ => ⟨S32768x32x64, .f32⟩
  | .hbm, ⟨5, _⟩ => ⟨S32768x32, .f32⟩
  | .hbm, ⟨6, _⟩ => ⟨S32768x4096, .f32⟩
  | .hbm, ⟨7, _⟩ => ⟨S128, .f32⟩
  | .hbm, ⟨8, _⟩ => ⟨S2x256x64x32, .f32⟩
  | .hbm, ⟨9, _⟩ => ⟨S2x256x1x32, .f32⟩
  | .hbm, ⟨10, _⟩ => ⟨S2x256x32, .f32⟩
  | .hbm, ⟨11, _⟩ => ⟨S256x2x32, .f32⟩
  | .hbm, ⟨12, _⟩ => ⟨S2x256x64x32x128, .f32⟩
  | .hbm, ⟨13, _⟩ => ⟨S256x2x32x64x128, .f32⟩
  | .hbm, ⟨14, _⟩ => ⟨S2x256x64x32x128, .f32⟩
  | .hbm, ⟨15, _⟩ => ⟨S256x2x32x64x128, .f32⟩
  | .hbm, ⟨16, _⟩ => ⟨S2x256x64x32x128, .f32⟩
  | .hbm, ⟨17, _⟩ => ⟨S256x2x32x64x128, .f32⟩
  | .hbm, ⟨18, _⟩ => ⟨S2x256x64x32x128, .f32⟩
  | .hbm, ⟨19, _⟩ => ⟨S256x2x32x64x128, .f32⟩
  | .hbm, ⟨20, _⟩ => ⟨S2x256x64x32x64, .f32⟩
  | .hbm, ⟨21, _⟩ => ⟨S256x2x32x64x64, .f32⟩
  | .hbm, ⟨22, _⟩ => ⟨S_, .f32⟩
  | .hbm, ⟨23, _⟩ => ⟨S2x32x128x128, .f32⟩
  | .hbm, ⟨24, _⟩ => ⟨S_, .f32⟩
  | .hbm, ⟨25, _⟩ => ⟨S256x2x32x64x128, .f32⟩
  | .hbm, ⟨26, _⟩ => ⟨S_, .i32⟩
  | .hbm, ⟨27, _⟩ => ⟨S256x2x32x64x128, .f32⟩
  | .hbm, ⟨28, _⟩ => ⟨S256x2x32x64x128, .f32⟩
  | .hbm, ⟨29, _⟩ => ⟨S256x2x32x64x128, .f32⟩
  | .hbm, ⟨30, _⟩ => ⟨S256x2x32x64x128, .f32⟩
  | .hbm, ⟨31, _⟩ => ⟨S256x2x32x64x64, .f32⟩
  | .hbm, ⟨32, _⟩ => ⟨S256x2x32, .f32⟩
  | .hbm, ⟨33, _⟩ => ⟨S_, .i32⟩
  | .hbm, ⟨34, _⟩ => ⟨S2x32x128x128, .f32⟩
  | .hbm, ⟨35, _⟩ => ⟨S256x2x32x64x128, .f32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x2x32x64x128, .f32⟩
  | .hbm, ⟨43, _⟩ => ⟨S2x32x64x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x2x32x64x128, .f32⟩
  | .hbm, ⟨49, _⟩ => ⟨S2x32x64x128, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x2x32x64x128, .f32⟩
  | .hbm, ⟨55, _⟩ => ⟨S2x32x64x128, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x2x32x64x128, .f32⟩
  | .hbm, ⟨61, _⟩ => ⟨S2x32x64x128, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x2x32x64x64, .f32⟩
  | .hbm, ⟨67, _⟩ => ⟨S2x32x64x64, .f32⟩
  | .hbm, ⟨68, _⟩ => ⟨S_, .i32⟩
  | .hbm, ⟨69, _⟩ => ⟨S_, .i32⟩
  | .hbm, ⟨70, _⟩ => ⟨S1x2x32, .f32⟩
  | .hbm, ⟨71, _⟩ => ⟨S2x32, .f32⟩
  | .hbm, ⟨72, _⟩ => ⟨S2x32x64x128, .f32⟩
  | .hbm, ⟨73, _⟩ => ⟨S2x32x64x128, .f32⟩
  | .hbm, ⟨74, _⟩ => ⟨S2x32x64x128, .f32⟩
  | .hbm, ⟨75, _⟩ => ⟨S2x32x64x128, .f32⟩
  | .hbm, ⟨76, _⟩ => ⟨S2x32x64x128, .f32⟩
  | .hbm, ⟨77, _⟩ => ⟨S2x32, .f32⟩
  | .hbm, ⟨78, _⟩ => ⟨S2x32x1x1, .f32⟩
  | .hbm, ⟨79, _⟩ => ⟨S2x32x128x128, .f32⟩
  | .hbm, ⟨80, _⟩ => ⟨S2x32x128x128, .f32⟩
  | .hbm, ⟨81, _⟩ => ⟨S2x32x128x128, .f32⟩
  | .hbm, ⟨82, _⟩ => ⟨S2x32x128x128, .f32⟩
  | .hbm, ⟨83, _⟩ => ⟨S1x2x32x64x128, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S256x2x32x64x128, .f32⟩
  | .hbm, ⟨89, _⟩ => ⟨S_, .i32⟩
  | .hbm, ⟨90, _⟩ => ⟨S_, .i32⟩
  | .hbm, ⟨91, _⟩ => ⟨S2x256x64x32x128, .f32⟩
  | .hbm, ⟨92, _⟩ => ⟨S32768x32x128, .f32⟩
  | .hbm, ⟨93, _⟩ => ⟨S32768x32x128, .f32⟩
  | .hbm, ⟨94, _⟩ => ⟨S_, .f32⟩
  | .hbm, ⟨95, _⟩ => ⟨S32768x32, .f32⟩
  | .hbm, ⟨96, _⟩ => ⟨S32768x32x1, .f32⟩
  | .hbm, ⟨97, _⟩ => ⟨S_, .f32⟩
  | .hbm, ⟨98, _⟩ => ⟨S32768x32x1, .f32⟩
  | .hbm, ⟨99, _⟩ => ⟨S32768x32x1, .f32⟩
  | .hbm, ⟨100, _⟩ => ⟨S_, .f32⟩
  | .hbm, ⟨101, _⟩ => ⟨S32768x32x1, .f32⟩
  | .hbm, ⟨102, _⟩ => ⟨S32768x32x1, .f32⟩
  | .hbm, ⟨103, _⟩ => ⟨S32768x32x1, .f32⟩
  | .hbm, ⟨104, _⟩ => ⟨S32768x32x128, .f32⟩
  | .hbm, ⟨105, _⟩ => ⟨S32768x32x128, .f32⟩
  | .hbm, ⟨106, _⟩ => ⟨S1x1x128, .f32⟩
  | .hbm, ⟨107, _⟩ => ⟨S32768x32x128, .f32⟩
  | .hbm, ⟨108, _⟩ => ⟨S32768x32x128, .f32⟩
  | .hbm, ⟨109, _⟩ => ⟨S32768x32x128, .f32⟩
  | .hbm, ⟨110, _⟩ => ⟨S32768x32x128, .f32⟩
  | .hbm, ⟨111, _⟩ => ⟨S32768x32x128, .f32⟩
  | .hbm, ⟨112, _⟩ => ⟨S_, .f32⟩
  | .hbm, ⟨113, _⟩ => ⟨S32768x32x128, .f32⟩
  | .hbm, ⟨114, _⟩ => ⟨S32768x32x128, .f32⟩
  | .hbm, ⟨115, _⟩ => ⟨S_, .f32⟩
  | .hbm, ⟨116, _⟩ => ⟨S32768x32x128, .f32⟩
  | .hbm, ⟨117, _⟩ => ⟨S32768x32x128, .f32⟩
  | .hbm, ⟨118, _⟩ => ⟨S32768x32x128, .f32⟩
  | .hbm, ⟨119, _⟩ => ⟨S32768x32x128, .f32⟩
  | .hbm, ⟨120, _⟩ => ⟨S32768x4096, .f32⟩
  | .hbm, ⟨121, _⟩ => ⟨S32768x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_c : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v16_5 : Ref sig .tc := ⟨.hbm, 32, rfl⟩
abbrev main_v16_6 : Ref sig .tc := ⟨.hbm, 33, rfl⟩
abbrev main_v16_7 : Ref sig .tc := ⟨.hbm, 34, rfl⟩
abbrev main_v16_8 : Ref sig .tc := ⟨.hbm, 35, rfl⟩
abbrev main_while0c_c_12 : Ref sig .tc := ⟨.hbm, 36, rfl⟩
abbrev main_while0c_v37 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_c_1 : Ref sig .tc := ⟨.hbm, 40, rfl⟩
abbrev main_while0b_call0_c_2 : Ref sig .tc := ⟨.hbm, 41, rfl⟩
abbrev main_while0b_call0_v0 : Ref sig .tc := ⟨.hbm, 42, rfl⟩
abbrev main_while0b_v37 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_c_2 : Ref sig .tc := ⟨.hbm, 47, rfl⟩
abbrev main_while0b_call1_v0 : Ref sig .tc := ⟨.hbm, 48, rfl⟩
abbrev main_while0b_v38 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_c_2 : Ref sig .tc := ⟨.hbm, 53, rfl⟩
abbrev main_while0b_call2_v0 : Ref sig .tc := ⟨.hbm, 54, rfl⟩
abbrev main_while0b_v39 : Ref sig .tc := ⟨.hbm, 55, rfl⟩
abbrev main_while0b_call3_c : Ref sig .tc := ⟨.hbm, 56, rfl⟩
abbrev main_while0b_call3_c_0 : Ref sig .tc := ⟨.hbm, 57, rfl⟩
abbrev main_while0b_call3_c_1 : Ref sig .tc := ⟨.hbm, 58, rfl⟩
abbrev main_while0b_call3_c_2 : Ref sig .tc := ⟨.hbm, 59, rfl⟩
abbrev main_while0b_call3_v0 : Ref sig .tc := ⟨.hbm, 60, rfl⟩
abbrev main_while0b_v40 : Ref sig .tc := ⟨.hbm, 61, rfl⟩
abbrev main_while0b_call4_c : Ref sig .tc := ⟨.hbm, 62, rfl⟩
abbrev main_while0b_call4_c_0 : Ref sig .tc := ⟨.hbm, 63, rfl⟩
abbrev main_while0b_call4_c_1 : Ref sig .tc := ⟨.hbm, 64, rfl⟩
abbrev main_while0b_call4_c_2 : Ref sig .tc := ⟨.hbm, 65, rfl⟩
abbrev main_while0b_call4_v0 : Ref sig .tc := ⟨.hbm, 66, rfl⟩
abbrev main_while0b_v41 : Ref sig .tc := ⟨.hbm, 67, rfl⟩
abbrev main_while0b_call5_c : Ref sig .tc := ⟨.hbm, 68, rfl⟩
abbrev main_while0b_call5_c_0 : Ref sig .tc := ⟨.hbm, 69, rfl⟩
abbrev main_while0b_call5_v0 : Ref sig .tc := ⟨.hbm, 70, rfl⟩
abbrev main_while0b_v42 : Ref sig .tc := ⟨.hbm, 71, rfl⟩
abbrev main_while0b_v43 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_v47 : Ref sig .tc := ⟨.hbm, 76, rfl⟩
abbrev main_while0b_v48 : Ref sig .tc := ⟨.hbm, 77, rfl⟩
abbrev main_while0b_v49 : Ref sig .tc := ⟨.hbm, 78, rfl⟩
abbrev main_while0b_v50 : Ref sig .tc := ⟨.hbm, 79, rfl⟩
abbrev main_while0b_v51 : Ref sig .tc := ⟨.hbm, 80, rfl⟩
abbrev main_while0b_v52 : Ref sig .tc := ⟨.hbm, 81, rfl⟩
abbrev main_while0b_v53 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_call6_c_2 : Ref sig .tc := ⟨.hbm, 87, rfl⟩
abbrev main_while0b_v54 : Ref sig .tc := ⟨.hbm, 88, rfl⟩
abbrev main_while0b_c_12 : Ref sig .tc := ⟨.hbm, 89, rfl⟩
abbrev main_while0b_v55 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_cst_1 : Ref sig .tc := ⟨.hbm, 94, rfl⟩
abbrev main_v20 : Ref sig .tc := ⟨.hbm, 95, rfl⟩
abbrev main_v21 : Ref sig .tc := ⟨.hbm, 96, rfl⟩
abbrev main_cst_2 : Ref sig .tc := ⟨.hbm, 97, rfl⟩
abbrev main_v22 : Ref sig .tc := ⟨.hbm, 98, rfl⟩
abbrev main_v23 : Ref sig .tc := ⟨.hbm, 99, rfl⟩
abbrev main_cst_3 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_call7_v0 : Ref sig .tc := ⟨.hbm, 110, rfl⟩
abbrev main_call7_v1 : Ref sig .tc := ⟨.hbm, 111, rfl⟩
abbrev main_call7_cst : Ref sig .tc := ⟨.hbm, 112, rfl⟩
abbrev main_call7_v2 : Ref sig .tc := ⟨.hbm, 113, rfl⟩
abbrev main_call7_v3 : Ref sig .tc := ⟨.hbm, 114, rfl⟩
abbrev main_call7_cst_0 : Ref sig .tc := ⟨.hbm, 115, rfl⟩
abbrev main_call7_v4 : Ref sig .tc := ⟨.hbm, 116, rfl⟩
abbrev main_call7_v5 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩

abbrev nD : Nat := 1
abbrev τ : Topo := Topo.v7x

variable {F : FTy → Type} [FloatOps F]

abbrev main_while0_count : Scf.Loop 32 := ⟨0#32, 256#32, 1#32⟩
-- ==== Kernel5.lean ====
abbrev S32768x2048 : Shape := ⟨2, ![32768, 2048]⟩
abbrev S2048x2048 : Shape := ⟨2, ![2048, 2048]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S2048x2048, .bf16⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x2048 : Shape := ⟨2, ![32768, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S32768x2048 : Shape := ⟨2, ![32768, 2048]⟩
abbrev S2048x1024 : Shape := ⟨2, ![2048, 1024]⟩
abbrev S32768x1024 : Shape := ⟨2, ![32768, 1024]⟩
abbrev S512x2048 : Shape := ⟨2, ![512, 2048]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x1024, .f32⟩
  | .hbm, ⟨2, _⟩ => ⟨S2048x1024, .bf16⟩
  | .hbm, ⟨3, _⟩ => ⟨S32768x1024, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x2048 : Shape := ⟨2, ![32768, 2048]⟩
abbrev S2048x1024 : Shape := ⟨2, ![2048, 1024]⟩
abbrev S32768x1024 : Shape := ⟨2, ![32768, 1024]⟩

abbrev nBuf : Space → Nat
  | .hbm => 3
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x1024, .f32⟩
  | .hbm, ⟨2, _⟩ => ⟨S32768x1024, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x2048, .bf16⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel8.lean ====
abbrev S32768x2048 : Shape := ⟨2, ![32768, 2048]⟩
abbrev S2048x12352 : Shape := ⟨2, ![2048, 12352]⟩
abbrev S32 : Shape := ⟨1, ![32]⟩
abbrev S2048x64 : Shape := ⟨2, ![2048, 64]⟩
abbrev S_ : Shape := ⟨0, ![]⟩
abbrev S2048x128 : Shape := ⟨2, ![2048, 128]⟩
abbrev S64 : Shape := ⟨1, ![64]⟩
abbrev S128 : Shape := ⟨1, ![128]⟩
abbrev S1x128 : Shape := ⟨2, ![1, 128]⟩
abbrev S32768x128 : Shape := ⟨2, ![32768, 128]⟩
abbrev S512x2048 : Shape := ⟨2, ![512, 2048]⟩
abbrev S512x128 : Shape := ⟨2, ![512, 128]⟩
abbrev S32768x32 : Shape := ⟨2, ![32768, 32]⟩

abbrev nBuf : Space → Nat
  | .hbm => 20
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x12352, .f32⟩
  | .hbm, ⟨2, _⟩ => ⟨S32, .f32⟩
  | .hbm, ⟨3, _⟩ => ⟨S32, .f32⟩
  | .hbm, ⟨4, _⟩ => ⟨S2048x12352, .bf16⟩
  | .hbm, ⟨5, _⟩ => ⟨S2048x64, .bf16⟩
  | .hbm, ⟨6, _⟩ => ⟨S_, .i32⟩
  | .hbm, ⟨7, _⟩ => ⟨S_, .bf16⟩
  | .hbm, ⟨8, _⟩ => ⟨S2048x128, .bf16⟩
  | .hbm, ⟨9, _⟩ => ⟨S_, .f32⟩
  | .hbm, ⟨10, _⟩ => ⟨S32, .f32⟩
  | .hbm, ⟨11, _⟩ => ⟨S_, .f32⟩
  | .hbm, ⟨12, _⟩ => ⟨S64, .f32⟩
  | .hbm, ⟨13, _⟩ => ⟨S128, .f32⟩
  | .hbm, ⟨14, _⟩ => ⟨S1x128, .f32⟩
  | .hbm, ⟨15, _⟩ => ⟨S128, .f32⟩
  | .hbm, ⟨16, _⟩ => ⟨S1x128, .f32⟩
  | .hbm, ⟨17, _⟩ => ⟨S32768x128, .f32⟩
  | .hbm, ⟨18, _⟩ => ⟨S32768x32, .f32⟩
  | .hbm, ⟨19, _⟩ => ⟨S32768x32, .f32⟩
  | .local _ .vmem, ⟨0, _⟩ => ⟨S512x2048, .f32⟩
  | .local _ .vmem, ⟨1, _⟩ => ⟨S512x2048, .f32⟩
  | .local _ .vmem, ⟨2, _⟩ => ⟨S2048x128, .bf16⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S32768x2048 : Shape := ⟨2, ![32768, 2048]⟩
abbrev S2048x12352 : Shape := ⟨2, ![2048, 12352]⟩
abbrev S32 : Shape := ⟨1, ![32]⟩
abbrev S32768x12352 : Shape := ⟨2, ![32768, 12352]⟩
abbrev S32768x32 : Shape := ⟨2, ![32768, 32]⟩
abbrev S1x32 : Shape := ⟨2, ![1, 32]⟩
abbrev S_ : Shape := ⟨0, ![]⟩
abbrev S512x64x32 : Shape := ⟨3, ![512, 64, 32]⟩

abbrev nBuf : Space → Nat
  | .hbm => 42
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x12352, .f32⟩
  | .hbm, ⟨2, _⟩ => ⟨S32, .f32⟩
  | .hbm, ⟨3, _⟩ => ⟨S32, .f32⟩
  | .hbm, ⟨4, _⟩ => ⟨S32768x12352, .f32⟩
  | .hbm, ⟨5, _⟩ => ⟨S32768x32, .f32⟩
  | .hbm, ⟨6, _⟩ => ⟨S32768x32, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S32768x32, .f32⟩
  | .hbm, ⟨11, _⟩ => ⟨S32768x32, .f32⟩
  | .hbm, ⟨12, _⟩ => ⟨S_, .f32⟩
  | .hbm, ⟨13, _⟩ => ⟨S32768x32, .f32⟩
  | .hbm, ⟨14, _⟩ => ⟨S32768x32, .f32⟩
  | .hbm, ⟨15, _⟩ => ⟨S32768x32, .f32⟩
  | .hbm, ⟨16, _⟩ => ⟨S32768x32, .f32⟩
  | .hbm, ⟨17, _⟩ => ⟨S32768x32, .i1⟩
  | .hbm, ⟨18, _⟩ => ⟨S32768x32, .f32⟩
  | .hbm, ⟨19, _⟩ => ⟨S32768x32, .f32⟩
  | .hbm, ⟨20, _⟩ => ⟨S32768x32, .f32⟩
  | .hbm, ⟨21, _⟩ => ⟨S32768x32, .f32⟩
  | .hbm, ⟨22, _⟩ => ⟨S32768x32, .f32⟩
  | .hbm, ⟨23, _⟩ => ⟨S32768x32, .f32⟩
  | .hbm, ⟨24, _⟩ => ⟨S32768x32, .f32⟩
  | .hbm, ⟨25, _⟩ => ⟨S32768x32, .f32⟩
  | .hbm, ⟨26, _⟩ => ⟨S1x32, .f32⟩
  | .hbm, ⟨27, _⟩ => ⟨S32768x32, .f32⟩
  | .hbm, ⟨28, _⟩ => ⟨S32768x32, .f32⟩
  | .hbm, ⟨29, _⟩ => ⟨S512x64x32, .f32⟩
  | .hbm, ⟨30, _⟩ => ⟨S_, .f32⟩
  | .hbm, ⟨31, _⟩ => ⟨S_, .f32⟩
  | .hbm, ⟨32, _⟩ => ⟨S512x64x32, .f32⟩
  | .hbm, ⟨33, _⟩ => ⟨S32768x32, .f32⟩
  | .hbm, ⟨34, _⟩ => ⟨S32768x32, .f32⟩
  | .hbm, ⟨35, _⟩ => ⟨S_, .f32⟩
  | .hbm, ⟨36, _⟩ => ⟨S32768x32, .f32⟩
  | .hbm, ⟨37, _⟩ => ⟨S32768x32, .f32⟩
  | .hbm, ⟨38, _⟩ => ⟨S_, .f32⟩
  | .hbm, ⟨39, _⟩ => ⟨S32768x32, .f32⟩
  | .hbm, ⟨40, _⟩ => ⟨S32768x32, .f32⟩
  | .hbm, ⟨41, _⟩ => ⟨S32768x32, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_call0_cst : Ref sig .tc := ⟨.hbm, 30, rfl⟩
abbrev main_call1_call0_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== Kernel9.lean ====
abbrev S32768x1024 : Shape := ⟨2, ![32768, 1024]⟩
abbrev S16384x16 : Shape := ⟨2, ![16384, 16]⟩
abbrev S_ : Shape := ⟨0, ![]⟩
abbrev S16384x96 : Shape := ⟨2, ![16384, 96]⟩
abbrev S16384x128 : Shape := ⟨2, ![16384, 128]⟩
abbrev S16384x112 : Shape := ⟨2, ![16384, 112]⟩
abbrev S32768x512 : Shape := ⟨2, ![32768, 512]⟩
abbrev S2x4x144x16384 : Shape := ⟨4, ![2, 4, 144, 16384]⟩
abbrev S128x1x512 : Shape := ⟨3, ![128, 1, 512]⟩
abbrev S256x1024 : Shape := ⟨2, ![256, 1024]⟩
abbrev S256x128 : Shape := ⟨2, ![256, 128]⟩
abbrev S256x512 : Shape := ⟨2, ![256, 512]⟩
abbrev S1x4x144x256 : Shape := ⟨4, ![1, 4, 144, 256]⟩
abbrev S1x1x512 : Shape := ⟨3, ![1, 1, 512]⟩
abbrev S128 : Shape := ⟨1, ![128]⟩
abbrev S1x128 : Shape := ⟨2, ![1, 128]⟩
abbrev S1x1x128 : Shape := ⟨3, ![1, 1, 128]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩
abbrev S2x4x128x16384 : Shape := ⟨4, ![2, 4, 128, 16384]⟩

abbrev nBuf : Space → Nat
  | .hbm => 19
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S16384x16, .f32⟩
  | .hbm, ⟨2, _⟩ => ⟨S16384x16, .f32⟩
  | .hbm, ⟨3, _⟩ => ⟨S_, .f32⟩
  | .hbm, ⟨4, _⟩ => ⟨S16384x96, .f32⟩
  | .hbm, ⟨5, _⟩ => ⟨S16384x128, .f32⟩
  | .hbm, ⟨6, _⟩ => ⟨S16384x16, .f32⟩
  | .hbm, ⟨7, _⟩ => ⟨S_, .f32⟩
  | .hbm, ⟨8, _⟩ => ⟨S16384x112, .f32⟩
  | .hbm, ⟨9, _⟩ => ⟨S16384x128, .f32⟩
  | .hbm, ⟨10, _⟩ => ⟨S_, .f32⟩
  | .hbm, ⟨11, _⟩ => ⟨S16384x16, .f32⟩
  | .hbm, ⟨12, _⟩ => ⟨S_, .f32⟩
  | .hbm, ⟨13, _⟩ => ⟨S16384x96, .f32⟩
  | .hbm, ⟨14, _⟩ => ⟨S16384x128, .f32⟩
  | .hbm, ⟨15, _⟩ => ⟨S32768x512, .bf16⟩
  | .hbm, ⟨16, _⟩ => ⟨S2x4x144x16384, .bf16⟩
  | .hbm, ⟨17, _⟩ => ⟨S128x1x512, .f32⟩
  | .hbm, ⟨18, _⟩ => ⟨S2x4x128x16384, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x512, .bf16⟩
  | .local _ .vmem, ⟨9, _⟩ => ⟨S256x512, .bf16⟩
  | .local _ .vmem, ⟨10, _⟩ => ⟨S1x4x144x256, .bf16⟩
  | .local _ .vmem, ⟨11, _⟩ => ⟨S1x4x144x256, .bf16⟩
  | .local _ .vmem, ⟨12, _⟩ => ⟨S1x1x512, .f32⟩
  | .local _ .vmem, ⟨13, _⟩ => ⟨S1x1x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x144x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S32768x1024 : Shape := ⟨2, ![32768, 1024]⟩
abbrev S16384x16 : Shape := ⟨2, ![16384, 16]⟩
abbrev S32768x512 : Shape := ⟨2, ![32768, 512]⟩
abbrev S2x16384x4x128 : Shape := ⟨4, ![2, 16384, 4, 128]⟩
abbrev S1x16384x1x16 : Shape := ⟨4, ![1, 16384, 1, 16]⟩
abbrev S2x16384x4x16 : Shape := ⟨4, ![2, 16384, 4, 16]⟩
abbrev S2x16384x4x96 : Shape := ⟨4, ![2, 16384, 4, 96]⟩
abbrev S2x64x256x4x128 : Shape := ⟨5, ![2, 64, 256, 4, 128]⟩
abbrev S_ : Shape := ⟨0, ![]⟩
abbrev S2x64x4x128 : Shape := ⟨4, ![2, 64, 4, 128]⟩
abbrev S2x4x128x16384 : Shape := ⟨4, ![2, 4, 128, 16384]⟩
abbrev S128x1x512 : Shape := ⟨3, ![128, 1, 512]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16384x16, .f32⟩
  | .hbm, ⟨2, _⟩ => ⟨S16384x16, .f32⟩
  | .hbm, ⟨3, _⟩ => ⟨S32768x512, .f32⟩
  | .hbm, ⟨4, _⟩ => ⟨S2x16384x4x128, .f32⟩
  | .hbm, ⟨5, _⟩ => ⟨S32768x512, .f32⟩
  | .hbm, ⟨6, _⟩ => ⟨S2x16384x4x128, .f32⟩
  | .hbm, ⟨7, _⟩ => ⟨S1x16384x1x16, .f32⟩
  | .hbm, ⟨8, _⟩ => ⟨S1x16384x1x16, .f32⟩
  | .hbm, ⟨9, _⟩ => ⟨S2x16384x4x16, .f32⟩
  | .hbm, ⟨10, _⟩ => ⟨S2x16384x4x16, .f32⟩
  | .hbm, ⟨11, _⟩ => ⟨S2x16384x4x16, .f32⟩
  | .hbm, ⟨12, _⟩ => ⟨S2x16384x4x16, .f32⟩
  | .hbm, ⟨13, _⟩ => ⟨S2x16384x4x16, .f32⟩
  | .hbm, ⟨14, _⟩ => ⟨S2x16384x4x16, .f32⟩
  | .hbm, ⟨15, _⟩ => ⟨S2x16384x4x16, .f32⟩
  | .hbm, ⟨16, _⟩ => ⟨S2x16384x4x16, .f32⟩
  | .hbm, ⟨17, _⟩ => ⟨S2x16384x4x16, .f32⟩
  | .hbm, ⟨18, _⟩ => ⟨S2x16384x4x16, .f32⟩
  | .hbm, ⟨19, _⟩ => ⟨S2x16384x4x16, .f32⟩
  | .hbm, ⟨20, _⟩ => ⟨S2x16384x4x16, .f32⟩
  | .hbm, ⟨21, _⟩ => ⟨S2x16384x4x96, .f32⟩
  | .hbm, ⟨22, _⟩ => ⟨S2x16384x4x128, .f32⟩
  | .hbm, ⟨23, _⟩ => ⟨S2x64x256x4x128, .f32⟩
  | .hbm, ⟨24, _⟩ => ⟨S_, .f32⟩
  | .hbm, ⟨25, _⟩ => ⟨S2x64x4x128, .f32⟩
  | .hbm, ⟨26, _⟩ => ⟨S_, .f32⟩
  | .hbm, ⟨27, _⟩ => ⟨S2x64x4x128, .f32⟩
  | .hbm, ⟨28, _⟩ => ⟨S2x64x4x128, .f32⟩
  | .hbm, ⟨29, _⟩ => ⟨S32768x512, .f32⟩
  | .hbm, ⟨30, _⟩ => ⟨S32768x512, .bf16⟩
  | .hbm, ⟨31, _⟩ => ⟨S2x4x128x16384, .f32⟩
  | .hbm, ⟨32, _⟩ => ⟨S2x4x128x16384, .bf16⟩
  | .hbm, ⟨33, _⟩ => ⟨S128x1x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Proof.Ffn.Sweep.lean ====
/-
  What the feed-forward kernel holds after each grid point. The grid runs over 64 blocks of 512 tokens and, inside a
  block, over 11 tiles of 512 hidden columns. The first tile of a block copies the tokens and clears the accumulator, every
  tile adds its share of the second product, and the last tile normalises the rows and stores them.
-/
module

public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Ffn

open Idealize.ShloMosaic
open Cert.KernelIdeal Cert.KernelIdeal.Gen

section Points

variable {F : FTy → Type} [FloatOps F]
variable (m : (ℓ : Loc nD τ sig) → Buf (Elt F) ℓ) (c : Dev nD)

/-- The first tile of a token block keeps a copy of the tokens. -/
theorem tokens_first (t : Fin cfg0.N) (h0 : t.val % 11 = 0) :
    (outsAt0 m c t.val t.isLt).2.1 = k0_pay1 (iblk m c 0 t) := by
  rw [outsAt0_A m c t h0 (by omega)]
  frame_out

/-- Later tiles leave the copy alone. -/
theorem tokens_later (t : Fin cfg0.N) (h0 : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]
    rfl
  · rw [outsAt0_B m c t h0 h1]
    rfl

/-- The first tile adds its share to a cleared accumulator. -/
theorem acc_first (t : Fin cfg0.N) (h0 : t.val % 11 = 0) :
    (outsAt0 m c t.val t.isLt).2.2
      = k0_pay3 (k0_pay1 (iblk m c 0 t)) (iblk m c 1 t) (iblk m c 2 t) k0_pay2 (iblk m c 3 t) := by
  rw [outsAt0_A m c t h0 (by omega)]
  frame_out

/-- A later tile adds its share to what the tile before left. -/
theorem acc_later (t : Fin cfg0.N) (h0 : ¬t.val % 11 = 0) :
    (outsAt0 m c t.val t.isLt).2.2
      = k0_pay3 (outsAt0 m c t.val t.isLt).2.1 (iblk m c 1 t) (iblk m c 2 t)
          (outsAt0 m c (t.val - 1) (Nat.lt_of_le_of_lt (Nat.sub_le _ _) t.isLt)).2.2 (iblk m c 3 t) := by
  rw [tokens_later m c t h0]
  by_cases h1 : t.val % 11 = 10
  · rw [outsAt0_C m c t h0 h1]
    frame_out
    simp only [read_unread_whole]
  · rw [outsAt0_B m c t h0 h1]
    frame_out
    simp only [read_unread_whole]

/-- The last tile stores the normalised rows of the finished accumulator. -/
theorem out_last (t : Fin cfg0.N) (h1 : t.val % 11 = 10) :
    (outsAt0 m c t.val t.isLt).1
      = k0_pay4 (iblk m c 0 t) (outsAt0 m c t.val t.isLt).2.2 (iblk m c 4 t) (iblk m c 5 t) := by
  rw [acc_later m c t (by omega), tokens_later m c t (by omega), outsAt0_C m c t (by omega) h1]
  frame_out
  simp only [read_unread_whole]

end Points

end Cert.Ffn

end
-- ==== Proof.Ffn.Spec.lean ====
/-
  The feed-forward layer on extended reals, one scalar at a time: the two hidden products, the gated hidden value, the
  output product, and the normalised row. Both the tiled kernel and the plain reference are brought to these formulas.
-/
module

public import Idealize.ShloMosaic.Lib.Pointwise

@[expose] public section

noncomputable section

namespace Cert.Ffn

open Idealize.ShloMosaic

abbrev Tokens : Type := (⟨2, ![32768, 2048]⟩ : Shape).Idx → EReal
abbrev WeightsIn : Type := (⟨3, ![2048, 2, 5632]⟩ : Shape).Idx → EReal
abbrev WeightsOut : Type := (⟨2, ![5632, 2048]⟩ : Shape).Idx → EReal
abbrev Gains : Type := (⟨1, ![2048]⟩ : Shape).Idx → EReal

/-- Hidden column `f` of token `r`, before the gate: the product with half `p` of the input weights. -/
def lin (h : Tokens) (w : WeightsIn) (p : Fin 2) (r : Fin 32768) (f : Fin 5632) : EReal :=
  ∑ d : Fin 2048, h (ix2 r d) * w (ix3 d p f)

/-- The gated hidden value. -/
def hid (h : Tokens) (w : WeightsIn) (r : Fin 32768) (f : Fin 5632) : EReal :=
  lin h w 0 r f * Ideal.logistic (lin h w 0 r f) * lin h w 1 r f

/-- The output product. -/
def ffn (h : Tokens) (w : WeightsIn) (o : WeightsOut) (r : Fin 32768) (e : Fin 2048) : EReal :=
  ∑ f : Fin 5632, hid h w r f * o (ix2 f e)

/-- The mean of a row of 2048 entries. -/
def mean (x : Fin 2048 → EReal) : EReal := Ideal.div (∑ d, x d) (Ideal.ofBits .f32 0x45000000#32)

/-- A row normalised to mean zero and variance one, scaled by `g` and shifted by `b`. -/
def normed (x : Fin 2048 → EReal) (g b : EReal) (e : Fin 2048) : EReal :=
  (x e - mean x) * Ideal.rsqrt (mean (fun d => (x d - mean x) * (x d - mean x)) + Ideal.ofBits .f32 0x3727C5AC#32) * g + b

/-- The scaled residual `α h + ½ y`. -/
def resid (h : Tokens) (y : Fin 32768 → Fin 2048 → EReal) (r : Fin 32768) (d : Fin 2048) : EReal :=
  Ideal.ofBits .f32 0x3FB504F3#32 * h (ix2 r d) + Ideal.ofBits .f32 0x3F000000#32 * y r d

/-- The layer's result at token `r`, column `e`. -/
def layer (h : Tokens) (w : WeightsIn) (o : WeightsOut) (g b : Gains) (r : Fin 32768) (e : Fin 2048) : EReal :=
  normed (resid h (ffn h w o) r) (g (ix1 e)) (b (ix1 e)) e

/-- A sum over 5632 hidden columns, tile by tile. -/
theorem sum_tiles (g : Fin 5632 → EReal) :
    ∑ s : Fin 11, ∑ k : Fin 512, g ⟨512 * s.val + k.val, by omega⟩ = ∑ f : Fin 5632, g f := by
  rw [← Finset.sum_product', ← Finset.univ_product_univ.symm]
  refine Fintype.sum_equiv (finProdFinEquiv (m := 11) (n := 512)) _ _ fun x => ?_
  congr 1
  apply Fin.ext
  simp [finProdFinEquiv]
  omega

end Cert.Ffn

end
-- ==== Proof.Ffn.KernelValue.lean ====
/-
  The feed-forward kernel's result at one element, as the formula of `Spec.lean`.
-/
module

public import proofs.«01_k».proof.Proof.Ffn.Sweep
public import proofs.«01_k».proof.Proof.Ffn.Spec

@[expose] public section

set_option maxRecDepth 16384

noncomputable section

namespace Cert.Ffn

open Idealize.ShloMosaic
open Cert.KernelIdeal Cert.KernelIdeal.Gen

section

variable (m : (ℓ : Loc nD τ sig) → Buf (Elt Ideal) ℓ) (c : Dev nD)

/-- Which block each window takes at grid point `t`: row block `t / 11`, hidden tile `t % 11`. -/
theorem blocks (t : Fin cfg0.N) :
    win0_0.index t = ![t.val / 11, 0] ∧ win0_1.index t = ![0, t.val % 11] ∧ win0_2.index t = ![0, 11 + t.val % 11]
      ∧ win0_3.index t = ![t.val % 11, 0] ∧ win0_4.index t = ![0, 0] ∧ win0_5.index t = ![0, 0] :=
  (by decide +kernel : ∀ t : Fin grid0.N,
    win0_0.index t = ![t.val / 11, 0] ∧ win0_1.index t = ![0, t.val % 11] ∧ win0_2.index t = ![0, 11 + t.val % 11]
      ∧ win0_3.index t = ![t.val % 11, 0] ∧ win0_4.index t = ![0, 0] ∧ win0_5.index t = ![0, 0]) t

abbrev tokens : Tokens := m (c.tc.loc main_arg0)
abbrev weightsIn : WeightsIn := m (c.tc.loc main_arg1)
abbrev weightsOut : WeightsOut := m (c.tc.loc main_arg2)
abbrev gains : Gains := m (c.tc.loc main_arg3)
abbrev shifts : Gains := m (c.tc.loc main_arg4)

theorem lt_N (t : Fin cfg0.N) : t.val < 704 := lt_of_lt_of_eq t.isLt N_0

/-- The token that row `a` of the block at point `t` holds, and the hidden column of lane `k` of its tile. -/
def tok (t : Fin cfg0.N) (a : Fin 512) : Fin 32768 := ⟨512 * (t.val / 11) + a.val, by have := lt_N t; omega⟩
def col (t : Fin cfg0.N) (k : Fin 512) : Fin 5632 := ⟨512 * (t.val % 11) + k.val, by omega⟩

theorem tokens_block (t : Fin cfg0.N) (a : Fin 512) (d : Fin 2048) :
    (iblk m c 0 t : Vec Ideal S512x2048 .f32) (ix2 a d) = tokens m c (ix2 (tok t a) d) := by
  blk_ext [iblk, V, (blocks t).1, tok]

theorem gate_block (t : Fin cfg0.N) (d : Fin 2048) (k : Fin 512) :
    (iblk m c 1 t : Vec Ideal S2048x512 .bf16) (ix2 d k) = weightsIn m c (ix3 d 0 (col t k)) := by
  have e : ((cfg0.win 1).blk t).view.emb (ix2 d k) = (ix2 d ⟨512 * (t.val % 11) + k.val, by omega⟩ : S2048x11264.Idx) := by
    blk_ext [(blocks t).2.1, col]
  unfold iblk
  rw [View.read_apply, e]
  entry_read
  pointwise
  blk_ext [col]

theorem up_block (t : Fin cfg0.N) (d : Fin 2048) (k : Fin 512) :
    (iblk m c 2 t : Vec Ideal S2048x512 .bf16) (ix2 d k) = weightsIn m c (ix3 d 1 (col t k)) := by
  have e : ((cfg0.win 2).blk t).view.emb (ix2 d k) = (ix2 d ⟨512 * (11 + t.val % 11) + k.val, by omega⟩ : S2048x11264.Idx) := by
    blk_ext [(blocks t).2.2.1, col]
  unfold iblk
  rw [View.read_apply, e]
  entry_read
  pointwise
  blk_ext [col]

theorem out_block (t : Fin cfg0.N) (k : Fin 512) (e : Fin 2048) :
    (iblk m c 3 t : Vec Ideal S512x2048 .bf16) (ix2 k e) = weightsOut m c (ix2 (col t k) e) := by
  unfold iblk
  entry_read
  pointwise
  blk_ext [(blocks t).2.2.2.1, col]

theorem gains_block (t : Fin cfg0.N) (z : Fin 1) (e : Fin 2048) :
    (iblk m c 4 t : Vec Ideal S1x2048 .f32) (ix2 z e) = gains m c (ix1 e) := by
  have e : ((cfg0.win 4).blk t).view.emb (ix2 z e) = (ix2 z e : S1x2048.Idx) := by
    blk_ext [(blocks t).2.2.2.2.1, col]
  unfold iblk
  rw [View.read_apply, e]
  entry_read
  pointwise
  blk_ext [col]

theorem shifts_block (t : Fin cfg0.N) (z : Fin 1) (e : Fin 2048) :
    (iblk m c 5 t : Vec Ideal S1x2048 .f32) (ix2 z e) = shifts m c (ix1 e) := by
  have e : ((cfg0.win 5).blk t).view.emb (ix2 z e) = (ix2 z e : S1x2048.Idx) := by
    blk_ext [(blocks t).2.2.2.2.2, col]
  unfold iblk
  rw [View.read_apply, e]
  entry_read
  pointwise
  blk_ext [col]

/-- One tile's share of the output product, added to what was there. -/
theorem share_apply (x : FVec Ideal S512x2048 .bf16) (wg wu : FVec Ideal S2048x512 .bf16) (a : FVec Ideal S512x2048 .f32)
    (wo : FVec Ideal S512x2048 .bf16) (r : Fin 512) (e : Fin 2048) :
    k0_pay3 (F := Ideal) x wg wu a wo (ix2 r e) = a (ix2 r e) + ∑ k : Fin 512,
      (∑ d : Fin 2048, x (ix2 r d) * wg (ix2 d k)) * Ideal.logistic (∑ d : Fin 2048, x (ix2 r d) * wg (ix2 d k))
        * (∑ d : Fin 2048, x (ix2 r d) * wu (ix2 d k)) * wo (ix2 k e) := by
  pointwise [k0_pay3]

/-- The closing normalisation. -/
theorem close_apply (x a : FVec Ideal S512x2048 .f32) (g b : FVec Ideal S1x2048 .f32) (r : Fin 512) (e : Fin 2048) :
    k0_pay4 (F := Ideal) x a g b (ix2 r e)
      = normed (fun d => Ideal.ofBits .f32 0x3FB504F3#32 * x (ix2 r d) + Ideal.ofBits .f32 0x3F000000#32 * a (ix2 r d))
          (g (ix2 0 e)) (b (ix2 0 e)) e := by
  pointwise [k0_pay4, normed, mean]

/-- Rounding is the identity on extended reals, so the copy is the block. -/
theorem copy_apply (x : FVec Ideal S512x2048 .f32) (r : Fin 512) (d : Fin 2048) :
    k0_pay1 (F := Ideal) x (ix2 r d) = x (ix2 r d) := by
  pointwise [k0_pay1]

/-- The copy of the tokens, at every point of a block. -/
theorem tokens_apply : ∀ (n : ℕ) (hn : n < cfg0.N) (r : Fin 512) (d : Fin 2048),
    ((outsAt0 m c n hn).2.1 : FVec Ideal S512x2048 .bf16) (ix2 r d) = tokens m c (ix2 (tok ⟨n, hn⟩ r) d) := by
  intro n
  induction n with
  | zero =>
    intro hn r d
    rw [tokens_first m c ⟨0, hn⟩ rfl, ← tokens_block, copy_apply]
  | succ n ih =>
    intro hn r d
    by_cases h0 : (n + 1) % 11 = 0
    · rw [tokens_first m c ⟨n + 1, hn⟩ h0, ← tokens_block, copy_apply]
    · rw [tokens_later m c ⟨n + 1, hn⟩ h0]
      refine (ih _ r d).trans (congrArg (fun q => tokens m c (ix2 q d)) (Fin.ext ?_))
      show 512 * (n / 11) + r.val = 512 * ((n + 1) / 11) + r.val
      omega

/-- The share of hidden tile `t % 11`, in the layer's terms. -/
def share (t : Fin cfg0.N) (i : S512x2048.Idx) : EReal :=
  ∑ k : Fin 512, hid (tokens m c) (weightsIn m c) (tok t (i 0)) (col t k) * weightsOut m c (ix2 (col t k) (i 1))

theorem share_eq (x : FVec Ideal S512x2048 .bf16) (a : FVec Ideal S512x2048 .f32) (t : Fin cfg0.N) (r : Fin 512) (e : Fin 2048)
    (hx : ∀ d, x (ix2 r d) = tokens m c (ix2 (tok t r) d)) :
    k0_pay3 x (iblk m c 1 t) (iblk m c 2 t) a (iblk m c 3 t) (ix2 r e) = a (ix2 r e) + share m c t (ix2 r e) := by
  rw [share_apply]
  refine congrArg (a (ix2 r e) + ·) (Finset.sum_congr rfl fun k _ => ?_)
  rw [out_block]
  simp only [hx, gate_block, up_block]
  rfl

/-- At the last tile the accumulator holds the whole output product. -/
theorem acc_last (t : Fin cfg0.N) (h1 : t.val % 11 = 10) (r : Fin 512) (e : Fin 2048) :
    ((outsAt0 m c t.val t.isLt).2.2 : FVec Ideal S512x2048 .f32) (ix2 r e)
      = ffn (tokens m c) (weightsIn m c) (weightsOut m c) (tok t r) e := by
  have key := Pipeline.eq_sum_fin_of_reset_step_apply_of_flush (M := EReal)
    (fun n h => (outsAt0 m c n h).2.2) 11 (fun _ => 0) (share m c)
    (fun t h0 i => by
      obtain ⟨r, e, rfl⟩ : ∃ (r : Fin 512) (e : Fin 2048), i = ix2 r e := ⟨i 0, i 1, eq_ix2 i⟩
      rw [acc_first m c t h0, share_eq m c _ _ t r e (fun d => by rw [← tokens_first m c t h0, tokens_apply m c _ _ r d])]
      congr 1
      pointwise [k0_pay2])
    (fun t h0 i => by
      obtain ⟨r, e, rfl⟩ : ∃ (r : Fin 512) (e : Fin 2048), i = ix2 r e := ⟨i 0, i 1, eq_ix2 i⟩
      rw [acc_later m c t h0, share_eq m c _ _ t r e (fun d => tokens_apply m c _ _ r d)])
    t h1 (ix2 r e)
  refine key.trans ?_
  rw [zero_add]
  unfold ffn
  rw [← sum_tiles]
  refine Finset.sum_congr rfl fun s _ => Finset.sum_congr rfl fun k _ => ?_
  have hN := lt_N t
  have e1 : ∀ h, tok ⟨11 * (t.val / 11) + s.val, h⟩ r = tok t r := fun h => Fin.ext (by
    show 512 * ((11 * (t.val / 11) + s.val) / 11) + r.val = 512 * (t.val / 11) + r.val
    omega)
  have e2 : ∀ h h', col ⟨11 * (t.val / 11) + s.val, h⟩ k = ⟨512 * s.val + k.val, h'⟩ := fun h h' => Fin.ext (by
    show 512 * ((11 * (t.val / 11) + s.val) % 11) + k.val = 512 * s.val + k.val
    omega)
  show hid _ _ (tok _ r) (col _ k) * weightsOut m c (ix2 (col _ k) e) = _
  rw [e1, e2]

/-- The kernel's result at every element. -/
theorem result_apply (r : Fin 32768) (e : Fin 2048) :
    (Cert.KernelIdeal.Value.G6 m c : FVec Ideal S32768x2048 .f32) (ix2 r e)
      = layer (tokens m c) (weightsIn m c) (weightsOut m c) (gains m c) (shifts m c) r e := by
  have hN : cfg0.N = 704 := N_0
  have hp : Cert.KernelIdeal.Value.pt6Of (ix2 r e) = 11 * (r.val / 512) + 10 := by
    show 11 * (1 * (r.val / 512 - 0) + 1 * (e.val / 2048 - 0)) + 10 = _
    omega
  have hl : Cert.KernelIdeal.Value.loc6Of (ix2 r e) = ix2 (⟨r.val % 512, by omega⟩ : Fin 512) e := by
    funext a
    apply Fin.ext
    match a with
    | ⟨0, _⟩ => rfl
    | ⟨1, _⟩ => show e.val % 2048 = e.val; omega
  have ht : Cert.KernelIdeal.Value.pt6Of (ix2 r e) < cfg0.N := by rw [hp, hN]; omega
  generalize hpt : Cert.KernelIdeal.Value.pt6Of (ix2 r e) = p at hp ht
  have hG : Cert.KernelIdeal.Value.G6 m c (ix2 r e) = (outsAt0 m c p ht).1 (ix2 (⟨r.val % 512, by omega⟩ : Fin 512) e) := by
    subst hpt
    unfold Cert.KernelIdeal.Value.G6
    rw [dif_pos ht, ← Cert.KernelIdeal.Value.outsAt0_sweep, hl]
  have hm : p % 11 = 10 := by omega
  refine hG.trans ?_
  rw [out_last m c ⟨p, ht⟩ hm, close_apply, gains_block, shifts_block]
  have htok : tok ⟨p, ht⟩ ⟨r.val % 512, by omega⟩ = r := Fin.ext (by
    show 512 * (p / 11) + r.val % 512 = r.val
    omega)
  refine congrArg (normed · _ _ e) (funext fun d => ?_)
  rw [tokens_block, acc_last m c ⟨p, ht⟩ hm, htok]
  rfl

end

end Cert.Ffn

end
-- ==== Proof.Ffn.RefValue.lean ====
/-
  The plain reference's result at one element, as the formula of `Spec.lean`.
-/
module

public import proofs.«01_k».proof.Proof.Gen.ReferenceIdeal.Run
public import proofs.«01_k».proof.Proof.Ffn.Spec
public import Idealize.ShloMosaic.Lib.Tactic.CleanTypes

@[expose] public section

set_option maxRecDepth 16384

noncomputable section

namespace Cert.Ffn.Ref

open Idealize.ShloMosaic
open Cert.ReferenceIdeal Cert.ReferenceIdeal.Gen

variable (h : FVec Ideal S32768x2048 .f32) (w : FVec Ideal S2048x2x5632 .f32) (o : FVec Ideal S5632x2048 .f32)
  (g b : FVec Ideal S2048 .f32)

/-- One half of the first product. -/
def half (off : Fin 3 → Nat) (hs : S32768x2x5632.Slices off S32768x1x5632) : FVec Ideal S32768x5632 .f32 :=
  shapeCast _ (extractStridedSlice S32768x1x5632 off
    (Host.dotGeneral (F := Ideal) dot_S32768x2048_S2048x2x5632_S32768x2x5632_1_0_0_12_n_n none h w) hs)
    shapeCasts_S32768x1x5632_S32768x5632

theorem half_0 (r : Fin 32768) (f : Fin 5632) :
    half h w ![0, 0, 0] slices_S32768x2x5632_S32768x1x5632_0_0_0 (ix2 r f) = lin h w 0 r f := by
  pointwise [half, lin]

theorem half_1 (r : Fin 32768) (f : Fin 5632) :
    half h w ![0, 1, 0] slices_S32768x2x5632_S32768x1x5632_0_1_0 (ix2 r f) = lin h w 1 r f := by
  pointwise [half, lin]

/-- The gated hidden values, all of them. -/
def hidden : FVec Ideal S32768x5632 .f32 :=
  let x := half h w ![0, 0, 0] slices_S32768x2x5632_S32768x1x5632_0_0_0
  let one : FVec Ideal S32768x5632 .f32 := broadcastInDim S32768x5632 ![] bcast_S_S32768x5632 (constant S_ .f32 0x3F800000#32)
  mulf (mulf x (Host.divf one (addf one (Host.exp (Host.negf x)))))
    (half h w ![0, 1, 0] slices_S32768x2x5632_S32768x1x5632_0_1_0)

theorem hidden_apply (r : Fin 32768) (f : Fin 5632) : hidden h w (ix2 r f) = hid h w r f := by
  unfold hidden hid
  rw [← half_0, ← half_1]
  generalize half h w ![0, 0, 0] slices_S32768x2x5632_S32768x1x5632_0_0_0 = x
  generalize half h w ![0, 1, 0] slices_S32768x2x5632_S32768x1x5632_0_1_0 = y
  pointwise
  rfl

/-- The scaled residual. -/
def residual : FVec Ideal S32768x2048 .f32 :=
  addf (mulf (broadcastInDim S32768x2048 ![] bcast_S_S32768x2048 (constant S_ .f32 0x3FB504F3#32)) h)
    (mulf (broadcastInDim S32768x2048 ![] bcast_S_S32768x2048 (constant S_ .f32 0x3F000000#32))
      (Host.dotGeneral (F := Ideal) dot_S32768x5632_S5632x2048_S32768x2048_1_0_0_1_n_n none (hidden h w) o))

theorem residual_apply (r : Fin 32768) (d : Fin 2048) :
    residual h w o (ix2 r d) = resid h (ffn h w o) r d := by
  unfold residual resid ffn
  simp only [← hidden_apply]
  generalize hidden h w = x
  pointwise

variable (x : FVec Ideal S32768x2048 .f32)

/-- The rows' means, as a column. -/
def means : FVec Ideal S32768x1 .f32 :=
  Host.divf (broadcastInDim S32768x1 ![0] bcast_S32768_S32768x1_0
      (Host.reduceAdd x (constant S_ .f32 0x00000000#32) reducesTo_S32768x2048_S32768_d1 h_S_))
    (broadcastInDim S32768x1 ![] bcast_S_S32768x1 (constant S_ .f32 0x45000000#32))

theorem means_apply (r : Fin 32768) (z : Fin 1) : means x (ix2 r z) = mean fun d => x (ix2 r d) := by
  pointwise [means, mean]

/-- The rows less their means. -/
def centred : FVec Ideal S32768x2048 .f32 :=
  subf x (broadcastInDim S32768x2048 ![0, 1] bcast_S32768x1_S32768x2048_0_1 (means x))

theorem centred_apply (r : Fin 32768) (d : Fin 2048) :
    centred x (ix2 r d) = x (ix2 r d) - mean fun d => x (ix2 r d) := by
  unfold centred
  rw [← means_apply x r 0]
  generalize means x = y
  pointwise

/-- The normalised rows. -/
def normalised : FVec Ideal S32768x2048 .f32 :=
  addf (mulf (mulf (centred x) (broadcastInDim S32768x2048 ![0, 1] bcast_S32768x1_S32768x2048_0_1
      (Host.rsqrt (addf (means (mulf (centred x) (centred x)))
        (broadcastInDim S32768x1 ![] bcast_S_S32768x1 (constant S_ .f32 0x3727C5AC#32))))))
      (broadcastInDim S32768x2048 ![0, 1] bcast_S1x2048_S32768x2048_0_1 (broadcastInDim S1x2048 ![1] bcast_S2048_S1x2048_1 g)))
    (broadcastInDim S32768x2048 ![0, 1] bcast_S1x2048_S32768x2048_0_1 (broadcastInDim S1x2048 ![1] bcast_S2048_S1x2048_1 b))

theorem normalised_apply (r : Fin 32768) (e : Fin 2048) :
    normalised g b x (ix2 r e) = normed (fun d => x (ix2 r d)) (g (ix1 e)) (b (ix1 e)) e := by
  have hv : means (mulf (centred x) (centred x)) (ix2 r 0)
      = mean fun d => (x (ix2 r d) - mean fun d => x (ix2 r d)) * (x (ix2 r d) - mean fun d => x (ix2 r d)) := by
    rw [means_apply]
    refine congrArg mean (funext fun d => ?_)
    rw [← centred_apply]
    rfl
  unfold normalised normed
  rw [← hv, ← centred_apply]
  generalize means (mulf (centred x) (centred x)) = v
  generalize centred x = y
  pointwise

/-- The reference's composed result is these steps in order, -/
theorem result_steps (m : (ℓ : Loc nD τ sig) → Buf (Elt Ideal) ℓ) (c : Dev nD) :
    Value.res_out0 m c = normalised (m (c.tc.loc main_arg3)) (m (c.tc.loc main_arg4))
      (residual (m (c.tc.loc main_arg0)) (m (c.tc.loc main_arg1)) (m (c.tc.loc main_arg2))) := by
  unfold Value.res_out0 Value.res_main_v36
  rfl

/-- and so the layer's formula at every element. -/
theorem result_apply (m : (ℓ : Loc nD τ sig) → Buf (Elt Ideal) ℓ) (c : Dev nD) (r : Fin 32768) (e : Fin 2048) :
    (Value.res_out0 m c : FVec Ideal S32768x2048 .f32) (ix2 r e)
      = layer (m (c.tc.loc main_arg0)) (m (c.tc.loc main_arg1)) (m (c.tc.loc main_arg2)) (m (c.tc.loc main_arg3))
          (m (c.tc.loc main_arg4)) r e := by
  rw [result_steps, normalised_apply]
  exact congrArg (normed · _ _ e) (funext fun d => residual_apply ..)

end Cert.Ffn.Ref

end
-- ==== Proof.Ffn.Claim.lean ====
/-
  The feed-forward kernel and its reference leave the same result.
-/
module

public import proofs.«01_k».proof.Defs
public import proofs.«01_k».proof.Proof.Ffn.KernelValue
public import proofs.«01_k».proof.Proof.Ffn.RefValue

@[expose] public section

noncomputable section

namespace Cert.Ffn

open Idealize.ShloMosaic Idealize.SL.Sem

theorem agree : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  refine (h c).1.trans ?_
  funext i
  obtain ⟨r, e, rfl⟩ : ∃ (r : Fin 32768) (e : Fin 2048), i = ix2 r e := ⟨i 0, i 1, eq_ix2 i⟩
  refine (Ref.result_apply m' c r e).trans (Eq.trans ?_ (result_apply m c r e).symm)
  obtain ⟨h0, h1, h2, h3, h4⟩ := hagree c
  rw [h0, h1, h2, h3, h4]

end Cert.Ffn

end
-- ==== Proof.Out.KernelValue.lean ====
/-
  The output product of the delta-rule layer with its residual and norm: what the kernel leaves at each element. The grid
  runs over 64 blocks of 512 tokens and, inside a block, over the two halves of the 4096 value columns.
-/
module

public import proofs.«01_k».proof.Proof.Gen.Kernel2Ideal.Value
public import Idealize.ShloMosaic.Lib.Pipeline.ValueKit
public import Idealize.ShloMosaic.Lib.Pipeline.ReadBack
public import proofs.«01_k».proof.Proof.Ffn.Spec

@[expose] public section

set_option maxRecDepth 16384

noncomputable section

namespace Cert.Out

open Idealize.ShloMosaic
open Cert.Kernel2Ideal Cert.Kernel2Ideal.Gen

abbrev Values : Type := (⟨2, ![32768, 4096]⟩ : Shape).Idx → EReal
abbrev Weights : Type := (⟨2, ![4096, 2048]⟩ : Shape).Idx → EReal

/-- The output product. -/
def proj (o : Values) (w : Weights) (r : Fin 32768) (e : Fin 2048) : EReal := ∑ k : Fin 4096, o (ix2 r k) * w (ix2 k e)

/-- The layer's result at token `r`, column `e`: the residual `α h + o w`, normalised. -/
def layer (o : Values) (w : Weights) (h : Ffn.Tokens) (g b : Ffn.Gains) (r : Fin 32768) (e : Fin 2048) : EReal :=
  Ffn.normed (fun d => Ideal.ofBits .f32 0x3FB504F3#32 * h (ix2 r d) + proj o w r d) (g (ix1 e)) (b (ix1 e)) e

/-- A sum over 4096 columns, half by half. -/
theorem sum_halves (g : Fin 4096 → EReal) :
    ∑ s : Fin 2, ∑ k : Fin 2048, g ⟨2048 * s.val + k.val, by omega⟩ = ∑ f : Fin 4096, g f := by
  rw [← Finset.sum_product', ← Finset.univ_product_univ.symm]
  refine Fintype.sum_equiv (finProdFinEquiv (m := 2) (n := 2048)) _ _ fun x => ?_
  congr 1
  apply Fin.ext
  simp [finProdFinEquiv]
  omega

section Points

variable {F : FTy → Type} [FloatOps F]
variable (m : (ℓ : Loc nD τ sig) → Buf (Elt F) ℓ) (c : Dev nD)

theorem acc_first (t : Fin cfg0.N) (h0 : t.val % 2 = 0) :
    (outsAt0 m c t.val t.isLt).2 = k0_pay2 k0_pay1 (iblk m c 0 t) (iblk m c 1 t) := by
  rw [outsAt0_A m c t h0 (by omega)]
  frame_out

theorem acc_later (t : Fin cfg0.N) (h0 : ¬t.val % 2 = 0) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t h0 (by omega)]
  frame_out
  simp only [read_unread_whole]

theorem out_last (t : Fin cfg0.N) (h1 : t.val % 2 = 1) :
    (outsAt0 m c t.val t.isLt).1
      = k0_pay3 (iblk m c 2 t) (outsAt0 m c t.val t.isLt).2 (iblk m c 3 t) (iblk m c 4 t) := by
  rw [acc_later m c t (by omega), outsAt0_B m c t (by omega) h1]
  frame_out
  simp only [read_unread_whole]

end Points

section

variable (m : (ℓ : Loc nD τ sig) → Buf (Elt Ideal) ℓ) (c : Dev nD)

/-- Which block each window takes at grid point `t`: row block `t / 2`, half `t % 2` of the columns. -/
theorem blocks (t : Fin cfg0.N) :
    win0_0.index t = ![t.val / 2, t.val % 2] ∧ win0_1.index t = ![t.val % 2, 0] ∧ win0_2.index t = ![t.val / 2, 0]
      ∧ win0_3.index t = ![0, 0] ∧ win0_4.index t = ![0, 0] :=
  (by decide +kernel : ∀ t : Fin grid0.N,
    win0_0.index t = ![t.val / 2, t.val % 2] ∧ win0_1.index t = ![t.val % 2, 0] ∧ win0_2.index t = ![t.val / 2, 0]
      ∧ win0_3.index t = ![0, 0] ∧ win0_4.index t = ![0, 0]) t

abbrev values : Values := m (c.tc.loc main_arg0)
abbrev weights : Weights := m (c.tc.loc main_arg1)
abbrev tokens : Ffn.Tokens := m (c.tc.loc main_arg2)
abbrev gains : Ffn.Gains := m (c.tc.loc main_arg3)
abbrev shifts : Ffn.Gains := m (c.tc.loc main_arg4)

theorem lt_N (t : Fin cfg0.N) : t.val < 128 := lt_of_lt_of_eq t.isLt N_0

def tok (t : Fin cfg0.N) (a : Fin 512) : Fin 32768 := ⟨512 * (t.val / 2) + a.val, by have := lt_N t; omega⟩
def col (t : Fin cfg0.N) (k : Fin 2048) : Fin 4096 := ⟨2048 * (t.val % 2) + k.val, by omega⟩

theorem values_block (t : Fin cfg0.N) (a : Fin 512) (k : Fin 2048) :
    (iblk m c 0 t : Vec Ideal S512x2048 .bf16) (ix2 a k) = values m c (ix2 (tok t a) (col t k)) := by
  unfold iblk
  entry_read
  pointwise
  blk_ext [(blocks t).1, col, tok]

theorem weights_block (t : Fin cfg0.N) (k : Fin 2048) (e : Fin 2048) :
    (iblk m c 1 t : Vec Ideal S2048x2048 .bf16) (ix2 k e) = weights m c (ix2 (col t k) e) := by
  unfold iblk
  entry_read
  pointwise
  blk_ext [(blocks t).2.1, col]

theorem tokens_block (t : Fin cfg0.N) (a : Fin 512) (d : Fin 2048) :
    (iblk m c 2 t : Vec Ideal S512x2048 .f32) (ix2 a d) = tokens m c (ix2 (tok t a) d) := by
  blk_ext [iblk, V, (blocks t).2.2.1, tok]

theorem gains_block (t : Fin cfg0.N) (z : Fin 1) (e : Fin 2048) :
    (iblk m c 3 t : Vec Ideal S1x2048 .f32) (ix2 z e) = gains m c (ix1 e) := by
  have e' : ((cfg0.win 3).blk t).view.emb (ix2 z e) = (ix2 z e : S1x2048.Idx) := by
    blk_ext [(blocks t).2.2.2.1]
  unfold iblk
  rw [View.read_apply, e']
  entry_read
  pointwise
  blk_ext []

theorem shifts_block (t : Fin cfg0.N) (z : Fin 1) (e : Fin 2048) :
    (iblk m c 4 t : Vec Ideal S1x2048 .f32) (ix2 z e) = shifts m c (ix1 e) := by
  have e' : ((cfg0.win 4).blk t).view.emb (ix2 z e) = (ix2 z e : S1x2048.Idx) := by
    blk_ext [(blocks t).2.2.2.2]
  unfold iblk
  rw [View.read_apply, e']
  entry_read
  pointwise
  blk_ext []

/-- One half's share of the product, added to what was there. -/
theorem share_apply (a : FVec Ideal S512x2048 .f32) (x : FVec Ideal S512x2048 .bf16) (w : FVec Ideal S2048x2048 .bf16)
    (r : Fin 512) (e : Fin 2048) :
    k0_pay2 (F := Ideal) a x w (ix2 r e) = a (ix2 r e) + ∑ k : Fin 2048, x (ix2 r k) * w (ix2 k e) := by
  pointwise [k0_pay2]

/-- The closing normalisation. -/
theorem close_apply (x a : FVec Ideal S512x2048 .f32) (g b : FVec Ideal S1x2048 .f32) (r : Fin 512) (e : Fin 2048) :
    k0_pay3 (F := Ideal) x a g b (ix2 r e)
      = Ffn.normed (fun d => Ideal.ofBits .f32 0x3FB504F3#32 * x (ix2 r d) + a (ix2 r d)) (g (ix2 0 e)) (b (ix2 0 e)) e := by
  pointwise [k0_pay3, Ffn.normed, Ffn.mean]

def share (t : Fin cfg0.N) (i : S512x2048.Idx) : EReal :=
  ∑ k : Fin 2048, values m c (ix2 (tok t (i 0)) (col t k)) * weights m c (ix2 (col t k) (i 1))

theorem share_eq (a : FVec Ideal S512x2048 .f32) (t : Fin cfg0.N) (r : Fin 512) (e : Fin 2048) :
    k0_pay2 a (iblk m c 0 t) (iblk m c 1 t) (ix2 r e) = a (ix2 r e) + share m c t (ix2 r e) := by
  rw [share_apply]
  refine congrArg (a (ix2 r e) + ·) (Finset.sum_congr rfl fun k _ => ?_)
  rw [values_block, weights_block]
  rfl

/-- At the second half the accumulator holds the whole product. -/
theorem acc_last (t : Fin cfg0.N) (h1 : t.val % 2 = 1) (r : Fin 512) (e : Fin 2048) :
    ((outsAt0 m c t.val t.isLt).2 : FVec Ideal S512x2048 .f32) (ix2 r e)
      = proj (values m c) (weights m c) (tok t r) e := by
  have key := Pipeline.eq_sum_fin_of_reset_step_apply_of_flush (M := EReal)
    (fun n h => (outsAt0 m c n h).2) 2 (fun _ => 0) (share m c)
    (fun t h0 i => by
      obtain ⟨r, e, rfl⟩ : ∃ (r : Fin 512) (e : Fin 2048), i = ix2 r e := ⟨i 0, i 1, eq_ix2 i⟩
      rw [acc_first m c t h0, share_eq]
      congr 1
      pointwise [k0_pay1])
    (fun t h0 i => by
      obtain ⟨r, e, rfl⟩ : ∃ (r : Fin 512) (e : Fin 2048), i = ix2 r e := ⟨i 0, i 1, eq_ix2 i⟩
      rw [acc_later m c t h0, share_eq])
    t h1 (ix2 r e)
  refine key.trans ?_
  rw [zero_add]
  unfold proj
  rw [← sum_halves]
  refine Finset.sum_congr rfl fun s _ => Finset.sum_congr rfl fun k _ => ?_
  have hN := lt_N t
  have e1 : ∀ h, tok ⟨2 * (t.val / 2) + s.val, h⟩ r = tok t r := fun h => Fin.ext (by
    show 512 * ((2 * (t.val / 2) + s.val) / 2) + r.val = 512 * (t.val / 2) + r.val
    omega)
  have e2 : ∀ h h', col ⟨2 * (t.val / 2) + s.val, h⟩ k = ⟨2048 * s.val + k.val, h'⟩ := fun h h' => Fin.ext (by
    show 2048 * ((2 * (t.val / 2) + s.val) % 2) + k.val = 2048 * s.val + k.val
    omega)
  show values m c (ix2 (tok _ r) (col _ k)) * weights m c (ix2 (col _ k) e) = _
  rw [e1, e2]

/-- The kernel's result at every element. -/
theorem result_apply (r : Fin 32768) (e : Fin 2048) :
    (Cert.Kernel2Ideal.Value.G5 m c : FVec Ideal S32768x2048 .f32) (ix2 r e)
      = layer (values m c) (weights m c) (tokens m c) (gains m c) (shifts m c) r e := by
  have hN : cfg0.N = 128 := N_0
  have hp : Cert.Kernel2Ideal.Value.pt5Of (ix2 r e) = 2 * (r.val / 512) + 1 := by
    show 2 * (1 * (r.val / 512 - 0) + 1 * (e.val / 2048 - 0)) + 1 = _
    omega
  have hl : Cert.Kernel2Ideal.Value.loc5Of (ix2 r e) = ix2 (⟨r.val % 512, by omega⟩ : Fin 512) e := by
    funext a
    apply Fin.ext
    match a with
    | ⟨0, _⟩ => rfl
    | ⟨1, _⟩ => show e.val % 2048 = e.val; omega
  have ht : Cert.Kernel2Ideal.Value.pt5Of (ix2 r e) < cfg0.N := by rw [hp, hN]; omega
  generalize hpt : Cert.Kernel2Ideal.Value.pt5Of (ix2 r e) = p at hp ht
  have hG : Cert.Kernel2Ideal.Value.G5 m c (ix2 r e) = (outsAt0 m c p ht).1 (ix2 (⟨r.val % 512, by omega⟩ : Fin 512) e) := by
    subst hpt
    unfold Cert.Kernel2Ideal.Value.G5
    rw [dif_pos ht, ← Cert.Kernel2Ideal.Value.outsAt0_sweep, hl]
  have hm : p % 2 = 1 := by omega
  refine hG.trans ?_
  rw [out_last m c ⟨p, ht⟩ hm, close_apply, gains_block, shifts_block]
  have htok : tok ⟨p, ht⟩ ⟨r.val % 512, by omega⟩ = r := Fin.ext (by
    show 512 * (p / 2) + r.val % 512 = r.val
    omega)
  refine congrArg (Ffn.normed · _ _ e) (funext fun d => ?_)
  rw [tokens_block, acc_last m c ⟨p, ht⟩ hm, htok]

end

end Cert.Out

end
-- ==== Proof.Out.Claim.lean ====
/-
  The output product with residual and norm: the kernel and its reference leave the same result.
-/
module

public import proofs.«01_k».proof.Defs
public import proofs.«01_k».proof.Proof.Gen.Reference2Ideal.Run
public import proofs.«01_k».proof.Proof.Ffn.RefValue
public import proofs.«01_k».proof.Proof.Out.KernelValue

@[expose] public section

set_option maxRecDepth 16384

noncomputable section

namespace Cert.Out

open Idealize.ShloMosaic Idealize.SL.Sem

section
open Cert.Reference2Ideal Cert.Reference2Ideal.Gen

/-- The reference's scaled residual. -/
def residual (o : FVec Ideal S32768x4096 .f32) (w : FVec Ideal S4096x2048 .f32) (h : FVec Ideal S32768x2048 .f32) :
    FVec Ideal S32768x2048 .f32 :=
  addf (mulf (broadcastInDim S32768x2048 ![] bcast_S_S32768x2048 (constant S_ .f32 0x3FB504F3#32)) h)
    (Host.dotGeneral (F := Ideal) dot_S32768x4096_S4096x2048_S32768x2048_1_0_0_1_n_n none o w)

theorem residual_apply (o : FVec Ideal S32768x4096 .f32) (w : FVec Ideal S4096x2048 .f32) (h : FVec Ideal S32768x2048 .f32)
    (r : Fin 32768) (d : Fin 2048) :
    residual o w h (ix2 r d) = Ideal.ofBits .f32 0x3FB504F3#32 * h (ix2 r d) + proj o w r d := by
  pointwise [residual, proj]

/-- The reference run, its result as the residual normalised. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v27) = Ffn.Ref.normalised (m (c.tc.loc main_arg3)) (m (c.tc.loc main_arg4))
        (residual (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans rfl, (h c).2⟩) (Cert.Reference2Ideal.Value.run (F := Ideal) m ρ)

end

theorem agree : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (reference_run m' ρ')
  refine (h c).1.trans ?_
  funext i
  obtain ⟨r, e, rfl⟩ : ∃ (r : Fin 32768) (e : Fin 2048), i = ix2 r e := ⟨i 0, i 1, eq_ix2 i⟩
  refine (Ffn.Ref.normalised_apply _ _ _ r e).trans (Eq.trans ?_ (result_apply m c r e).symm)
  simp only [residual_apply]
  obtain ⟨h0, h1, h2, h3, h4⟩ := hagree c
  rw [h0, h1, h2, h3, h4]
  rfl

end Cert.Out

end
-- ==== Proof.Gate.KernelValue.lean ====
/-
  The output gate's projection: what the kernel leaves at each element. The grid runs over 64 blocks of 512 tokens and,
  inside a block, over the two halves of the gate's 4096 columns, which are columns 8192 to 12288 of the weights.
-/
module

public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Gate

open Idealize.ShloMosaic
open Cert.Kernel3Ideal Cert.Kernel3Ideal.Gen

abbrev Tokens : Type := (⟨2, ![32768, 2048]⟩ : Shape).Idx → EReal
abbrev Weights : Type := (⟨2, ![2048, 12352]⟩ : Shape).Idx → EReal

/-- The gate's column `e` is column `8192 + e` of the weights. -/
def gateCol (e : Fin 4096) : Fin 12352 := ⟨8192 + e.val, by omega⟩

/-- The projection at token `r`, column `e`. -/
def proj (h : Tokens) (w : Weights) (r : Fin 32768) (e : Fin 4096) : EReal :=
  ∑ d : Fin 2048, h (ix2 r d) * w (ix2 d (gateCol e))

section Points

variable {F : FTy → Type} [FloatOps F]
variable (m : (ℓ : Loc nD τ sig) → Buf (Elt F) ℓ) (c : Dev nD)

theorem copy_first (t : Fin cfg0.N) (h0 : t.val % 2 = 0) :
    (outsAt0 m c t.val t.isLt).2 = k0_pay1 (iblk m c 0 t) := by
  rw [outsAt0_A m c t h0]
  frame_out

theorem copy_later (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl

/-- At every point the result block is the product of the copied tokens and the point's block of weights. -/
theorem out_point (t : Fin cfg0.N) :
    (outsAt0 m c t.val t.isLt).1 = k0_pay2 (outsAt0 m c t.val t.isLt).2 (X0_1 m c t) := by
  by_cases h0 : t.val % 2 = 0
  · rw [copy_first m c t h0, outsAt0_A m c t h0]
    frame_out
  · rw [copy_later m c t h0, outsAt0_B m c t h0]
    frame_out
    simp only [read_unread_whole]

end Points

section

variable (m : (ℓ : Loc nD τ sig) → Buf (Elt Ideal) ℓ) (c : Dev nD)

theorem blocks (t : Fin cfg0.N) :
    win0_0.index t = ![t.val / 2, 0] ∧ win0_1.index t = ![0, 4 + t.val % 2] :=
  (by decide +kernel : ∀ t : Fin grid0.N, win0_0.index t = ![t.val / 2, 0] ∧ win0_1.index t = ![0, 4 + t.val % 2]) t

abbrev tokens : Tokens := m (c.tc.loc main_arg0)
abbrev weights : Weights := m (c.tc.loc main_arg1)

theorem lt_N (t : Fin cfg0.N) : t.val < 128 := lt_of_lt_of_eq t.isLt N_0

def tok (t : Fin cfg0.N) (a : Fin 512) : Fin 32768 := ⟨512 * (t.val / 2) + a.val, by have := lt_N t; omega⟩
def col (t : Fin cfg0.N) (k : Fin 2048) : Fin 12352 := ⟨2048 * (4 + t.val % 2) + k.val, by omega⟩

theorem tokens_block (t : Fin cfg0.N) (a : Fin 512) (d : Fin 2048) :
    (iblk m c 0 t : Vec Ideal S512x2048 .f32) (ix2 a d) = tokens m c (ix2 (tok t a) d) := by
  blk_ext [iblk, V, (blocks t).1, tok]

theorem weights_block (t : Fin cfg0.N) (d k : Fin 2048) :
    (X0_1 m c t : Vec Ideal S2048x2048 .bf16) (ix2 d k) = weights m c (ix2 d (col t k)) := by
  unfold X0_1 Pipeline.Window.fill
  rw [dif_pos (moved0_1 t (ix2 d k))]
  unfold iblk
  entry_read
  pointwise
  blk_ext [(blocks t).2, col]

theorem copy_apply (x : FVec Ideal S512x2048 .f32) (r : Fin 512) (d : Fin 2048) :
    k0_pay1 (F := Ideal) x (ix2 r d) = x (ix2 r d) := by
  pointwise [k0_pay1]

theorem prod_apply (x : FVec Ideal S512x2048 .bf16) (w : FVec Ideal S2048x2048 .bf16) (r : Fin 512) (e : Fin 2048) :
    k0_pay2 (F := Ideal) x w (ix2 r e) = ∑ d : Fin 2048, x (ix2 r d) * w (ix2 d e) := by
  pointwise [k0_pay2]

/-- At every point the copy holds the point's block of tokens: the second half's point has the same rows. -/
theorem copied (t : Fin cfg0.N) (r : Fin 512) (d : Fin 2048) :
    ((outsAt0 m c t.val t.isLt).2 : FVec Ideal S512x2048 .bf16) (ix2 r d) = tokens m c (ix2 (tok t r) d) := by
  by_cases h0 : t.val % 2 = 0
  · rw [copy_first m c t h0, copy_apply, tokens_block]
  · rw [copy_later m c t h0]
    have hp : t.val - 1 < cfg0.N := Nat.lt_of_le_of_lt (Nat.sub_le _ _) t.isLt
    rw [copy_first m c ⟨t.val - 1, hp⟩ (by show (t.val - 1) % 2 = 0; omega), copy_apply, tokens_block]
    have e : tok ⟨t.val - 1, hp⟩ r = tok t r := Fin.ext (by
      show 512 * ((t.val - 1) / 2) + r.val = 512 * (t.val / 2) + r.val
      omega)
    rw [e]

/-- The kernel's result at every element. -/
theorem result_apply (r : Fin 32768) (e : Fin 4096) :
    (Cert.Kernel3Ideal.Value.G2 m c : FVec Ideal S32768x4096 .f32) (ix2 r e) = proj (tokens m c) (weights m c) r e := by
  have hN : cfg0.N = 128 := N_0
  have hp : Cert.Kernel3Ideal.Value.pt2Of (ix2 r e) = 2 * (r.val / 512) + e.val / 2048 := by
    show 2 * (r.val / 512 - 0) + 1 * (e.val / 2048 - 0) = _
    omega
  have hl : Cert.Kernel3Ideal.Value.loc2Of (ix2 r e)
      = ix2 (⟨r.val % 512, by omega⟩ : Fin 512) (⟨e.val % 2048, by omega⟩ : Fin 2048) := by
    funext a
    apply Fin.ext
    match a with
    | ⟨0, _⟩ => rfl
    | ⟨1, _⟩ => rfl
  have ht : Cert.Kernel3Ideal.Value.pt2Of (ix2 r e) < cfg0.N := by rw [hp, hN]; omega
  generalize hpt : Cert.Kernel3Ideal.Value.pt2Of (ix2 r e) = p at hp ht
  have hG : Cert.Kernel3Ideal.Value.G2 m c (ix2 r e)
      = (outsAt0 m c p ht).1 (ix2 (⟨r.val % 512, by omega⟩ : Fin 512) (⟨e.val % 2048, by omega⟩ : Fin 2048)) := by
    subst hpt
    unfold Cert.Kernel3Ideal.Value.G2
    rw [dif_pos ht, ← Cert.Kernel3Ideal.Value.outsAt0_sweep, hl]
  refine hG.trans ?_
  rw [out_point m c ⟨p, ht⟩]
  have htok : tok ⟨p, ht⟩ ⟨r.val % 512, by omega⟩ = r := Fin.ext (by
    show 512 * (p / 2) + r.val % 512 = r.val
    omega)
  have hcol : col ⟨p, ht⟩ ⟨e.val % 2048, by omega⟩ = gateCol e := Fin.ext (by
    show 2048 * (4 + p % 2) + e.val % 2048 = 8192 + e.val
    omega)
  refine (prod_apply _ _ _ _).trans (Eq.trans (b := (_ : EReal)) (Finset.sum_congr rfl fun d _ => ?_) rfl)
  rw [copied, weights_block, htok, hcol]

end

end Cert.Gate

end
-- ==== Proof.Gate.Claim.lean ====
/-
  The output gate's projection: the kernel and its reference leave the same result.
-/
module

public import proofs.«01_k».proof.Defs
public import proofs.«01_k».proof.Proof.Gen.Reference3Ideal.Run
public import proofs.«01_k».proof.Proof.Gate.KernelValue

@[expose] public section

set_option maxRecDepth 16384

noncomputable section

namespace Cert.Gate

open Idealize.ShloMosaic Idealize.SL.Sem

section
open Cert.Reference3Ideal Cert.Reference3Ideal.Gen

/-- The reference projects onto all 12352 columns and keeps the gate's. -/
theorem reference_apply (h : FVec Ideal S32768x2048 .f32) (w : FVec Ideal S2048x12352 .f32) (r : Fin 32768) (e : Fin 4096) :
    extractStridedSlice S32768x4096 ![0, 8192]
        (Host.dotGeneral (F := Ideal) dot_S32768x2048_S2048x12352_S32768x12352_1_0_0_1_n_n none h w)
        slices_S32768x12352_S32768x4096_0_8192 (ix2 r e)
      = proj h w r e := by
  pointwise [proj, gateCol]

end

theorem agree : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩)
    (Cert.Reference3Ideal.Value.run (F := Ideal) m' ρ')
  refine (h c).1.trans ?_
  funext i
  obtain ⟨r, e, rfl⟩ : ∃ (r : Fin 32768) (e : Fin 4096), i = ix2 r e := ⟨i 0, i 1, eq_ix2 i⟩
  refine (reference_apply _ _ r e).trans (Eq.trans ?_ (result_apply m c r e).symm)
  obtain ⟨h0, h1⟩ := hagree c
  rw [h0, h1]

end Cert.Gate

end
-- ==== Proof.Rec.Trip.lean ====
module

public import proofs.«01_k».proof.Proof.Gen.Kernel4Ideal.Loops

@[expose] public section

set_option maxRecDepth 16384

/-! # What one trip of the loop writes, head by head

A trip treats two chunks of 64 tokens; for each it computes, for each of 16 heads, the values the chunk adds, its result and
its next state, by the same operations. -/

noncomputable section

namespace Cert.Kernel4Ideal.Rec

open Idealize.ShloMosaic Idealize.ShloMosaic.TcCoe Idealize.ShloMosaic.Tactic Cert.Kernel4Ideal.Gen

variable {F : FTy → Type} [FloatOps F]

/-- What a trip reads of its blocks: for each half (a chunk) and each head the 64 rows of each operand, and the row of
decays at the chunk's last token; besides, the head group's number, the lane numbers and the norm's weights. -/
structure Reads (F : FTy → Type) where
  hg : BitVec 32
  lanes : IVec S1x128 32
  nw : Vec F S1x128 .f32
  u : Fin 2 → Fin 16 → Vec F S64x128 .f32
  w : Fin 2 → Fin 16 → Vec F S64x128 .bf16
  q : Fin 2 → Fin 16 → Vec F S64x128 .bf16
  k : Fin 2 → Fin 16 → Vec F S64x128 .bf16
  a : Fin 2 → Fin 16 → Vec F S64x128 .bf16
  g : Fin 2 → Vec F S1x128 .f32
  z : Fin 2 → Fin 16 → Vec F S64x128 .f32

/-- The heads' states as loaded. -/
abbrev States (F : FTy → Type) : Type := Fin 16 → Vec F S1x128x128 .f32

/-- The heads' right factors as loaded: 64 rows for each half. -/
abbrev Rights (F : FTy → Type) : Type := Fin 16 → Vec F S1x128x128 .bf16

namespace Reads

variable (T : Reads F) (p : Fin 2) (S : States F) (P : Rights F) (h : Fin 16)

/-- What the chunk adds: the values less what the state gives for the keys. -/
def fresh : FVec F S64x128 .bf16 := k0_pay47 (k0_pay23 (k0_pay17 (S h)) (T.w p h) (T.q p h)) (T.u p h)

/-- The lane of the head's decay. -/
def lane : BitVec 32 := Scalar.addi (Scalar.addi 32#32 (Scalar.muli T.hg 16#32)) (BitVec.ofNat 32 h.val)

/-- The head's decay at the chunk's last token, picked from its row. -/
def last : FVec F S1x1 .f32 :=
  shapeCast S1x1 (multiReduction .add [1] S1
    (select (cmpi .eq T.lanes (broadcast S1x128 (T.lane h))) (shapeCast S1x128 (T.g p) shapeCasts_S1x128_S1x128)
      (broadcast S1x128 (Scalar.ofBits .f32 0x00000000#32)))
    0x00000000#32 reduces_S1x128_S1 (.inl rfl) rfl) shapeCasts_S1_S1x1

/-- The state after the chunk. -/
def next : FVec F S1x128x128 .f32 :=
  shapeCast S1x128x128 (addf
    (mulf (k0_pay17 (S h)) (broadcastTo S128x128 (exp (T.last p h)) broadcasts_S1x1_S128x128))
    (matmul dot_S64x128_S64x128_S128x128_0_0_1_1_n_n none (shapeCast S64x128 (T.k p h) shapeCasts_S64x128_S64x128)
      (T.fresh p S h) (constant S128x128 .f32 0x00000000#32)))
    shapeCasts_S128x128_S1x128x128

/-- What the chunk puts out, before the norm. -/
def out : FVec F S64x128 .f32 :=
  k0_pay92 (k0_pay23 (k0_pay17 (S h)) (T.w p h) (T.q p h)) (T.a p h) (P h)

/-- The chunk's result. -/
def res : FVec F S64x128 .bf16 := k0_pay136 (k0_pay3 T.nw) (T.out p S P h) (T.z p h)

/-- The state's stores, last head first. -/
def stateStores : List (View.Piece (Elt F) S16x128x128 .f32) :=
  List.ofFn fun j : Fin 16 => ⟨Rect.unit ![15 - j.val, 0, 0] S1x128x128.size
    ((by decide : ∀ j : Fin 16, ∀ a, (![15 - j.val, 0, 0] : Fin 3 → ℕ) a + S1x128x128.size a ≤ S16x128x128.size a) j),
    T.next p S j.rev⟩

/-- The right factors' stores, last head first. -/
def rightStores : List (View.Piece (Elt F) S16x128x128 .bf16) :=
  List.ofFn fun j : Fin 16 => ⟨Rect.unit ![15 - j.val, 64 * p.val, 0] S1x64x128.size
    ((by decide : ∀ (p : Fin 2) (j : Fin 16), ∀ a, (![15 - j.val, 64 * p.val, 0] : Fin 3 → ℕ) a + S1x64x128.size a ≤ S16x128x128.size a) p j),
    k0_pay70 (T.fresh p S j.rev)⟩

end Reads

/-- Where half `p` of trip `k` finds head `h`'s columns of its 64 rows. -/
def off (k : Fin k0_t1_loop.trips) (p : Fin 2) (h : Fin 16) : Fin 2 → ℕ :=
  ![(k0_off2 k (BitVec.ofNat 32 (64 * p.val))) 0, 128 * h.val]

theorem off_inb : ∀ (k : Fin k0_t1_loop.trips) (p : Fin 2) (h : Fin 16), ∀ a, off k p h a + S64x128.size a ≤ S256x2048.size a := by
  decide +kernel

/-- The result's stores, last head first. -/
def Reads.resStores (T : Reads F) (k : Fin k0_t1_loop.trips) (p : Fin 2) (S : States F) (P : Rights F) :
    List (View.Piece (Elt F) S256x2048 .bf16) :=
  List.ofFn fun j : Fin 16 => ⟨Rect.unit (off k p j.rev) S64x128.size (off_inb k p j.rev), T.res p S P j.rev⟩

theorem head_inb : ∀ h : Fin 16, ∀ a, (![h.val, 0, 0] : Fin 3 → ℕ) a + S1x128x128.size a ≤ S16x128x128.size a := by
  decide

/-- Head by head, what a buffer of 16 square matrices holds. -/
def heads {e : EltTy} (v : View sig .tc .vmem S16x128x128 e) (f : BufTy.Contents (Elt F) v.ty) (h : Fin 16) : Vec F S1x128x128 e :=
  View.readAt (Elt F) v (Rect.unit (s := S16x128x128) ![h.val, 0, 0] S1x128x128.size (head_inb h)).toLoadRect f

/-- Head by head, 64 rows of a block. -/
def rows {e : EltTy} (v : View sig .tc .vmem S256x2048 e) (f : BufTy.Contents (Elt F) v.ty) (k : Fin k0_t1_loop.trips)
    (p : Fin 2) (h : Fin 16) : Vec F S64x128 e :=
  View.readAt (Elt F) v (Rect.unit (s := S256x2048) (off k p h) S64x128.size (off_inb k p h)).toLoadRect f

variable (𝒱 : Variants) (c : Dev nD) (bd : Option 𝒱.V) (i : grid0.Coords) (arg3 : Memref sig .tc .vmem S256x2048 .f32) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x128 .f32) (harg8 : arg8.IsWhole) (arg9 : Memref sig .tc .vmem S256x2048 .f32) (harg9 : arg9.IsWhole) (arg10 : Memref sig .tc .vmem S1x128 .f32) (harg10 : arg10.IsWhole) (arg11 : Memref sig .tc .vmem S256x2048 .bf16) (harg11 : arg11.IsWhole) (arg12 : Memref sig .tc .vmem S16x128x128 .f32) (harg12 : arg12.IsWhole) (arg13 : Memref sig .tc .vmem S16x128x128 .bf16) (harg13 : arg13.IsWhole) (arg1 : BitVec 32) (v3 : IVec S1x128 32) (v4 : Vec F S1x128 .f32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)

/-- What trip `k` reads of its blocks. -/
def reads (k : Fin k0_t1_loop.trips) : Reads F where
  hg := arg1
  lanes := v3
  nw := v4
  u := rows arg3.view X_arg3 k
  w := rows arg4.view X_arg4 k
  q := rows arg5.view X_arg5 k
  k := rows arg6.view X_arg6 k
  a := rows arg7.view X_arg7 k
  g p := View.readAt (Elt F) arg8.view
    (Rect.unit (s := S256x128) (k0_off1 k (BitVec.ofNat 32 (64 * p.val))) S1x128.size (k0_off1_inb k p)).toLoadRect X_arg8
  z := rows arg9.view X_arg9 k

variable (k : Fin k0_t1_loop.trips) (f11 : BufTy.Contents (Elt F) arg11.view.ty) (f12 : BufTy.Contents (Elt F) arg12.view.ty)
  (f13 : BufTy.Contents (Elt F) arg13.view.ty)

theorem trip_state :
    (tripL_k0_t1 (F := F) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k f11 f12 f13).2.1
      = (reads arg3 arg4 arg5 arg6 arg7 arg8 arg9 arg1 v3 v4 X_arg3 X_arg4 X_arg5 X_arg6 X_arg7 X_arg8 X_arg9 k).stateStores 1 (heads arg12.view (arg12.view.writes (Elt F) arg12.view.junk ((reads arg3 arg4 arg5 arg6 arg7 arg8 arg9 arg1 v3 v4 X_arg3 X_arg4 X_arg5 X_arg6 X_arg7 X_arg8 X_arg9 k).stateStores 0 (heads arg12.view f12))))
        ++ (reads arg3 arg4 arg5 arg6 arg7 arg8 arg9 arg1 v3 v4 X_arg3 X_arg4 X_arg5 X_arg6 X_arg7 X_arg8 X_arg9 k).stateStores 0 (heads arg12.view f12) := by
  sl_kernel_rfl

theorem trip_right :
    (tripL_k0_t1 (F := F) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k f11 f12 f13).2.2
      = (reads arg3 arg4 arg5 arg6 arg7 arg8 arg9 arg1 v3 v4 X_arg3 X_arg4 X_arg5 X_arg6 X_arg7 X_arg8 X_arg9 k).rightStores 1 (heads arg12.view (arg12.view.writes (Elt F) arg12.view.junk ((reads arg3 arg4 arg5 arg6 arg7 arg8 arg9 arg1 v3 v4 X_arg3 X_arg4 X_arg5 X_arg6 X_arg7 X_arg8 X_arg9 k).stateStores 0 (heads arg12.view f12))))
        ++ (reads arg3 arg4 arg5 arg6 arg7 arg8 arg9 arg1 v3 v4 X_arg3 X_arg4 X_arg5 X_arg6 X_arg7 X_arg8 X_arg9 k).rightStores 0 (heads arg12.view f12) := by
  sl_kernel_rfl

theorem trip_result :
    (tripL_k0_t1 (F := F) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k f11 f12 f13).1
      = (reads arg3 arg4 arg5 arg6 arg7 arg8 arg9 arg1 v3 v4 X_arg3 X_arg4 X_arg5 X_arg6 X_arg7 X_arg8 X_arg9 k).resStores k 1 (heads arg12.view (arg12.view.writes (Elt F) arg12.view.junk ((reads arg3 arg4 arg5 arg6 arg7 arg8 arg9 arg1 v3 v4 X_arg3 X_arg4 X_arg5 X_arg6 X_arg7 X_arg8 X_arg9 k).stateStores 0 (heads arg12.view f12))))
          (heads arg13.view (arg13.view.writes (Elt F) arg13.view.junk
            ((reads arg3 arg4 arg5 arg6 arg7 arg8 arg9 arg1 v3 v4 X_arg3 X_arg4 X_arg5 X_arg6 X_arg7 X_arg8 X_arg9 k).rightStores 1 (heads arg12.view (arg12.view.writes (Elt F) arg12.view.junk ((reads arg3 arg4 arg5 arg6 arg7 arg8 arg9 arg1 v3 v4 X_arg3 X_arg4 X_arg5 X_arg6 X_arg7 X_arg8 X_arg9 k).stateStores 0 (heads arg12.view f12))))
              ++ (reads arg3 arg4 arg5 arg6 arg7 arg8 arg9 arg1 v3 v4 X_arg3 X_arg4 X_arg5 X_arg6 X_arg7 X_arg8 X_arg9 k).rightStores 0 (heads arg12.view f12))))
        ++ (reads arg3 arg4 arg5 arg6 arg7 arg8 arg9 arg1 v3 v4 X_arg3 X_arg4 X_arg5 X_arg6 X_arg7 X_arg8 X_arg9 k).resStores k 0 (heads arg12.view f12)
          (heads arg13.view (arg13.view.writes (Elt F) f13 ((reads arg3 arg4 arg5 arg6 arg7 arg8 arg9 arg1 v3 v4 X_arg3 X_arg4 X_arg5 X_arg6 X_arg7 X_arg8 X_arg9 k).rightStores 0 (heads arg12.view f12)))) := by
  sl_kernel_rfl

end Cert.Kernel4Ideal.Rec

end
-- ==== Proof.Rec.Spec.lean ====
/-
  The gated delta rule over chunks of 64 tokens on extended reals, one scalar at a time: the state of one head of one
  sequence from chunk to chunk, the values a chunk adds, what it puts out, and the normalised and gated result.
-/
module

public import Idealize.ShloMosaic.Lib.Pointwise

@[expose] public section

noncomputable section

namespace Cert.Rec

open Idealize.ShloMosaic

abbrev Wide : Type := (⟨2, ![32768, 4096]⟩ : Shape).Idx → EReal
abbrev Inner : Type := (⟨3, ![32768, 32, 64]⟩ : Shape).Idx → EReal
abbrev Decay : Type := (⟨2, ![32768, 32]⟩ : Shape).Idx → EReal
abbrev Gain : Type := (⟨1, ![128]⟩ : Shape).Idx → EReal
abbrev Mat : Type := Fin 128 → Fin 128 → EReal

/-- Token `i` of chunk `n` of sequence `b`. -/
def row (b : Fin 2) (n : ℕ) (i : Fin 64) : Fin 32768 :=
  ⟨(16384 * b.val + 64 * n + i.val) % 32768, Nat.mod_lt _ (by decide)⟩

/-- Entry `d` of head `h`. -/
def col (h : Fin 32) (d : Fin 128) : Fin 4096 := ⟨128 * h.val + d.val, by omega⟩

/-- The arrays the recurrence reads. -/
structure Data where
  u : Wide
  w : Wide
  q : Wide
  k : Wide
  a : Inner
  g : Decay

variable (D : Data) (b : Fin 2) (h : Fin 32)

/-- What chunk `n` writes for token `i`: the value less what the state `S` already gives for its key. -/
def fresh (S : Mat) (n : ℕ) (i : Fin 64) (d : Fin 128) : EReal :=
  D.u (ix2 (row b n i) (col h d)) - ∑ e : Fin 128, D.w (ix2 (row b n i) (col h e)) * S e d

/-- What chunk `n` puts out for token `i`. -/
def out (S : Mat) (n : ℕ) (i : Fin 64) (d : Fin 128) : EReal :=
  ∑ e : Fin 128, D.q (ix2 (row b n i) (col h e)) * S e d
    + ∑ j : Fin 64, D.a (ix3 (row b n i) h j) * fresh D b h S n j d

/-- The state after chunk `n`. -/
def next (S : Mat) (n : ℕ) (e d : Fin 128) : EReal :=
  S e d * Ideal.exp (D.g (ix2 (row b n 63) h))
    + ∑ i : Fin 64, D.k (ix2 (row b n i) (col h e)) * fresh D b h S n i d

/-- The state before chunk `n`. -/
def state : ℕ → Mat
  | 0 => fun _ _ => 0
  | n + 1 => next D b h (state n) n

/-- A row of 128 entries over its root mean square, scaled by `g`, gated by `z`. -/
def gated (x : Fin 128 → EReal) (g z : EReal) (d : Fin 128) : EReal :=
  x d * Ideal.rsqrt (Ideal.div (∑ e, x e * x e) (Ideal.ofBits .f32 0x43000000#32) + Ideal.ofBits .f32 0x358637BD#32) * g
    * (z * Ideal.logistic z)

/-- The result for token `i` of chunk `n`, head `h`, entry `d`. -/
def result (z : Wide) (nw : Gain) (n : ℕ) (i : Fin 64) (d : Fin 128) : EReal :=
  gated (fun e => out D b h (state D b h n) n i e) (nw (ix1 d)) (z (ix2 (row b n i) (col h d))) d

/-- The result at token `r`, column `e`. -/
def resultAt (D : Data) (z : Wide) (nw : Gain) (r : Fin 32768) (e : Fin 4096) : EReal :=
  result D ⟨r.val / 16384, by omega⟩ ⟨e.val / 128, by omega⟩ z nw (r.val % 16384 / 64) ⟨r.val % 64, Nat.mod_lt _ (by decide)⟩
    ⟨e.val % 128, Nat.mod_lt _ (by decide)⟩

theorem resultAt_row_col (D : Data) (z : Wide) (nw : Gain) (b : Fin 2) (h : Fin 32) (n : ℕ) (hn : n < 256) (i : Fin 64) (d : Fin 128) :
    resultAt D z nw (row b n i) (col h d) = result D b h z nw n i d := by
  have e₁ : (⟨(row b n i).val / 16384, by omega⟩ : Fin 2) = b := Fin.ext (by
    show (16384 * b.val + 64 * n + i.val) % 32768 / 16384 = b.val
    omega)
  have e₂ : (⟨(col h d).val / 128, by omega⟩ : Fin 32) = h := Fin.ext (by
    show (128 * h.val + d.val) / 128 = h.val
    omega)
  have e₃ : (row b n i).val % 16384 / 64 = n := by
    show (16384 * b.val + 64 * n + i.val) % 32768 % 16384 / 64 = n
    omega
  have e₄ : (⟨(row b n i).val % 64, Nat.mod_lt _ (by decide)⟩ : Fin 64) = i := Fin.ext (by
    show (16384 * b.val + 64 * n + i.val) % 32768 % 64 = i.val
    omega)
  have e₅ : (⟨(col h d).val % 128, Nat.mod_lt _ (by decide)⟩ : Fin 128) = d := Fin.ext (by
    show (128 * h.val + d.val) % 128 = d.val
    omega)
  unfold resultAt
  rw [e₁, e₂, e₃, e₄, e₅]

end Cert.Rec

end
-- ==== Proof.Rec.Chunk.lean ====
/-
  One chunk of one head on extended reals: what the kernel's operations compute, element by element.
-/
module

public import proofs.«01_k».proof.Proof.Rec.Trip
public import proofs.«01_k».proof.Proof.Rec.Spec

@[expose] public section

set_option maxRecDepth 16384

noncomputable section

namespace Cert.Kernel4Ideal.Rec

open Idealize.ShloMosaic Cert.Kernel4Ideal.Gen

variable (T : Reads Ideal) (p : Fin 2) (S : States Ideal) (P : Rights Ideal) (h : Fin 16)

/-- The two products against the state in one: the keys' rows above, the queries' below. -/
theorem both_apply (s : FVec Ideal S128x128 .f32) (w q : Vec Ideal S64x128 .bf16) (r : Fin 128) (c : Fin 128) :
    k0_pay23 (F := Ideal) s w q (ix2 r c)
      = ∑ e : Fin 128, (if hr : r.val < 64 then w (ix2 ⟨r.val, hr⟩ e) else q (ix2 ⟨r.val - 64, by omega⟩ e)) * s (ix2 e c) := by
  pointwise [k0_pay23]

theorem fresh_apply (i : Fin 64) (c : Fin 128) :
    T.fresh p S h (ix2 i c)
      = T.u p h (ix2 i c) - ∑ e : Fin 128, T.w p h (ix2 i e) * S h (ix3 0 e c) := by
  pointwise [Reads.fresh, k0_pay47, k0_pay17, k0_pay23]

theorem out_apply (i : Fin 64) (c : Fin 128) :
    T.out p S P h (ix2 i c)
      = ∑ e : Fin 128, T.q p h (ix2 i e) * S h (ix3 0 e c) + ∑ j : Fin 128, T.a p h (ix2 i j) * P h (ix3 0 j c) := by
  pointwise [Reads.out, k0_pay92, k0_pay17, k0_pay23]

theorem next_apply (z : Fin 1) (e c : Fin 128) :
    T.next p S h (ix3 z e c)
      = S h (ix3 0 e c) * Ideal.exp (T.last p h (ix2 0 0)) + ∑ i : Fin 64, T.k p h (ix2 i e) * T.fresh p S h (ix2 i c) := by
  pointwise [Reads.next, k0_pay17]

theorem last_apply :
    T.last p h (ix2 0 0)
      = ∑ l : Fin 128, if T.lanes (ix2 0 l) = T.lane h then T.g p (ix2 0 l) else 0 := by
  pointwise [Reads.last]
  refine Finset.sum_congr rfl fun l _ => ?_
  by_cases e : T.lanes (ix2 0 l) = T.lane h
  · simp [Scalar.select, IntOp.cmpi, e]
  · have e' : (T.lanes (ix2 0 l) == T.lane h) = false := beq_eq_false_iff_ne.mpr e
    simp [Scalar.select, IntOp.cmpi, e, e']

/-- The lane sum has one term: the head's decay. -/
theorem last_eq (g : Fin 2) (hl : ∀ l : Fin 128, T.lanes (ix2 0 l) = BitVec.ofNat 32 l.val) (hg : T.hg = BitVec.ofNat 32 g.val) :
    T.last p h (ix2 0 0) = T.g p (ix2 0 ⟨32 + 16 * g.val + h.val, by omega⟩) := by
  have e : T.lane h = BitVec.ofNat 32 (32 + 16 * g.val + h.val) := by
    unfold Reads.lane
    rw [hg]
    exact (by decide : ∀ (g : Fin 2) (h : Fin 16), Scalar.addi (Scalar.addi 32#32 (Scalar.muli (BitVec.ofNat 32 g.val) 16#32))
      (BitVec.ofNat 32 h.val) = BitVec.ofNat 32 (32 + 16 * g.val + h.val)) g h
  rw [last_apply, Finset.sum_eq_single ⟨32 + 16 * g.val + h.val, by omega⟩]
  · rw [if_pos (by rw [hl, e])]
  · intro l _ hne
    refine if_neg fun h' => hne (Fin.ext ?_)
    rw [hl, e] at h'
    have := congrArg BitVec.toNat h'
    simp only [BitVec.toNat_ofNat] at this
    show l.val = 32 + 16 * g.val + h.val
    omega
  · intro h'
    exact absurd (Finset.mem_univ _) h'

theorem res_apply (i : Fin 64) (c : Fin 128) :
    T.res p S P h (ix2 i c)
      = Cert.Rec.gated (fun e => T.out p S P h (ix2 i e)) (T.nw (ix2 0 c)) (T.z p h (ix2 i c)) c := by
  pointwise [Reads.res, k0_pay136, k0_pay3, Cert.Rec.gated]

theorem right_apply (v : FVec Ideal S64x128 .bf16) (z : Fin 1) (i : Fin 64) (c : Fin 128) :
    k0_pay70 (F := Ideal) v (ix3 z i c) = v (ix2 i c) := by
  pointwise [k0_pay70]

/-! ## What the stores leave -/

section Stores

variable {e : EltTy} (v : View sig .tc .vmem S16x128x128 e) (f : BufTy.Contents (Elt Ideal) v.ty)

theorem heads_apply (z : Fin 1) (r c : Fin 128) : heads v f h (ix3 z r c) = v.read (Elt Ideal) f (ix3 h r c) := by
  unfold heads
  rw [View.readAt_apply]
  congr 1
  funext a
  apply Fin.ext
  obtain rfl : z = 0 := Subsingleton.elim _ _
  fin_cases a
  · show h.val + 1 * 0 = h.val
    omega
  · show 0 + 1 * r.val = r.val
    omega
  · show 0 + 1 * c.val = c.val
    omega

end Stores

section StateStores

variable (v : View sig .tc .vmem S16x128x128 .f32) (f : BufTy.Contents (Elt Ideal) v.ty)

theorem heads_state : heads v (v.writes (Elt Ideal) f (T.stateStores p S)) = T.next p S := by
  funext h x
  obtain ⟨z, r, c, rfl⟩ : ∃ z r c, x = ix3 z r c := ⟨x 0, x 1, x 2, eq_ix3 x⟩
  obtain rfl : z = 0 := Subsingleton.elim _ _
  rw [heads_apply]
  refine View.read_writes_apply_of_pieces v f (fun y : S16x128x128.Idx => T.next p S (y 0) (ix3 0 (y 1) (y 2)))
    (T.stateStores p S) ?_ _ ?_
  · intro q hq x
    obtain ⟨j, rfl⟩ := List.mem_ofFn.mp hq
    obtain ⟨z, r, c, rfl⟩ : ∃ z r c, x = ix3 z r c := ⟨x 0, x 1, x 2, eq_ix3 x⟩
    obtain rfl : z = 0 := Subsingleton.elim _ _
    show T.next p S j.rev (ix3 0 r c) = _
    congr 1
    · apply Fin.ext
      show 16 - (j.val + 1) = 15 - j.val + 1 * 0
      omega
    · funext a
      apply Fin.ext
      fin_cases a
      · rfl
      · show r.val = 0 + 1 * r.val
        omega
      · show c.val = 0 + 1 * c.val
        omega
  · refine ⟨_, List.mem_ofFn.mpr ⟨h.rev, rfl⟩, (LoadRect.mem_set _).mpr ?_⟩
    intro a
    fin_cases a
    · exact ⟨0, Nat.zero_lt_one, by show h.val = 15 - (16 - (h.val + 1)) + 1 * 0; omega⟩
    · exact ⟨r.val, r.isLt, by show r.val = 0 + 1 * r.val; omega⟩
    · exact ⟨c.val, c.isLt, by show c.val = 0 + 1 * c.val; omega⟩

end StateStores

section RightStores

variable (v : View sig .tc .vmem S16x128x128 .bf16) (f : BufTy.Contents (Elt Ideal) v.ty)

/-- The half's 64 rows of the right factors' buffer are what the chunk adds. -/
theorem heads_right (z : Fin 1) (i : Fin 64) (c : Fin 128) :
    heads v (v.writes (Elt Ideal) f (T.rightStores p S)) h (ix3 z ⟨64 * p.val + i.val, by omega⟩ c) = T.fresh p S h (ix2 i c) := by
  rw [heads_apply]
  refine (View.read_writes_apply_of_pieces v f
    (fun y : S16x128x128.Idx => T.fresh p S (y 0) (ix2 ⟨((y 1).val - 64 * p.val) % 64, Nat.mod_lt _ (by decide)⟩ (y 2)))
    (T.rightStores p S) ?_ _ ?_).trans ?_
  · intro q hq x
    obtain ⟨j, rfl⟩ := List.mem_ofFn.mp hq
    obtain ⟨z, r, c, rfl⟩ : ∃ z r c, x = ix3 z r c := ⟨x 0, x 1, x 2, eq_ix3 x⟩
    obtain rfl : z = 0 := Subsingleton.elim _ _
    show k0_pay70 (T.fresh p S j.rev) (ix3 0 r c) = _
    rw [right_apply]
    congr 1
    · apply Fin.ext
      show 16 - (j.val + 1) = 15 - j.val + 1 * 0
      omega
    · funext a
      apply Fin.ext
      have hr : r.val < 64 := r.isLt
      fin_cases a
      · show r.val = (64 * p.val + 1 * r.val - 64 * p.val) % 64
        omega
      · show c.val = 0 + 1 * c.val
        omega
  · refine ⟨_, List.mem_ofFn.mpr ⟨h.rev, rfl⟩, (LoadRect.mem_set _).mpr ?_⟩
    intro a
    fin_cases a
    · exact ⟨0, Nat.zero_lt_one, by show h.val = 15 - (16 - (h.val + 1)) + 1 * 0; omega⟩
    · exact ⟨i.val, i.isLt, by show 64 * p.val + i.val = 64 * p.val + 1 * i.val; omega⟩
    · exact ⟨c.val, c.isLt, by show c.val = 0 + 1 * c.val; omega⟩
  · show T.fresh p S h (ix2 ⟨(64 * p.val + i.val - 64 * p.val) % 64, _⟩ c) = _
    congr 2
    apply Fin.ext
    show (64 * p.val + i.val - 64 * p.val) % 64 = i.val
    omega

end RightStores

/-! ## A chunk's values from the arrays' -/

/-- Head `h` of the group `g`. -/
def headOf (g : Fin 2) (h : Fin 16) : Fin 32 := ⟨16 * g.val + h.val, by omega⟩

/-- What the trip reads in its half `p` are the arrays at chunk `n` of sequence `b`, heads `16 g` to `16 g + 15`. -/
structure Agrees (D : Cert.Rec.Data) (b g : Fin 2) (n : ℕ) : Prop where
  u : ∀ h i d, T.u p h (ix2 i d) = D.u (ix2 (Cert.Rec.row b n i) (Cert.Rec.col (headOf g h) d))
  w : ∀ h i d, T.w p h (ix2 i d) = D.w (ix2 (Cert.Rec.row b n i) (Cert.Rec.col (headOf g h) d))
  q : ∀ h i d, T.q p h (ix2 i d) = D.q (ix2 (Cert.Rec.row b n i) (Cert.Rec.col (headOf g h) d))
  k : ∀ h i d, T.k p h (ix2 i d) = D.k (ix2 (Cert.Rec.row b n i) (Cert.Rec.col (headOf g h) d))
  a : ∀ h i (j : Fin 128), T.a p h (ix2 i j)
    = if j.val / 64 = p.val then D.a (ix3 (Cert.Rec.row b n i) (headOf g h) ⟨j.val % 64, Nat.mod_lt _ (by decide)⟩) else 0
  g : ∀ h, T.last p h (ix2 0 0) = D.g (ix2 (Cert.Rec.row b n 63) (headOf g h))

/-- A loaded state as a matrix. -/
def mat (S : States Ideal) (h : Fin 16) : Cert.Rec.Mat := fun e d => S h (ix3 0 e d)

namespace Agrees

variable {T p S P} {D : Cert.Rec.Data} {b g : Fin 2} {n : ℕ} (A : Agrees T p D b g n)
include A

theorem fresh_eq (i : Fin 64) (d : Fin 128) :
    T.fresh p S h (ix2 i d) = Cert.Rec.fresh D b (headOf g h) (mat S h) n i d := by
  rw [fresh_apply, A.u]
  simp only [A.w]
  rfl

theorem next_eq (z : Fin 1) (e d : Fin 128) :
    T.next p S h (ix3 z e d) = Cert.Rec.next D b (headOf g h) (mat S h) n e d := by
  rw [next_apply, A.g]
  simp only [A.k, A.fresh_eq h]
  rfl

theorem mat_next : mat (T.next p S) h = Cert.Rec.next D b (headOf g h) (mat S h) n :=
  funext fun e => funext fun d => A.next_eq h 0 e d

/-- Only the chunk's own half of the attention row is not zero, so the other half of the right factor does not count. -/
theorem out_eq (hP : ∀ (i : Fin 64) (c : Fin 128), P h (ix3 0 ⟨64 * p.val + i.val, by omega⟩ c) = T.fresh p S h (ix2 i c))
    (i : Fin 64) (d : Fin 128) :
    T.out p S P h (ix2 i d) = Cert.Rec.out D b (headOf g h) (mat S h) n i d := by
  rw [out_apply]
  unfold Cert.Rec.out
  congr 1
  · simp only [A.q]
    rfl
  · simp only [A.a]
    have e : ∀ j : Fin 64, D.a (ix3 (Cert.Rec.row b n i) (headOf g h) j) * Cert.Rec.fresh D b (headOf g h) (mat S h) n j d
        = (fun l : Fin 128 => (if l.val / 64 = p.val then D.a (ix3 (Cert.Rec.row b n i) (headOf g h) ⟨l.val % 64, Nat.mod_lt _ (by decide)⟩) else 0)
          * P h (ix3 0 l d)) ⟨64 * p.val + j.val, by omega⟩ := by
      intro j
      show _ = (if (64 * p.val + j.val) / 64 = p.val then D.a (ix3 (Cert.Rec.row b n i) (headOf g h) ⟨(64 * p.val + j.val) % 64, _⟩) else 0)
        * P h (ix3 0 ⟨64 * p.val + j.val, _⟩ d)
      rw [if_pos (by omega), hP, A.fresh_eq h]
      congr 3
      apply Fin.ext
      show j.val = (64 * p.val + j.val) % 64
      omega
    rw [Finset.sum_congr rfl fun j _ => e j]
    symm
    refine Finset.sum_of_injOn (fun j : Fin 64 => (⟨64 * p.val + j.val, by omega⟩ : Fin 128)) ?_ ?_ ?_ ?_
    · intro x _ y _ hxy
      have := congrArg Fin.val hxy
      apply Fin.ext
      simp only at this
      omega
    · intro x _
      exact Finset.mem_coe.mpr (Finset.mem_univ _)
    · intro l _ hl
      rw [if_neg, zero_mul]
      intro hlp
      exact hl ⟨⟨l.val % 64, Nat.mod_lt _ (by decide)⟩, Finset.mem_coe.mpr (Finset.mem_univ _), Fin.ext (by show 64 * p.val + l.val % 64 = l.val; omega)⟩
    · intro x _
      rfl

end Agrees

end Cert.Kernel4Ideal.Rec

end
-- ==== Proof.Rec.Loop.lean ====
/-
  The loop's two trips together: the state they leave and the pieces of the result.
-/
module

public import proofs.«01_k».proof.Proof.Rec.Chunk

@[expose] public section

set_option maxRecDepth 16384

noncomputable section

namespace Cert.Kernel4Ideal.Rec

open Idealize.ShloMosaic Idealize.ShloMosaic.TcCoe Idealize.ShloMosaic.Tactic Cert.Kernel4Ideal.Gen

abbrev k0 : Fin k0_t1_loop.trips := ⟨0, by decide +kernel⟩
abbrev k1 : Fin k0_t1_loop.trips := ⟨1, by decide +kernel⟩

/-- The right factors hold, in half `p`, what the chunk adds. -/
def Holds (T : Reads Ideal) (p : Fin 2) (S : States Ideal) (P : Rights Ideal) : Prop :=
  ∀ (h : Fin 16) (i : Fin 64) (c : Fin 128), P h (ix3 0 ⟨64 * p.val + i.val, by omega⟩ c) = T.fresh p S h (ix2 i c)

/-- `G` has the chunk's result at its rows. -/
def Covers (T : Reads Ideal) (k : Fin k0_t1_loop.trips) (p : Fin 2) (S : States Ideal) (G : S256x2048.Idx → EReal) : Prop :=
  ∀ P : Rights Ideal, Holds T p S P → ∀ (h : Fin 16) (x : S64x128.Idx),
    T.res p S P h x = G ((Rect.unit (s := S256x2048) (off k p h) S64x128.size (off_inb k p h)).emb x)

variable (𝒱 : Variants) (c : Dev nD) (bd : Option 𝒱.V) (i : grid0.Coords) (arg3 : Memref sig .tc .vmem S256x2048 .f32) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x128 .f32) (harg8 : arg8.IsWhole) (arg9 : Memref sig .tc .vmem S256x2048 .f32) (harg9 : arg9.IsWhole) (arg10 : Memref sig .tc .vmem S1x128 .f32) (harg10 : arg10.IsWhole) (arg11 : Memref sig .tc .vmem S256x2048 .bf16) (harg11 : arg11.IsWhole) (arg12 : Memref sig .tc .vmem S16x128x128 .f32) (harg12 : arg12.IsWhole) (arg13 : Memref sig .tc .vmem S16x128x128 .bf16) (harg13 : arg13.IsWhole) (arg1 : BitVec 32) (v3 : IVec S1x128 32) (v4 : Vec Ideal S1x128 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty)

variable (f11 : BufTy.Contents (Elt Ideal) arg11.view.ty) (f12 : BufTy.Contents (Elt Ideal) arg12.view.ty)
  (f13 : BufTy.Contents (Elt Ideal) arg13.view.ty)

/-- One trip: the state it leaves. -/
theorem trip_states (k : Fin k0_t1_loop.trips) (f : BufTy.Contents (Elt Ideal) arg12.view.ty) :
    heads arg12.view (arg12.view.writes (Elt Ideal) f (tripL_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k f11 f12 f13).2.1)
      = (reads arg3 arg4 arg5 arg6 arg7 arg8 arg9 arg1 v3 v4 X_arg3 X_arg4 X_arg5 X_arg6 X_arg7 X_arg8 X_arg9 k).next 1 ((reads arg3 arg4 arg5 arg6 arg7 arg8 arg9 arg1 v3 v4 X_arg3 X_arg4 X_arg5 X_arg6 X_arg7 X_arg8 X_arg9 k).next 0 (heads arg12.view f12)) := by
  rw [trip_state, View.writes_append, heads_state, heads_state]

/-- One trip: its pieces of the result are `G`'s. -/
theorem trip_results (k : Fin k0_t1_loop.trips) (G : S256x2048.Idx → EReal)
    (h0 : Covers (reads arg3 arg4 arg5 arg6 arg7 arg8 arg9 arg1 v3 v4 X_arg3 X_arg4 X_arg5 X_arg6 X_arg7 X_arg8 X_arg9 k) k 0 (heads arg12.view f12) G)
    (h1 : Covers (reads arg3 arg4 arg5 arg6 arg7 arg8 arg9 arg1 v3 v4 X_arg3 X_arg4 X_arg5 X_arg6 X_arg7 X_arg8 X_arg9 k) k 1 ((reads arg3 arg4 arg5 arg6 arg7 arg8 arg9 arg1 v3 v4 X_arg3 X_arg4 X_arg5 X_arg6 X_arg7 X_arg8 X_arg9 k).next 0 (heads arg12.view f12)) G) :
    ∀ q ∈ (tripL_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k f11 f12 f13).1, ∀ x, q.2 x = G (q.1.emb x) := by
  rw [trip_result, heads_state]
  intro q hq x
  rcases List.mem_append.mp hq with hq | hq
  · obtain ⟨j, rfl⟩ := List.mem_ofFn.mp hq
    refine h1 _ (fun h i c => ?_) _ _
    rw [View.writes_append]
    exact heads_right _ _ _ _ _ _ _ _ _
  · obtain ⟨j, rfl⟩ := List.mem_ofFn.mp hq
    exact h0 _ (fun h i c => heads_right _ _ _ _ _ _ _ _ _) _ _

theorem pieces_two :
    (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 2) = ((tripL_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k1 (arg11.view.writes (Elt Ideal) f11 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).1) (arg12.view.writes (Elt Ideal) f12 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).2.1) (arg13.view.writes (Elt Ideal) f13 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).2.2)).1 ++ (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).1,
      (tripL_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k1 (arg11.view.writes (Elt Ideal) f11 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).1) (arg12.view.writes (Elt Ideal) f12 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).2.1) (arg13.view.writes (Elt Ideal) f13 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).2.2)).2.1 ++ (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).2.1,
      (tripL_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k1 (arg11.view.writes (Elt Ideal) f11 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).1) (arg12.view.writes (Elt Ideal) f12 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).2.1) (arg13.view.writes (Elt Ideal) f13 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).2.2)).2.2 ++ (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).2.2) :=
  pb_k0_t1_succ (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 k1

theorem pieces_one :
    (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1) = ((tripL_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k0 f11 f12 f13).1 ++ [], (tripL_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k0 f11 f12 f13).2.1 ++ [],
      (tripL_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k0 f11 f12 f13).2.2 ++ []) :=
  pb_k0_t1_succ (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 k0

/-- The state after the first trip. -/
theorem states_one : heads arg12.view (arg12.view.writes (Elt Ideal) f12 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 1).2.1) = (reads arg3 arg4 arg5 arg6 arg7 arg8 arg9 arg1 v3 v4 X_arg3 X_arg4 X_arg5 X_arg6 X_arg7 X_arg8 X_arg9 k0).next 1 ((reads arg3 arg4 arg5 arg6 arg7 arg8 arg9 arg1 v3 v4 X_arg3 X_arg4 X_arg5 X_arg6 X_arg7 X_arg8 X_arg9 k0).next 0 (heads arg12.view f12)) := by
  rw [pieces_one]
  show heads arg12.view (arg12.view.writes (Elt Ideal) f12 ((tripL_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k0 f11 f12 f13).2.1 ++ [])) = _
  rw [List.append_nil]
  exact trip_states _ _ _ _ _ _ _ _ _ _ _ _ _ _ _ _ _ _ _ _ _ _ _ _ _ _ _ _ _ _ _ _ _ _ _ _ _ _ _ _ _

/-- The state after both. -/
theorem states_two :
    heads arg12.view (arg12.view.writes (Elt Ideal) f12 (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 2).2.1)
      = (reads arg3 arg4 arg5 arg6 arg7 arg8 arg9 arg1 v3 v4 X_arg3 X_arg4 X_arg5 X_arg6 X_arg7 X_arg8 X_arg9 k1).next 1 ((reads arg3 arg4 arg5 arg6 arg7 arg8 arg9 arg1 v3 v4 X_arg3 X_arg4 X_arg5 X_arg6 X_arg7 X_arg8 X_arg9 k1).next 0 ((reads arg3 arg4 arg5 arg6 arg7 arg8 arg9 arg1 v3 v4 X_arg3 X_arg4 X_arg5 X_arg6 X_arg7 X_arg8 X_arg9 k0).next 1 ((reads arg3 arg4 arg5 arg6 arg7 arg8 arg9 arg1 v3 v4 X_arg3 X_arg4 X_arg5 X_arg6 X_arg7 X_arg8 X_arg9 k0).next 0 (heads arg12.view f12)))) := by
  rw [pieces_two]
  dsimp only
  rw [View.writes_append, trip_states, states_one]

/-- The pieces of the result, at the four chunks' states. -/
theorem results_two (G : S256x2048.Idx → EReal)
    (h0 : Covers (reads arg3 arg4 arg5 arg6 arg7 arg8 arg9 arg1 v3 v4 X_arg3 X_arg4 X_arg5 X_arg6 X_arg7 X_arg8 X_arg9 k0) k0 0 (heads arg12.view f12) G)
    (h1 : Covers (reads arg3 arg4 arg5 arg6 arg7 arg8 arg9 arg1 v3 v4 X_arg3 X_arg4 X_arg5 X_arg6 X_arg7 X_arg8 X_arg9 k0) k0 1 ((reads arg3 arg4 arg5 arg6 arg7 arg8 arg9 arg1 v3 v4 X_arg3 X_arg4 X_arg5 X_arg6 X_arg7 X_arg8 X_arg9 k0).next 0 (heads arg12.view f12)) G)
    (h2 : Covers (reads arg3 arg4 arg5 arg6 arg7 arg8 arg9 arg1 v3 v4 X_arg3 X_arg4 X_arg5 X_arg6 X_arg7 X_arg8 X_arg9 k1) k1 0 ((reads arg3 arg4 arg5 arg6 arg7 arg8 arg9 arg1 v3 v4 X_arg3 X_arg4 X_arg5 X_arg6 X_arg7 X_arg8 X_arg9 k0).next 1 ((reads arg3 arg4 arg5 arg6 arg7 arg8 arg9 arg1 v3 v4 X_arg3 X_arg4 X_arg5 X_arg6 X_arg7 X_arg8 X_arg9 k0).next 0 (heads arg12.view f12))) G)
    (h3 : Covers (reads arg3 arg4 arg5 arg6 arg7 arg8 arg9 arg1 v3 v4 X_arg3 X_arg4 X_arg5 X_arg6 X_arg7 X_arg8 X_arg9 k1) k1 1 ((reads arg3 arg4 arg5 arg6 arg7 arg8 arg9 arg1 v3 v4 X_arg3 X_arg4 X_arg5 X_arg6 X_arg7 X_arg8 X_arg9 k1).next 0 ((reads arg3 arg4 arg5 arg6 arg7 arg8 arg9 arg1 v3 v4 X_arg3 X_arg4 X_arg5 X_arg6 X_arg7 X_arg8 X_arg9 k0).next 1 ((reads arg3 arg4 arg5 arg6 arg7 arg8 arg9 arg1 v3 v4 X_arg3 X_arg4 X_arg5 X_arg6 X_arg7 X_arg8 X_arg9 k0).next 0 (heads arg12.view f12)))) G) :
    ∀ q ∈ (pb_k0_t1 (F := Ideal) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f11 f12 f13 2).1, ∀ x, q.2 x = G (q.1.emb x) := by
  rw [pieces_two]
  intro q hq
  rcases List.mem_append.mp hq with hq | hq
  · refine trip_results _ _ _ _ _ _ _ _ _ _ _ _ _ _ _ _ _ _ _ _ _ _ _ _ _ _ _ _ _ _ _ _ _ _ _ _ _ _ _ _ G ?_ ?_ q hq
    · rw [states_one]; exact h2
    · rw [states_one]; exact h3
  · rw [pieces_one] at hq
    have hq' := (List.mem_append.mp hq).resolve_right List.not_mem_nil
    exact trip_results _ _ _ _ _ _ _ _ _ _ _ _ _ _ _ _ _ _ _ _ _ _ _ _ _ _ _ _ _ _ _ _ _ _ _ _ _ _ _ _ G h0 h1 q hq'

end Cert.Kernel4Ideal.Rec

end
-- ==== Proof.Rec.Free.lean ====
module

public import proofs.«01_k».proof.Proof.Gen.Kernel4Ideal.Loops

@[expose] public section

set_option maxRecDepth 16384

/-! The pieces a trip of the loop writes are computed from the blocks and the two state buffers alone:
what the output's staging buffer held before makes no difference to them. -/

noncomputable section

namespace Cert.Kernel4Ideal.Rec

open Idealize.ShloMosaic Idealize.ShloMosaic.TcCoe Idealize.ShloMosaic.Tactic Cert.Kernel4Ideal.Gen

variable {F : FTy → Type} [FloatOps F]

variable (𝒱 : Variants) (c : Dev nD) (bd : Option 𝒱.V) (i : grid0.Coords) (arg3 : Memref sig .tc .vmem S256x2048 .f32) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x128 .f32) (harg8 : arg8.IsWhole) (arg9 : Memref sig .tc .vmem S256x2048 .f32) (harg9 : arg9.IsWhole) (arg10 : Memref sig .tc .vmem S1x128 .f32) (harg10 : arg10.IsWhole) (arg11 : Memref sig .tc .vmem S256x2048 .bf16) (harg11 : arg11.IsWhole) (arg12 : Memref sig .tc .vmem S16x128x128 .f32) (harg12 : arg12.IsWhole) (arg13 : Memref sig .tc .vmem S16x128x128 .bf16) (harg13 : arg13.IsWhole) (arg1 : BitVec 32) (v3 : IVec S1x128 32) (v4 : Vec F S1x128 .f32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)

set_option maxHeartbeats 4000000 in
/-- One trip's pieces do not depend on the output buffer's old contents. -/
theorem trip_free (k : Fin k0_t1_loop.trips) (f f' : BufTy.Contents (Elt F) arg11.view.ty) (f12 : BufTy.Contents (Elt F) arg12.view.ty) (f13 : BufTy.Contents (Elt F) arg13.view.ty) :
    tripL_k0_t1 (F := F) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k f f12 f13 = tripL_k0_t1 (F := F) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 k f' f12 f13 := by
  unfold tripL_k0_t1 trip_k0_t1
  rfl

/-- The pieces of the trips before `n` do not depend on it either. -/
theorem pieces_free (f f' : BufTy.Contents (Elt F) arg11.view.ty) (f12 : BufTy.Contents (Elt F) arg12.view.ty) (f13 : BufTy.Contents (Elt F) arg13.view.ty) (n : ℕ) :
    pb_k0_t1 (F := F) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f f12 f13 n = pb_k0_t1 (F := F) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f' f12 f13 n := by
  induction n with
  | zero => rfl
  | succ n ih =>
    simp only [pb_k0_t1.eq_2]
    unfold pb_k0_t1Step
    by_cases h : n < k0_t1_loop.trips
    · rw [dif_pos h, dif_pos h, ih]
      rw [trip_free 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 ⟨n, h⟩ _ (arg11.view.writes (Elt F) f' (pb_k0_t1 (F := F) 𝒱 c bd i arg3 harg3 arg4 harg4 arg5 harg5 arg6 harg6 arg7 harg7 arg8 harg8 arg9 harg9 arg10 harg10 arg11 harg11 arg12 harg12 arg13 harg13 arg1 v3 v4 X_arg3 X_arg4 X_arg5 X_arg6 X_arg7 X_arg8 X_arg9 f' f12 f13 n).1)]
    · rw [dif_neg h, dif_neg h, ih]

end Cert.Kernel4Ideal.Rec

end
-- ==== Proof.Rec.Run.lean ====
module

public import proofs.«01_k».proof.Proof.Gen.Kernel4Ideal.Frame.Runs
public import proofs.«01_k».proof.Proof.Rec.Free
public import Idealize.ShloMosaic.Lib.WritesUnit

@[expose] public section

set_option maxRecDepth 16384

noncomputable section

/-! # The body's run at one grid point

The run of the loop is the generated one (a trip's triple and the loop's invariant); here it is put together with the
reset of the state at the first point of a sequence. What the output's staging buffer held before does not enter. -/

namespace Cert.Kernel4Ideal.Rec

open Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store of a whole scratch buffer, read back. -/
theorem read_all {e : EltTy} (v : View sig .tc .vmem S16x128x128 e) (f : BufTy.Contents (Elt F) v.ty) (w : Vec F S16x128x128 e) :
    v.read (Elt F) (v.writes (Elt F) f
      [⟨Rect.unit ![0, 0, 0] S16x128x128.size inb_S16x128x128_S16x128x128_0_0_0, w⟩]) = w :=
  funext fun y => View.read_writes_cons_unit_of_mem (v := v) (f := f) inb_S16x128x128_S16x128x128_0_0_0 w [] y y rfl
    (fun a => by rw [show (![0, 0, 0] : Fin 3 → ℕ) a = 0 by revert a; decide, Nat.zero_add])

variable (m : (ℓ : Loc nD τ sig) → Buf (Elt F) ℓ) (ρ : Dev nD → PrngReg)

variable (c : Dev nD) (i : grid0.Coords) (arg3 : Memref sig .tc .vmem S256x2048 .f32) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x128 .f32) (harg8 : arg8.IsWhole) (arg9 : Memref sig .tc .vmem S256x2048 .f32) (harg9 : arg9.IsWhole) (arg10 : Memref sig .tc .vmem S1x128 .f32) (harg10 : arg10.IsWhole) (arg11 : Memref sig .tc .vmem S256x2048 .bf16) (harg11 : arg11.IsWhole) (arg12 : Memref sig .tc .vmem S16x128x128 .f32) (harg12 : arg12.IsWhole) (arg13 : Memref sig .tc .vmem S16x128x128 .bf16) (harg13 : arg13.IsWhole)

variable (x0 : Vec F S256x2048 .f32) (x1 : Vec F S256x2048 .bf16) (x2 : Vec F S256x2048 .bf16) (x3 : Vec F S256x2048 .bf16) (x4 : Vec F S256x2048 .bf16) (x5 : Vec F S256x128 .f32) (x6 : Vec F S256x2048 .f32) (x7 : Vec F S1x128 .f32)

/-- The pieces the loop's two trips write to the output, the state and the right factor's scratch (last first), from the
contents `S` and `P` of the two scratch buffers. -/
def pieces (S : Vec F S16x128x128 .f32) (P : Vec F S16x128x128 .bf16) :
    List (View.Piece (Elt F) S256x2048 .bf16) × List (View.Piece (Elt F) S16x128x128 .f32) × List (View.Piece (Elt F) S16x128x128 .bf16) :=
  pb_k0_t1 (F := F) Variants.none c none i arg3 harg3 arg4 harg4 arg5 harg5 arg6 harg6 arg7 harg7 arg8 harg8 arg9 harg9 arg10 harg10 arg11 harg11 arg12 harg12 arg13 harg13 (BitVec.ofNat 32 (i 1).val) (iota .tc S1x128 32 [1] iota_S1x128_d1_w32)
    (View.readAt (Elt F) arg10.view (Rect.unit ![0, 0] S1x128.size inb_S1x128_S1x128_0_0).toLoadRect (harg10.unread x7))
    (harg3.unread x0) (harg4.unread x1) (harg5.unread x2) (harg6.unread x3) (harg7.unread x4) (harg8.unread x5) (harg9.unread x6)
    arg11.view.junk (harg12.unread S) (harg13.unread P) (Scf.trips k0_t1_loop.lb k0_t1_loop.ub k0_t1_loop.st)

set_option maxHeartbeats 4000000 in
/-- The body's run at a point that starts a sequence: the two scratch buffers are set to zero first. -/
theorem first (hc : cond0_0 i) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f (pieces c i arg3 harg3 arg4 harg4 arg5 harg5 arg6 harg6 arg7 harg7 arg8 harg8 arg9 harg9 arg10 harg10 arg11 harg11 arg12 harg12 arg13 harg13 x0 x1 x2 x3 x4 x5 x6 x7 (k0_pay1 (F := F)) (k0_pay2 (F := F))).1) ∗ (arg12.view.loc (c : Thread nD τ) ↦[arg12.view.set]{fullShare} arg12.view.writes (Elt F) (harg12.unread (k0_pay1 (F := F))) (pieces c i arg3 harg3 arg4 harg4 arg5 harg5 arg6 harg6 arg7 harg7 arg8 harg8 arg9 harg9 arg10 harg10 arg11 harg11 arg12 harg12 arg13 harg13 x0 x1 x2 x3 x4 x5 x6 x7 (k0_pay1 (F := F)) (k0_pay2 (F := F))).2.1) ∗ (arg13.view.loc (c : Thread nD τ) ↦[arg13.view.set]{fullShare} arg13.view.writes (Elt F) (harg13.unread (k0_pay2 (F := F))) (pieces c i arg3 harg3 arg4 harg4 arg5 harg5 arg6 harg6 arg7 harg7 arg8 harg8 arg9 harg9 arg10 harg10 arg11 harg11 arg12 harg12 arg13 harg13 x0 x1 x2 x3 x4 x5 x6 x7 (k0_pay1 (F := F)) (k0_pay2 (F := F))).2.2)) -∗ K ⟨⟩))
      ⊢ wp frame (wpE (defs₀ (F := F)) Variants.none c none) E (cc0_gdn_rec i arg3 harg3 arg4 harg4 arg5 harg5 arg6 harg6 arg7 harg7 arg8 harg8 arg9 harg9 arg10 harg10 arg11 harg11 arg12 harg12 arg13 harg13) K := by
  simp only [cc0_gdn_rec_eq_skeleton]; unfold cc0_gdn_rec_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  sl_exec (disch := first | sl_exact hc)
  sl_step
  rw [pieces_free (f := f8) (f' := arg11.view.junk)]
  rw [View.writes_append, View.writes_append,
    show arg12.view.writes (Elt F) arg12.view.junk first.sl.HS0_1 = harg12.unread (k0_pay1 (F := F)) from
      harg12.eq_unread (by unfold first.sl.HS0_1; exact read_all _ _ _),
    show arg13.view.writes (Elt F) arg13.view.junk first.sl.HS1_1 = harg13.unread (k0_pay2 (F := F)) from
      harg13.eq_unread (by unfold first.sl.HS1_1; exact read_all _ _ _)]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]; · iexists _; iexact H8
  isplitl [HS0]; · iexact HS0
  iexact HS1

set_option maxHeartbeats 4000000 in
/-- The body's run at a point inside a sequence. -/
theorem next (hc : ¬cond0_0 i) (S : Vec F S16x128x128 .f32) (P : Vec F S16x128x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare S ∗ owns (c : Thread nD τ) arg13 fullShare P
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f (pieces c i arg3 harg3 arg4 harg4 arg5 harg5 arg6 harg6 arg7 harg7 arg8 harg8 arg9 harg9 arg10 harg10 arg11 harg11 arg12 harg12 arg13 harg13 x0 x1 x2 x3 x4 x5 x6 x7 S P).1) ∗ (arg12.view.loc (c : Thread nD τ) ↦[arg12.view.set]{fullShare} arg12.view.writes (Elt F) (harg12.unread S) (pieces c i arg3 harg3 arg4 harg4 arg5 harg5 arg6 harg6 arg7 harg7 arg8 harg8 arg9 harg9 arg10 harg10 arg11 harg11 arg12 harg12 arg13 harg13 x0 x1 x2 x3 x4 x5 x6 x7 S P).2.1) ∗ (arg13.view.loc (c : Thread nD τ) ↦[arg13.view.set]{fullShare} arg13.view.writes (Elt F) (harg13.unread P) (pieces c i arg3 harg3 arg4 harg4 arg5 harg5 arg6 harg6 arg7 harg7 arg8 harg8 arg9 harg9 arg10 harg10 arg11 harg11 arg12 harg12 arg13 harg13 x0 x1 x2 x3 x4 x5 x6 x7 S P).2.2)) -∗ K ⟨⟩))
      ⊢ wp frame (wpE (defs₀ (F := F)) Variants.none c none) E (cc0_gdn_rec i arg3 harg3 arg4 harg4 arg5 harg5 arg6 harg6 arg7 harg7 arg8 harg8 arg9 harg9 arg10 harg10 arg11 harg11 arg12 harg12 arg13 harg13) K := by
  simp only [cc0_gdn_rec_eq_skeleton]; unfold cc0_gdn_rec_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0; obtain rfl := harg13.eq_unread hfs1
  sl_exec (disch := first | sl_exact hc)
  sl_step
  rw [pieces_free (f := f8) (f' := arg11.view.junk)]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]; · iexists _; iexact H8
  isplitl [HS0]; · iexact HS0
  iexact HS1

end Cert.Kernel4Ideal.Rec

end
-- ==== Proof.Rec.Frame.lean ====
module

public import proofs.«01_k».proof.Proof.Rec.Run
public import Idealize.ShloMosaic.Lib.Claim

@[expose] public section

set_option maxRecDepth 16384

noncomputable section

/-! # From the body's run to the program's

What the output's staging buffer and the two scratch buffers hold after each grid point, the invariant that carries the
state from a point to the next, and the frame: the program stops, its arguments are left alone, and its result is the
array the grid points' blocks make up. -/

namespace Cert.Kernel4Ideal.Rec

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the two scratch buffers hold. -/
abbrev Carried (F : FTy → Type) : Type := Vec F S16x128x128 .f32 × Vec F S16x128x128 .bf16

/-- The pieces point `t` writes, from the scratch buffers' contents `s`. -/
def written (c : Dev nD) (t : Fin cfg0.N) (s : Carried F) :
    List (View.Piece (Elt F) S256x2048 .bf16) × List (View.Piece (Elt F) S16x128x128 .f32) × List (View.Piece (Elt F) S16x128x128 .bf16) :=
  pieces c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) s.1 s.2

theorem written_cover (c : Dev nD) (t : Fin cfg0.N) (s : Carried F) (y : S256x2048.Idx) :
    ∃ p ∈ (written m c t s).1, y ∈ p.1.set :=
  View.cover_of_tiledL (written m c t s).1 S64x128.size (by sl_kernel_rfl) y

/-- What point `t` leaves in the output's staging buffer and in the scratch buffers, from the scratch contents `s`. -/
def point (c : Dev nD) (t : Fin cfg0.N) (s : Carried F) : Vec F S256x2048 .bf16 × Carried F :=
  (VO0_8.read (Elt F) (VO0_8.writes (Elt F) VO0_8.junk (written m c t s).1),
    scM0_0.view.read (Elt F) (scM0_0.view.writes (Elt F) ((Memref.isWhole_whole cc0_scratch0).unread s.1) (written m c t s).2.1),
    scM0_1.view.read (Elt F) (scM0_1.view.writes (Elt F) ((Memref.isWhole_whole cc0_scratch1).unread s.2) (written m c t s).2.2))

/-- The scratch contents a sequence starts from. -/
def zeros : Carried F := (k0_pay1, k0_pay2)

/-- What is left after point `n`: every 64th point starts from zeros, the others from what the point before left. -/
def left (c : Dev nD) : (n : ℕ) → n < cfg0.N → Vec F S256x2048 .bf16 × Carried F
  | 0, hn => point m c ⟨0, hn⟩ zeros
  | n + 1, hn => point m c ⟨n + 1, hn⟩ (if (n + 1) % 64 = 0 then zeros else (left c n (Nat.lt_of_succ_lt hn)).2)

theorem left_first (c : Dev nD) (t : Fin cfg0.N) (h : t.val % 64 = 0) : left m c t.val t.isLt = point m c t zeros := by
  obtain ⟨n, hn⟩ := t
  cases n with
  | zero => rfl
  | succ n => exact congrArg (point m c ⟨n + 1, hn⟩) (if_pos h)

theorem left_next (c : Dev nD) (t : Fin cfg0.N) (h : ¬t.val % 64 = 0) :
    left m c t.val t.isLt = point m c t (left m c (t.val - 1) (Nat.lt_of_le_of_lt (Nat.sub_le _ _) t.isLt)).2 := by
  obtain ⟨n, hn⟩ := t
  cases n with
  | zero => exact absurd (Nat.zero_mod _) h
  | succ n => exact congrArg (point m c ⟨n + 1, hn⟩) (if_neg h)

/-- Between points the scratch buffers hold what the point before left; before the first point, anything. -/
def carry (c : Dev nD) : (n : ℕ) → n ≤ cfg0.N → sProp 𝕄
  | 0, _ => Pipeline.ΦA spec0 c
  | n + 1, hn => iprop(iprop(owns (c : Thread nD τ) scM0_0 fullShare ((left m c n hn).2.1) ∗ owns (c : Thread nD τ) scM0_1 fullShare ((left m c n hn).2.2)) ∗ (∃ r, prngReg c r))

theorem carry_pos (c : Dev nD) (n : ℕ) (h : n ≤ cfg0.N) (hz : n ≠ 0) :
    carry m c n h = iprop(iprop(owns (c : Thread nD τ) scM0_0 fullShare ((left m c (n - 1) (by omega)).2.1) ∗ owns (c : Thread nD τ) scM0_1 fullShare ((left m c (n - 1) (by omega)).2.2)) ∗ (∃ r, prngReg c r)) := by
  cases n with
  | zero => exact absurd rfl hz
  | succ n => rfl

/-- What the scratch buffers hold may be forgotten. -/
theorem forget (c : Dev nD) (n : ℕ) (h : n ≤ cfg0.N) : carry m c n h ⊢ Pipeline.ΦA spec0 c := by
  cases n with
  | zero => exact Idealize.SL.BI.Entails.refl _
  | succ n =>
    rw [carry_pos m c _ h (Nat.succ_ne_zero n), PhiA0_eq]
    iintro ⟨⟨HS0, HS1⟩, Hg⟩
    isplitl [HS0 HS1]
    · isplitl [HS0]
      · iexists _; iexact HS0
      iexists _; iexact HS1
    iexact Hg

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t.val t.isLt).1
  Φ t := carry m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Φ_start (c : Dev nD) (t : Fin cfg0.N) : (dats m 0 c).Φ t.castSucc = carry m c t.val (Nat.le_of_lt t.isLt) := by
  dsimp only [dats]; exact Pipeline.Dat.Φ_castSucc (carry m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (left m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8]
  rw [show (dats m 0 c).Φ t.succ = iprop(iprop(owns (c : Thread nD τ) scM0_0 fullShare ((left m c t.val t.isLt).2.1) ∗ owns (c : Thread nD τ) scM0_1 fullShare ((left m c t.val t.isLt).2.2)) ∗ (∃ r, prngReg c r)) from rfl,
    Φ_start]
  by_cases h0 : t.val % 64 = 0
  · refine (sep_mono_left (forget m c _ _)).trans ?_
    rw [left_first m c t h0, PhiA0_eq]
    unfold point; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) ((hcond0_0 t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 Hg]
    · isplitl [HS0 HS1]
      · isplitl [HS0]
        · unfold owns; iexists _; isplitr
          swap; · iexact HS0
          ipureintro; rfl
        unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (written_cover m c t zeros)
  · rw [carry_pos m c _ _ (fun h => h0 (by rw [h])), left_next m c t h0]
    unfold point; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (left m c (t.val - 1) (Nat.lt_of_le_of_lt (Nat.sub_le _ _) t.isLt)).2.1 (left m c (t.val - 1) (Nat.lt_of_le_of_lt (Nat.sub_le _ _) t.isLt)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 Hg]
    · isplitl [HS0 HS1]
      · isplitl [HS0]
        · unfold owns; iexists _; isplitr
          swap; · iexact HS0
          ipureintro; rfl
        unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (written_cover m c t (left m c (t.val - 1) (Nat.lt_of_le_of_lt (Nat.sub_le _ _) t.isLt)).2)

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = carry m c cfg0.N le_rfl from rfl]
  exact forget m c _ _

set_option backward.isDefEq.respectTransparency.types false in
/-- Every run stops with the pipeline's arrays as the proof data say, and every counter at zero. -/
theorem runs : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem runs_arrays : θ_run defs (onTc (τ := τ) (main (F := F))) (s₀ m ρ) (Pipeline.FramePost cfgs (dats m) 0 (V m)) :=
  (θ_run defs _ _).mono (fun _ h => h.1) (runs m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (runs_arrays m ρ)

/-- The frame: every run stops, the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (runs m ρ))

/-- The result is the array the points' blocks make up. -/
theorem result : θ_run defs (onTc (τ := τ) (main (F := F))) ⟨m, fun _ => 0, ρ⟩ (fun r => ∀ c : Dev nD,
      r.2.mem ((c.tc : Thread nD τ).loc main_v13) = (dats m 0 c).arrAt 8 cfg0.N) :=
  (θ_run defs _ _).mono (fun r h c => (h c).1 8) (runs_arrays m ρ)

end Cert.Kernel4Ideal.Rec

end
-- ==== Proof.Rec.Blocks.lean ====
/-
  What the grid points' blocks hold of the argument arrays. The grid runs over 2 sequences, 2 groups of 16 heads and
  64 blocks of 256 tokens.
-/
module

public import proofs.«01_k».proof.Proof.Rec.Frame
public import Idealize.ShloMosaic.Lib.Pipeline.ValueKit

@[expose] public section

set_option maxRecDepth 16384

noncomputable section

namespace Cert.Kernel4Ideal.Rec

open Idealize.ShloMosaic Idealize.ShloMosaic.Tactic
open Cert.Kernel4Ideal Cert.Kernel4Ideal.Gen

variable (m : (ℓ : Loc nD τ sig) → Buf (Elt Ideal) ℓ) (c : Dev nD)

theorem blocks (t : Fin cfg0.N) :
    win0_0.index t = ![t.val / 128 * 64 + t.val % 64, t.val / 64 % 2] ∧ win0_1.index t = ![t.val / 128 * 64 + t.val % 64, t.val / 64 % 2]
      ∧ win0_2.index t = ![t.val / 128 * 64 + t.val % 64, t.val / 64 % 2] ∧ win0_3.index t = ![t.val / 128 * 64 + t.val % 64, t.val / 64 % 2]
      ∧ win0_4.index t = ![t.val / 128 * 64 + t.val % 64, t.val / 64 % 2] ∧ win0_5.index t = ![t.val / 128 * 64 + t.val % 64, 0]
      ∧ win0_6.index t = ![t.val / 128 * 64 + t.val % 64, t.val / 64 % 2] ∧ win0_7.index t = ![0, 0]
      ∧ win0_8.index t = ![t.val / 128 * 64 + t.val % 64, t.val / 64 % 2] :=
  (by decide +kernel : ∀ t : Fin grid0.N,
    win0_0.index t = ![t.val / 128 * 64 + t.val % 64, t.val / 64 % 2] ∧ win0_1.index t = ![t.val / 128 * 64 + t.val % 64, t.val / 64 % 2]
      ∧ win0_2.index t = ![t.val / 128 * 64 + t.val % 64, t.val / 64 % 2] ∧ win0_3.index t = ![t.val / 128 * 64 + t.val % 64, t.val / 64 % 2]
      ∧ win0_4.index t = ![t.val / 128 * 64 + t.val % 64, t.val / 64 % 2] ∧ win0_5.index t = ![t.val / 128 * 64 + t.val % 64, 0]
      ∧ win0_6.index t = ![t.val / 128 * 64 + t.val % 64, t.val / 64 % 2] ∧ win0_7.index t = ![0, 0]
      ∧ win0_8.index t = ![t.val / 128 * 64 + t.val % 64, t.val / 64 % 2]) t

theorem lt_N (t : Fin cfg0.N) : t.val < 256 := lt_of_lt_of_eq t.isLt N_0

def tok (t : Fin cfg0.N) (r : Fin 256) : Fin 32768 := ⟨256 * (t.val / 128 * 64 + t.val % 64) + r.val, by have := lt_N t; omega⟩
def wide (t : Fin cfg0.N) (d : Fin 2048) : Fin 4096 := ⟨2048 * (t.val / 64 % 2) + d.val, by omega⟩

theorem ix3_congr {n₀ n₁ n₂ : ℕ} {a a' : Fin n₀} {b b' : Fin n₁} {e e' : Fin n₂} (ha : a.val = a'.val) (hb : b.val = b'.val) (he : e.val = e'.val) :
    ix3 a b e = ix3 a' b' e' := by
  rw [Fin.ext ha, Fin.ext hb, Fin.ext he]

/-- The padding is zero. -/
theorem pad_zero (φ : FTy) : (FloatOps.sitofp (F := Ideal) φ 0#32 : EReal) = 0 := by
  show (((((0#32 : BitVec 32).toInt : ℝ)) : EReal)) = 0
  simp

theorem u_block (t : Fin cfg0.N) (r : Fin 256) (d : Fin 2048) :
    (iblk m c 0 t : Vec Ideal S256x2048 .f32) (ix2 r d) = (m (c.tc.loc main_arg0) : Vec Ideal S32768x4096 .f32) (ix2 (tok t r) (wide t d)) := by
  blk_ext [iblk, V, (blocks t).1, tok, wide]

theorem w_block (t : Fin cfg0.N) (r : Fin 256) (d : Fin 2048) :
    (iblk m c 1 t : Vec Ideal S256x2048 .bf16) (ix2 r d) = (m (c.tc.loc main_arg1) : Vec Ideal S32768x4096 .f32) (ix2 (tok t r) (wide t d)) := by
  unfold iblk
  entry_read
  pointwise
  blk_ext [(blocks t).2.1, tok, wide]

theorem q_block (t : Fin cfg0.N) (r : Fin 256) (d : Fin 2048) :
    (iblk m c 2 t : Vec Ideal S256x2048 .bf16) (ix2 r d) = (m (c.tc.loc main_arg2) : Vec Ideal S32768x4096 .f32) (ix2 (tok t r) (wide t d)) := by
  unfold iblk
  entry_read
  pointwise
  blk_ext [(blocks t).2.2.1, tok, wide]

theorem k_block (t : Fin cfg0.N) (r : Fin 256) (d : Fin 2048) :
    (iblk m c 3 t : Vec Ideal S256x2048 .bf16) (ix2 r d) = (m (c.tc.loc main_arg3) : Vec Ideal S32768x4096 .f32) (ix2 (tok t r) (wide t d)) := by
  unfold iblk
  entry_read
  pointwise
  blk_ext [(blocks t).2.2.2.1, tok, wide]

theorem z_block (t : Fin cfg0.N) (r : Fin 256) (d : Fin 2048) :
    (iblk m c 6 t : Vec Ideal S256x2048 .f32) (ix2 r d) = (m (c.tc.loc main_arg6) : Vec Ideal S32768x4096 .f32) (ix2 (tok t r) (wide t d)) := by
  blk_ext [iblk, V, (blocks t).2.2.2.2.2.2.1, tok, wide]

theorem gain_row : V m c main_v12 = broadcastInDim S1x128 ![1] bcast_S128_S1x128_1 (m (c.tc.loc main_arg7) : Vec Ideal S128 .f32) := by
  entry_read
  try rfl

theorem decay_rows : (V m c main_v8 : Vec Ideal S32768x128 .f32)
    = pad (α := EReal) S32768x128 ![0, 32] ![0, 64] ![0, 0] (m (c.tc.loc main_arg5) : Vec Ideal S32768x32 .f32)
        (sitofp (F := Ideal) .f32 (constantI S_ 32 0#32)) pads_S32768x32_S32768x128_000_32640 h_S_ := by
  sl_kernel_rfl

abbrev pairs (x : Vec Ideal S32768x32x64 .f32) : FVec Ideal S256x2x64x32x64 .bf16 :=
  truncf .bf16 (shapeCast S256x2x64x32x64 x shapeCasts_S32768x32x64_S256x2x64x32x64 : FVec Ideal S256x2x64x32x64 .f32) bitsLt_bf16_f32

/-- How the chunks' own products are laid out: the chunk's half of a pair's 128 columns, zeros in the other. -/
abbrev inner (x : FVec Ideal S32768x32x64 .f32) : FVec Ideal S32768x4096 .bf16 :=
  shapeCast S32768x4096 (concatenate S256x2x64x32x128 1
    [⟨S256x1x64x32x128, pad S256x1x64x32x128 ![0, 0, 0, 0, 0] ![0, 0, 0, 0, 64] ![0, 0, 0, 0, 0]
        (extractStridedSlice S256x1x64x32x64 ![0, 0, 0, 0, 0] (pairs x) slices_S256x2x64x32x64_S256x1x64x32x64_0_0_0_0_0)
        (sitofp .bf16 (constantI S_ 32 0#32)) pads_S256x1x64x32x64_S256x1x64x32x128_000_000_000_000_0640 h_S_⟩,
      ⟨S256x1x64x32x128, pad S256x1x64x32x128 ![0, 0, 0, 0, 64] ![0, 0, 0, 0, 0] ![0, 0, 0, 0, 0]
        (extractStridedSlice S256x1x64x32x64 ![0, 1, 0, 0, 0] (pairs x) slices_S256x2x64x32x64_S256x1x64x32x64_0_1_0_0_0)
        (sitofp .bf16 (constantI S_ 32 0#32)) pads_S256x1x64x32x64_S256x1x64x32x128_000_000_000_000_6400 h_S_⟩]
    concatenates_S256x1x64x32x128_S256x1x64x32x128_S256x2x64x32x128_d1) shapeCasts_S256x2x64x32x128_S32768x4096

theorem inner_rows : (V m c main_v7 : FVec Ideal S32768x4096 .bf16) = inner (m (c.tc.loc main_arg4)) := by
  sl_kernel_rfl

theorem inner_apply (x : FVec Ideal S32768x32x64 .f32) (T : Fin 32768) (W : Fin 4096) :
    inner x (ix2 T W)
      = if W.val % 128 / 64 = T.val / 64 % 2 then x (ix3 T ⟨W.val / 128, by omega⟩ ⟨W.val % 64, Nat.mod_lt _ (by decide)⟩) else 0 := by
  have hz : (FloatOps.sitofp (F := Ideal) .bf16 0#32 : EReal) = 0 := pad_zero _
  pointwise [inner, pairs]
  have hT := T.isLt
  have hW := W.isLt
  by_cases hp : W.val % 128 / 64 = T.val / 64 % 2
  · refine Eq.trans ?_ (if_pos hp).symm
    by_cases h1 : T.val / 64 % 2 < 1
    · refine (dif_pos h1).trans ?_
      have h2 : T.val / 128 < 256 ∧ T.val / 64 % 2 < 1 ∧ T.val % 64 < 64 ∧ W.val / 128 < 32 ∧ W.val % 128 < 64 := by omega
      refine (dif_pos h2).trans ?_
      have e : W.val % 128 = W.val % 64 := by omega
      exact congrArg x (ix3_congr rfl rfl e)
    · refine (dif_neg h1).trans ?_
      have h2 : T.val / 128 < 256 ∧ T.val / 64 % 2 - 1 < 1 ∧ T.val % 64 < 64 ∧ W.val / 128 < 32 ∧ 64 ≤ W.val % 128
        ∧ W.val % 128 - 64 < 64 := by omega
      refine (dif_pos h2).trans ?_
      have e₀ : T.val / 128 * 128 + (1 + (T.val / 64 % 2 - 1)) * 64 + T.val % 64 = T.val := by omega
      have e : W.val % 128 - 64 = W.val % 64 := by omega
      exact congrArg x (ix3_congr e₀ rfl e)
  · refine Eq.trans ?_ (if_neg hp).symm
    by_cases h1 : T.val / 64 % 2 < 1
    · refine (dif_pos h1).trans ?_
      have h2 : ¬(T.val / 128 < 256 ∧ T.val / 64 % 2 < 1 ∧ T.val % 64 < 64 ∧ W.val / 128 < 32 ∧ W.val % 128 < 64) := by omega
      exact (dif_neg h2).trans hz
    · refine (dif_neg h1).trans ?_
      have h2 : ¬(T.val / 128 < 256 ∧ T.val / 64 % 2 - 1 < 1 ∧ T.val % 64 < 64 ∧ W.val / 128 < 32 ∧ 64 ≤ W.val % 128
        ∧ W.val % 128 - 64 < 64) := by omega
      exact (dif_neg h2).trans hz

theorem decay_apply (x : FVec Ideal S32768x32 .f32) (T : Fin 32768) (d : Fin 128) (h : Fin 32) (hd : d.val = 32 + h.val) :
    pad S32768x128 ![0, 32] ![0, 64] ![0, 0] x (sitofp (F := Ideal) .f32 (constantI S_ 32 0#32))
      pads_S32768x32_S32768x128_000_32640 h_S_ (ix2 T d) = x (ix2 T h) := by
  pointwise
  refine (dif_pos (show 32 ≤ d.val ∧ d.val - 32 < 32 by omega)).trans ?_
  have e : (⟨d.val - 32, by omega⟩ : Fin 32) = h := Fin.ext (by show d.val - 32 = h.val; omega)
  exact congrArg (fun y => x (ix2 T y)) e

theorem nw_block (t : Fin cfg0.N) (z : Fin 1) (d : Fin 128) :
    (iblk m c 7 t : Vec Ideal S1x128 .f32) (ix2 z d) = (m (c.tc.loc main_arg7) : Vec Ideal S128 .f32) (ix1 d) := by
  have e' : ((cfg0.win 7).blk t).view.emb (ix2 z d) = (ix2 z d : S1x128.Idx) := by
    blk_ext [(blocks t).2.2.2.2.2.2.2.1]
  unfold iblk
  rw [View.read_apply, e']
  show (V m c main_v12 : Vec Ideal S1x128 .f32) (ix2 z d) = _
  rw [gain_row]
  pointwise

theorem g_block (t : Fin cfg0.N) (r : Fin 256) (d : Fin 128) (h : Fin 32) (hd : d.val = 32 + h.val) :
    (iblk m c 5 t : Vec Ideal S256x128 .f32) (ix2 r d) = (m (c.tc.loc main_arg5) : Vec Ideal S32768x32 .f32) (ix2 (tok t r) h) := by
  have e' : ((cfg0.win 5).blk t).view.emb (ix2 r d) = (ix2 (tok t r) d : S32768x128.Idx) := by
    blk_ext [(blocks t).2.2.2.2.2.1, tok]
  unfold iblk
  rw [View.read_apply, e']
  show (V m c main_v8 : Vec Ideal S32768x128 .f32) (ix2 (tok t r) d) = _
  rw [decay_rows]
  exact decay_apply _ _ _ _ hd

theorem a_block (t : Fin cfg0.N) (r : Fin 256) (d : Fin 2048) :
    (iblk m c 4 t : Vec Ideal S256x2048 .bf16) (ix2 r d)
      = if d.val % 128 / 64 = r.val / 64 % 2 then
          (m (c.tc.loc main_arg4) : Vec Ideal S32768x32x64 .f32)
            (ix3 (tok t r) ⟨16 * (t.val / 64 % 2) + d.val / 128, by omega⟩ ⟨d.val % 64, Nat.mod_lt _ (by decide)⟩)
        else (0 : EReal) := by
  have e' : ((cfg0.win 4).blk t).view.emb (ix2 r d) = (ix2 (tok t r) (wide t d) : S32768x4096.Idx) := by
    blk_ext [(blocks t).2.2.2.2.1, tok, wide]
  unfold iblk
  rw [View.read_apply, e']
  show (V m c main_v7 : Vec Ideal S32768x4096 .bf16) (ix2 (tok t r) (wide t d)) = _
  rw [inner_rows]
  refine (inner_apply _ (tok t r) (wide t d)).trans ?_
  have hN := lt_N t
  have hr : (tok t r).val = 256 * (t.val / 128 * 64 + t.val % 64) + r.val := rfl
  have hw : (wide t d).val = 2048 * (t.val / 64 % 2) + d.val := rfl
  have e₁ : (wide t d).val / 128 = 16 * (t.val / 64 % 2) + d.val / 128 := by omega
  have e₂ : (wide t d).val % 64 = d.val % 64 := by omega
  exact if_congr (by omega) (congrArg _ (ix3_congr rfl e₁ e₂)) rfl

end Cert.Kernel4Ideal.Rec

end
-- ==== Proof.Rec.Points.lean ====
/-
  One grid point on extended reals: its trips read the arrays' chunks, so the state it leaves and the block it writes are
  the recurrence's.
-/
module

public import proofs.«01_k».proof.Proof.Rec.Loop
public import proofs.«01_k».proof.Proof.Rec.Blocks

@[expose] public section

set_option maxRecDepth 16384

noncomputable section

namespace Cert.Kernel4Ideal.Rec

open Idealize.ShloMosaic Idealize.ShloMosaic.TcCoe Idealize.ShloMosaic.Tactic
open Cert.Kernel4Ideal Cert.Kernel4Ideal.Gen

theorem off_zero : ∀ (k : Fin k0_t1_loop.trips) (p : Fin 2), (k0_off2 k (BitVec.ofNat 32 (64 * p.val))) 0 = 128 * k.val + 64 * p.val := by
  decide +kernel

theorem last_zero : ∀ (k : Fin k0_t1_loop.trips) (p : Fin 2), (k0_off1 k (BitVec.ofNat 32 (64 * p.val))) 0 = 128 * k.val + 64 * p.val + 63 := by
  decide +kernel

theorem last_one : ∀ (k : Fin k0_t1_loop.trips) (p : Fin 2), (k0_off1 k (BitVec.ofNat 32 (64 * p.val))) 1 = 0 := by
  decide +kernel

theorem trips_two (k : Fin k0_t1_loop.trips) : k.val < 2 :=
  (by decide +kernel : ∀ k : Fin k0_t1_loop.trips, k.val < 2) k

/-- Row `i` of half `p` of trip `k`, in the block. -/
def rowAt (k : Fin k0_t1_loop.trips) (p : Fin 2) (i : Fin 64) : Fin 256 :=
  ⟨128 * k.val + 64 * p.val + i.val, by have := trips_two k; omega⟩

/-- Entry `d` of head `h`, in the block. -/
def colAt (h : Fin 16) (d : Fin 128) : Fin 2048 := ⟨128 * h.val + d.val, by omega⟩

theorem emb_rows (k : Fin k0_t1_loop.trips) (p : Fin 2) (h : Fin 16) (i : Fin 64) (d : Fin 128) :
    (Rect.unit (s := S256x2048) (off k p h) S64x128.size (off_inb k p h)).emb (ix2 i d) = ix2 (rowAt k p i) (colAt h d) := by
  funext a
  apply Fin.ext
  fin_cases a
  · show (k0_off2 k (BitVec.ofNat 32 (64 * p.val))) 0 + 1 * i.val = 128 * k.val + 64 * p.val + i.val
    rw [off_zero]
    omega
  · show 128 * h.val + 1 * d.val = 128 * h.val + d.val
    omega

theorem rows_apply {e : EltTy} (v : View sig .tc .vmem S256x2048 e) (f : BufTy.Contents (Elt Ideal) v.ty)
    (k : Fin k0_t1_loop.trips) (p : Fin 2) (h : Fin 16) (i : Fin 64) (d : Fin 128) :
    rows v f k p h (ix2 i d) = v.read (Elt Ideal) f (ix2 (rowAt k p i) (colAt h d)) := by
  unfold rows
  rw [View.readAt_apply]
  exact congrArg (v.read (Elt Ideal) f) (emb_rows k p h i d)

variable (m : (ℓ : Loc nD τ sig) → Buf (Elt Ideal) ℓ) (c : Dev nD) (t : Fin cfg0.N)

/-- The arrays of the program. -/
def data : Cert.Rec.Data where
  u := m (c.tc.loc main_arg0)
  w := m (c.tc.loc main_arg1)
  q := m (c.tc.loc main_arg2)
  k := m (c.tc.loc main_arg3)
  a := m (c.tc.loc main_arg4)
  g := m (c.tc.loc main_arg5)

/-- The point's sequence and head group. -/
def seqOf : Fin 2 := ⟨t.val / 128, by have := lt_N t; omega⟩
def grpOf : Fin 2 := ⟨t.val / 64 % 2, Nat.mod_lt _ (by decide)⟩

/-- The chunk that half `p` of trip `k` treats. -/
def chunk (k : Fin k0_t1_loop.trips) (p : Fin 2) : ℕ := 4 * (t.val % 64) + 2 * k.val + p.val

/-- What trip `k` of the point reads. -/
def read (k : Fin k0_t1_loop.trips) : Reads Ideal :=
  reads (ms0_0 t) (ms0_1 t) (ms0_2 t) (ms0_3 t) (ms0_4 t) (ms0_5 t) (ms0_6 t) (BitVec.ofNat 32 ((grid0.coords t) 1).val) (iota .tc S1x128 32 [1] iota_S1x128_d1_w32)
    (View.readAt (Elt Ideal) (ms0_7 t).view (Rect.unit ![0, 0] S1x128.size inb_S1x128_S1x128_0_0).toLoadRect ((hs0_7 t).unread (iblk m c 7 t)))
    ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) k

theorem tok_row (k : Fin k0_t1_loop.trips) (p : Fin 2) (i : Fin 64) :
    tok t (rowAt k p i) = Cert.Rec.row (seqOf t) (chunk t k p) i := by
  have := lt_N t
  have := trips_two k
  apply Fin.ext
  show 256 * (t.val / 128 * 64 + t.val % 64) + (128 * k.val + 64 * p.val + i.val)
    = (16384 * (t.val / 128) + 64 * (4 * (t.val % 64) + 2 * k.val + p.val) + i.val) % 32768
  omega

theorem wide_col (h : Fin 16) (d : Fin 128) : wide t (colAt h d) = Cert.Rec.col (headOf (grpOf t) h) d := by
  apply Fin.ext
  show 2048 * (t.val / 64 % 2) + (128 * h.val + d.val) = 128 * (16 * (t.val / 64 % 2) + h.val) + d.val
  omega

theorem group_word (t : Fin cfg0.N) : BitVec.ofNat 32 ((grid0.coords t) 1).val = BitVec.ofNat 32 (t.val / 64 % 2) :=
  (by decide +kernel : ∀ t : Fin grid0.N, BitVec.ofNat 32 ((grid0.coords t) 1).val = BitVec.ofNat 32 (t.val / 64 % 2)) t

theorem lanes_word (l : Fin 128) : (iota .tc S1x128 32 [1] iota_S1x128_d1_w32 : IVec S1x128 32) (ix2 0 l) = BitVec.ofNat 32 l.val := by
  pointwise

theorem decay_row (k : Fin k0_t1_loop.trips) (p : Fin 2) (l : Fin 128) :
    (read m c t k).g p (ix2 0 l) = (iblk m c 5 t : Vec Ideal S256x128 .f32) (ix2 (rowAt k p 63) l) := by
  show View.readAt (Elt Ideal) (ms0_5 t).view (Rect.unit (s := S256x128) (k0_off1 k (BitVec.ofNat 32 (64 * p.val))) S1x128.size (k0_off1_inb k p)).toLoadRect
    ((hs0_5 t).unread (iblk m c 5 t)) (ix2 0 l) = _
  rw [View.readAt_apply, (hs0_5 t).read_unread]
  refine congrArg (iblk m c 5 t : Vec Ideal S256x128 .f32) ?_
  funext a
  apply Fin.ext
  fin_cases a
  · show (k0_off1 k (BitVec.ofNat 32 (64 * p.val))) 0 + 1 * 0 = 128 * k.val + 64 * p.val + 63
    rw [last_zero]
  · show (k0_off1 k (BitVec.ofNat 32 (64 * p.val))) 1 + 1 * l.val = l.val
    rw [last_one]
    omega

theorem gain_entry (k : Fin k0_t1_loop.trips) (d : Fin 128) :
    (read m c t k).nw (ix2 0 d) = (m (c.tc.loc main_arg7) : Vec Ideal S128 .f32) (ix1 d) := by
  rw [← nw_block m c t 0 d]
  show View.readAt (Elt Ideal) (ms0_7 t).view (Rect.unit (s := S1x128) ![0, 0] S1x128.size inb_S1x128_S1x128_0_0).toLoadRect
    ((hs0_7 t).unread (iblk m c 7 t)) (ix2 0 d) = _
  rw [View.readAt_apply, (hs0_7 t).read_unread]
  refine congrArg (iblk m c 7 t : Vec Ideal S1x128 .f32) ?_
  funext a
  apply Fin.ext
  fin_cases a
  · rfl
  · show 0 + 1 * d.val = d.val
    omega

theorem gate_entry (k : Fin k0_t1_loop.trips) (p : Fin 2) (h : Fin 16) (i : Fin 64) (d : Fin 128) :
    (read m c t k).z p h (ix2 i d) = (m (c.tc.loc main_arg6) : Vec Ideal S32768x4096 .f32)
      (ix2 (Cert.Rec.row (seqOf t) (chunk t k p) i) (Cert.Rec.col (headOf (grpOf t) h) d)) := by
  refine (rows_apply (ms0_6 t).view _ k p h i d).trans ?_
  rw [(hs0_6 t).read_unread, z_block, tok_row, wide_col]

/-- What a trip reads are the arrays at its chunks. -/
theorem agrees (k : Fin k0_t1_loop.trips) (p : Fin 2) :
    Agrees (read m c t k) p (data m c) (seqOf t) (grpOf t) (chunk t k p) where
  u h i d := by
    refine (rows_apply (ms0_0 t).view _ k p h i d).trans ?_
    rw [(hs0_0 t).read_unread, u_block, tok_row, wide_col]
    rfl
  w h i d := by
    refine (rows_apply (ms0_1 t).view _ k p h i d).trans ?_
    rw [(hs0_1 t).read_unread, w_block, tok_row, wide_col]
    rfl
  q h i d := by
    refine (rows_apply (ms0_2 t).view _ k p h i d).trans ?_
    rw [(hs0_2 t).read_unread, q_block, tok_row, wide_col]
    rfl
  k h i d := by
    refine (rows_apply (ms0_3 t).view _ k p h i d).trans ?_
    rw [(hs0_3 t).read_unread, k_block, tok_row, wide_col]
    rfl
  a h i j := by
    refine (rows_apply (ms0_4 t).view _ k p h i j).trans ?_
    rw [(hs0_4 t).read_unread, a_block, tok_row]
    have e₁ : (128 * h.val + j.val) % 128 / 64 = j.val / 64 := by omega
    have e₂ : (128 * k.val + 64 * p.val + i.val) / 64 % 2 = p.val := by omega
    have e₃ : 16 * (t.val / 64 % 2) + (128 * h.val + j.val) / 128 = 16 * (t.val / 64 % 2) + h.val := by omega
    have e₄ : (128 * h.val + j.val) % 64 = j.val % 64 := by omega
    refine if_congr ?_ (congrArg _ (ix3_congr rfl e₃ e₄)) rfl
    show (128 * h.val + j.val) % 128 / 64 = (128 * k.val + 64 * p.val + i.val) / 64 % 2 ↔ _
    rw [e₁, e₂]
  g h := by
    rw [last_eq _ p h (grpOf t) lanes_word (group_word t), decay_row,
      g_block m c t _ _ (headOf (grpOf t) h) (by show 32 + 16 * (grpOf t).val + h.val = 32 + (16 * (grpOf t).val + h.val); omega), tok_row]
    rfl

end Cert.Kernel4Ideal.Rec

end
-- ==== Proof.Rec.Values.lean ====
/-
  The kernel's result at every element: the recurrence's, normalised and gated.
-/
module

public import proofs.«01_k».proof.Proof.Rec.Points

@[expose] public section

set_option maxRecDepth 16384

noncomputable section

namespace Cert.Kernel4Ideal.Rec

open Idealize.ShloMosaic Idealize.ShloMosaic.TcCoe Idealize.ShloMosaic.Tactic
open Cert.Kernel4Ideal Cert.Kernel4Ideal.Gen

variable (m : (ℓ : Loc nD τ sig) → Buf (Elt Ideal) ℓ) (c : Dev nD) (t : Fin cfg0.N)

/-- What the program's result array should hold. -/
def whole : S32768x4096.Idx → EReal := fun i =>
  Cert.Rec.resultAt (data m c) (m (c.tc.loc main_arg6)) (m (c.tc.loc main_arg7)) (i 0) (i 1)

/-- What the point's block of it should hold. -/
def part : S256x2048.Idx → EReal := fun y => whole m c (ix2 (tok t (y 0)) (wide t (y 1)))

theorem chunk_lt (k : Fin k0_t1_loop.trips) (p : Fin 2) : chunk t k p < 256 := by
  have := trips_two k
  show 4 * (t.val % 64) + 2 * k.val + p.val < 256
  omega

theorem covers (k : Fin k0_t1_loop.trips) (p : Fin 2) (S : States Ideal)
    (hS : ∀ h, mat S h = Cert.Rec.state (data m c) (seqOf t) (headOf (grpOf t) h) (chunk t k p)) :
    Covers (read m c t k) k p S (part m c t) := by
  intro P hP h x
  obtain ⟨i, d, rfl⟩ : ∃ (i : Fin 64) (d : Fin 128), x = ix2 i d := ⟨x 0, x 1, eq_ix2 x⟩
  rw [emb_rows, res_apply]
  show _ = Cert.Rec.resultAt (data m c) (m (c.tc.loc main_arg6)) (m (c.tc.loc main_arg7)) (tok t (rowAt k p i)) (wide t (colAt h d))
  rw [tok_row, wide_col, Cert.Rec.resultAt_row_col _ _ _ _ _ _ (chunk_lt t k p), gain_entry, gate_entry]
  unfold Cert.Rec.result
  refine congrArg (Cert.Rec.gated · _ _ d) (funext fun e => ?_)
  rw [(agrees m c t k p).out_eq h (hP h), hS]

/-- The state a point starts from, head by head. -/
def held (s : Carried Ideal) : States Ideal := heads scM0_0.view ((Memref.isWhole_whole cc0_scratch0).unread s.1)

theorem trips_eq : Scf.trips k0_t1_loop.lb k0_t1_loop.ub k0_t1_loop.st = 2 := by decide +kernel

theorem written_eq (s : Carried Ideal) : written m c t s = pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (BitVec.ofNat 32 ((grid0.coords t) 1).val) (iota .tc S1x128 32 [1] iota_S1x128_d1_w32) (View.readAt (Elt Ideal) (ms0_7 t).view (Rect.unit ![0, 0] S1x128.size inb_S1x128_S1x128_0_0).toLoadRect ((hs0_7 t).unread (iblk m c 7 t))) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) (ms0_8 t).view.junk ((Memref.isWhole_whole cc0_scratch0).unread s.1) ((Memref.isWhole_whole cc0_scratch1).unread s.2) 2 := by
  unfold written pieces
  rw [trips_eq]

/-- The states between a point's chunks. -/
def held₁ (s : Carried Ideal) : States Ideal := (read m c t k0).next 0 (held s)
def held₂ (s : Carried Ideal) : States Ideal := (read m c t k0).next 1 (held₁ m c t s)
def held₃ (s : Carried Ideal) : States Ideal := (read m c t k1).next 0 (held₂ m c t s)
def held₄ (s : Carried Ideal) : States Ideal := (read m c t k1).next 1 (held₃ m c t s)

theorem held_point (s : Carried Ideal) : held (point m c t s).2 = held₄ m c t s := by
  unfold held point
  dsimp only
  rw [(Memref.isWhole_whole cc0_scratch0).unread_read, written_eq]
  exact states_two Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (BitVec.ofNat 32 ((grid0.coords t) 1).val) (iota .tc S1x128 32 [1] iota_S1x128_d1_w32) (View.readAt (Elt Ideal) (ms0_7 t).view (Rect.unit ![0, 0] S1x128.size inb_S1x128_S1x128_0_0).toLoadRect ((hs0_7 t).unread (iblk m c 7 t))) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) (ms0_8 t).view.junk ((Memref.isWhole_whole cc0_scratch0).unread s.1) ((Memref.isWhole_whole cc0_scratch1).unread s.2)

section

variable (s : Carried Ideal)
  (hS : ∀ h, mat (held s) h = Cert.Rec.state (data m c) (seqOf t) (headOf (grpOf t) h) (4 * (t.val % 64)))
include hS

theorem mat₁ (h : Fin 16) : mat (held₁ m c t s) h = Cert.Rec.state (data m c) (seqOf t) (headOf (grpOf t) h) (4 * (t.val % 64) + 1) := by
  unfold held₁
  rw [(agrees m c t k0 0).mat_next, hS]
  rfl

theorem mat₂ (h : Fin 16) : mat (held₂ m c t s) h = Cert.Rec.state (data m c) (seqOf t) (headOf (grpOf t) h) (4 * (t.val % 64) + 2) := by
  unfold held₂
  rw [(agrees m c t k0 1).mat_next, mat₁ m c t s hS]
  rfl

theorem mat₃ (h : Fin 16) : mat (held₃ m c t s) h = Cert.Rec.state (data m c) (seqOf t) (headOf (grpOf t) h) (4 * (t.val % 64) + 3) := by
  unfold held₃
  rw [(agrees m c t k1 0).mat_next, mat₂ m c t s hS]
  rfl

theorem mat₄ (h : Fin 16) : mat (held₄ m c t s) h = Cert.Rec.state (data m c) (seqOf t) (headOf (grpOf t) h) (4 * (t.val % 64) + 4) := by
  unfold held₄
  rw [(agrees m c t k1 1).mat_next, mat₃ m c t s hS]
  rfl

set_option maxHeartbeats 1000000 in
theorem pieces_part : ∀ q ∈ (written m c t s).1, ∀ x, q.2 x = part m c t (q.1.emb x) := by
  have h0 := covers m c t k0 0 (held s) hS
  have h1 := covers m c t k0 1 (held₁ m c t s) (mat₁ m c t s hS)
  have h2 := covers m c t k1 0 (held₂ m c t s) (mat₂ m c t s hS)
  have h3 := covers m c t k1 1 (held₃ m c t s) (mat₃ m c t s hS)
  have e := written_eq m c t s
  generalize part m c t = G at h0 h1 h2 h3 ⊢
  rw [e]
  refine results_two Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (BitVec.ofNat 32 ((grid0.coords t) 1).val) (iota .tc S1x128 32 [1] iota_S1x128_d1_w32) (View.readAt (Elt Ideal) (ms0_7 t).view (Rect.unit ![0, 0] S1x128.size inb_S1x128_S1x128_0_0).toLoadRect ((hs0_7 t).unread (iblk m c 7 t))) ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) ((hs0_6 t).unread (iblk m c 6 t)) (ms0_8 t).view.junk ((Memref.isWhole_whole cc0_scratch0).unread s.1) ((Memref.isWhole_whole cc0_scratch1).unread s.2) G ?_ ?_ ?_ ?_
  · exact h0
  · exact h1
  · exact h2
  · exact h3

theorem point_part (y : S256x2048.Idx) : (point m c t s).1 y = part m c t y := by
  have hp := pieces_part m c t s hS
  have hy := written_cover m c t s y
  have e : (point m c t s).1 = VO0_8.read (Elt Ideal) (VO0_8.writes (Elt Ideal) VO0_8.junk (written m c t s).1) := rfl
  rw [e]
  generalize (written m c t s).1 = L at hp hy ⊢
  exact View.read_writes_apply_of_pieces VO0_8 VO0_8.junk (part m c t) L hp y hy

end

theorem held_zeros (h : Fin 16) : mat (held zeros) h = fun _ _ => 0 := by
  funext e d
  unfold mat held zeros
  rw [heads_apply, (Memref.isWhole_whole cc0_scratch0).read_unread]
  pointwise [k0_pay1]

/-- The scratch contents point `n` starts from. -/
def start : (n : ℕ) → n < cfg0.N → Carried Ideal
  | 0, _ => zeros
  | n + 1, hn => if (n + 1) % 64 = 0 then zeros else (left m c n (Nat.lt_of_succ_lt hn)).2

theorem left_eq (n : ℕ) (hn : n < cfg0.N) : left m c n hn = point m c ⟨n, hn⟩ (start m c n hn) := by
  cases n <;> rfl

theorem start_state : ∀ (n : ℕ) (hn : n < cfg0.N) (h : Fin 16),
    mat (held (start m c n hn)) h
      = Cert.Rec.state (data m c) (seqOf ⟨n, hn⟩) (headOf (grpOf ⟨n, hn⟩) h) (4 * (n % 64))
  | 0, _, h => held_zeros h
  | n + 1, hn, h => by
    by_cases h0 : (n + 1) % 64 = 0
    · rw [show start m c (n + 1) hn = zeros from if_pos h0, held_zeros, h0]
      rfl
    · have hn' := Nat.lt_of_succ_lt hn
      rw [show start m c (n + 1) hn = (left m c n hn').2 from if_neg h0, left_eq, held_point,
        mat₄ m c ⟨n, hn'⟩ _ (start_state n hn') h]
      have e₁ : seqOf ⟨n, hn'⟩ = seqOf ⟨n + 1, hn⟩ := Fin.ext (by
        show n / 128 = (n + 1) / 128
        omega)
      have e₂ : grpOf ⟨n, hn'⟩ = grpOf ⟨n + 1, hn⟩ := Fin.ext (by
        show n / 64 % 2 = (n + 1) / 64 % 2
        omega)
      have e₃ : 4 * (n % 64) + 4 = 4 * ((n + 1) % 64) := by omega
      rw [e₁, e₂]
      exact congrArg _ e₃

/-- What a point writes back. -/
theorem left_part (y : S256x2048.Idx) : (left m c t.val t.isLt).1 y = part m c t y := by
  rw [left_eq]
  exact point_part m c t _ (start_state m c t.val t.isLt) y

end Cert.Kernel4Ideal.Rec

end
-- ==== Proof.Rec.Final.lean ====
/-
  The kernel's result array: every element is the recurrence's result at its token and column.
-/
module

public import proofs.«01_k».proof.Proof.Rec.Values

@[expose] public section

set_option maxRecDepth 16384

noncomputable section

namespace Cert.Kernel4Ideal.Rec

open Idealize.ShloMosaic Idealize.ShloMosaic.TcCoe Idealize.SL.Sem
open Cert.Kernel4Ideal Cert.Kernel4Ideal.Gen

variable (m : (ℓ : Loc nD τ sig) → Buf (Elt Ideal) ℓ) (ρ : Dev nD → PrngReg)

theorem flushed_whole (c : Dev nD) (t : Fin cfg0.N) :
    (dats m 0 c).flushed 8 t = ((cfg0.win 8).blk t).view.read (Elt Ideal) (whole m c) := by
  show (cfg0.win 8).cut (grid0.coords t) ((dats m 0 c).after 8 t) = _
  rw [after_8]
  funext y
  have hx : win0_8.index t = ![t.val / 128 * 64 + t.val % 64, t.val / 64 % 2] := (blocks t).2.2.2.2.2.2.2.2
  have hb0 : (((cfg0.win 8).blk t).view.emb y 0).val = win0_8.index t (0 : Fin 2) * 256 + 1 * (y 0).val := rfl
  have hb1 : (((cfg0.win 8).blk t).view.emb y 1).val = win0_8.index t (1 : Fin 2) * 2048 + 1 * (y 1).val := rfl
  rw [hx] at hb0 hb1
  show (left m c t.val t.isLt).1 ((cfg0.win 8).xinj (grid0.coords t) y) = whole m c (((cfg0.win 8).blk t).view.emb y)
  rw [left_part]
  refine congrArg (whole m c) ?_
  funext a
  apply Fin.ext
  match a with
  | ⟨0, _⟩ =>
    refine Eq.trans ?_ hb0.symm
    show 256 * (t.val / 128 * 64 + t.val % 64) + (y 0).val = (t.val / 128 * 64 + t.val % 64) * 256 + 1 * (y 0).val
    omega
  | ⟨1, _⟩ =>
    refine Eq.trans ?_ hb1.symm
    show 2048 * (t.val / 64 % 2) + (y 1).val = (t.val / 64 % 2) * 2048 + 1 * (y 1).val
    omega

/-- The point that writes the block of element `i`. -/
def owner (i : S32768x4096.Idx) : Fin cfg0.N :=
  ⟨(i 0).val / 16384 * 128 + (i 1).val / 2048 * 64 + (i 0).val / 256 % 64, lt_of_lt_of_eq (by
    have h0 : (i 0).val < 32768 := (i 0).isLt
    have h1 : (i 1).val < 4096 := (i 1).isLt
    omega) N_0.symm⟩

theorem mem_owner (i : S32768x4096.Idx) : i ∈ ((cfg0.win 8).blk (owner i)).view.set := by
  have hx : win0_8.index (owner i) = ![(owner i).val / 128 * 64 + (owner i).val % 64, (owner i).val / 64 % 2] :=
    (blocks (owner i)).2.2.2.2.2.2.2.2
  have h0 : (i 0).val < 32768 := (i 0).isLt
  have h1 : (i 1).val < 4096 := (i 1).isLt
  have ho : (owner i).val = (i 0).val / 16384 * 128 + (i 1).val / 2048 * 64 + (i 0).val / 256 % 64 := rfl
  show i ∈ ((View.whole main_v13).slice (win0_8.rect (owner i))).set
  rw [View.set_slice_whole, Rect.mem_set_unit]
  intro a
  match a with
  | ⟨0, _⟩ =>
    show win0_8.index (owner i) (0 : Fin 2) * 256 ≤ (i 0).val ∧ (i 0).val < win0_8.index (owner i) (0 : Fin 2) * 256 + 256
    rw [hx]
    show ((owner i).val / 128 * 64 + (owner i).val % 64) * 256 ≤ (i 0).val ∧ (i 0).val < ((owner i).val / 128 * 64 + (owner i).val % 64) * 256 + 256
    omega
  | ⟨1, _⟩ =>
    show win0_8.index (owner i) (1 : Fin 2) * 2048 ≤ (i 1).val ∧ (i 1).val < win0_8.index (owner i) (1 : Fin 2) * 2048 + 2048
    rw [hx]
    show (owner i).val / 64 % 2 * 2048 ≤ (i 1).val ∧ (i 1).val < (owner i).val / 64 % 2 * 2048 + 2048
    omega

theorem array_whole (c : Dev nD) : (dats m 0 c).arrAt 8 cfg0.N = whole m c :=
  (dats m 0 c).arrAt_eq_of_cover 8 _ (fun t _ => flushed_whole m c t) (fun i => ⟨owner i, flush0_8 _, mem_owner i⟩)

/-- The kernel's run: its result is the recurrence's, its arguments are unchanged. -/
theorem run : θ_run defs (onTc (τ := τ) (main (F := Ideal))) ⟨m, fun _ => 0, ρ⟩ (fun r => (∀ c : Dev nD,
      r.2.mem ((c.tc : Thread nD τ).loc main_v13) = whole m c) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  θ_run_and ((θ_run defs _ _).mono (fun _ h c => (h c).trans (array_whole m c)) (result m ρ))
    ((θ_run defs _ _).mono (fun _ h => h.1) (frame m ρ))

end Cert.Kernel4Ideal.Rec

end
-- ==== Proof.Rec.RefRun.lean ====
/-
  The plain recurrence as a sequence of states: what the loop's buffers hold before each trip.
-/
module

public import proofs.«01_k».proof.Proof.Gen.Reference4Ideal.Run
public import proofs.«01_k».proof.Proof.Gen.Reference4Ideal.Step
public import Idealize.ShloMosaic.PureOps.Ideal

@[expose] public section

set_option maxRecDepth 16384

noncomputable section

namespace Cert.Rec.Ref

open Idealize.ShloMosaic Idealize.ShloMosaic.TcCoe Idealize.SL.Sem Idealize.ShloMosaic.StableHlo
open Cert.Reference4Ideal Cert.Reference4Ideal.Gen Cert.Reference4Ideal.Value
open Cert.Reference4Ideal.Step (State step init)

/-- The loop's buffers as one state. -/
def seen (V : Valuation τ sig (Elt Ideal)) : State Ideal where
  main_v16_7 := V (Proc.devRef .tc main_v16_7)
  main_v16_8 := V (Proc.devRef .tc main_v16_8)
  main_v16_0 := V (Proc.devRef .tc main_v16_0)
  main_v16_1 := V (Proc.devRef .tc main_v16_1)
  main_v16_2 := V (Proc.devRef .tc main_v16_2)
  main_v16_3 := V (Proc.devRef .tc main_v16_3)
  main_v16_4 := V (Proc.devRef .tc main_v16_4)
  main_v16_5 := V (Proc.devRef .tc main_v16_5)

/-- The buffer of the trip's number holds `j`. -/
def Counts (V : Valuation τ sig (Elt Ideal)) (j : ℕ) : Prop :=
  V (Proc.devRef .tc main_v16_6) = constantI S_ 32 (BitVec.ofNat 32 j)

theorem counts_step (V : Valuation τ sig (Elt Ideal)) (j : ℕ) (hj : Counts V j) : Counts (STEP V) (j + 1) := by
  unfold Counts at *
  rw [STEP_main_v16_6]
  unfold step_main_v16_6
  rw [hj]
  funext i
  show BitVec.ofNat 32 j + 1#32 = BitVec.ofNat 32 (j + 1)
  simp only [BitVec.ofNat_add]

theorem matrix_step (V : Valuation τ sig (Elt Ideal)) (j : ℕ) (hj : Counts V j) :
    step_main_v16_7 V = Step.b44 j (seen V) := by
  unfold Counts at hj
  unfold step_main_v16_7 Step.b44 Step.b43 Step.b42 Step.b41 Step.b40 Step.b39 Step.b35 Step.b34 Step.b33 Step.b32 Step.b23
    Step.b22 Step.b17 Step.b16 Step.b11 Step.b10
  rw [← hj]
  rfl

theorem rows_step (V : Valuation τ sig (Elt Ideal)) (j : ℕ) (hj : Counts V j) :
    step_main_v16_8 V = Step.b50 j (seen V) := by
  unfold Counts at hj
  unfold step_main_v16_8 Step.b50 Step.b45 Step.b38 Step.b37 Step.b36 Step.b35 Step.b34 Step.b29 Step.b28 Step.b23
    Step.b22 Step.b17 Step.b16 Step.b5 Step.b4
  rw [← hj]
  rfl

theorem seen_step (V : Valuation τ sig (Elt Ideal)) (j : ℕ) (hj : Counts V j) : seen (STEP V) = step j (seen V) := by
  unfold seen
  rw [STEP_main_v16_7, STEP_main_v16_8, STEP_main_v16_0, STEP_main_v16_1, STEP_main_v16_2, STEP_main_v16_3,
    STEP_main_v16_4, STEP_main_v16_5, matrix_step V j hj, rows_step V j hj]
  rfl

variable (m : (ℓ : Loc nD τ sig) → Buf (Elt Ideal) ℓ) (c : Dev nD)

/-- The state before trip `j`. -/
def states : ℕ → State Ideal
  | 0 => init (m (c.tc.loc main_arg0)) (m (c.tc.loc main_arg1)) (m (c.tc.loc main_arg2)) (m (c.tc.loc main_arg3))
      (m (c.tc.loc main_arg4)) (m (c.tc.loc main_arg5))
  | j + 1 => step j (states j)

theorem entry : seen (entryContents preI m c) = states m c 0 ∧ Counts (entryContents preI m c) 0 := by
  unfold seen Counts states
  constructor
  · simp only [entryContents, afterL_cons, afterL_nil]
    after_reads_simp
    rfl
  · simp only [entryContents, afterL_cons, afterL_nil]
    after_reads_simp
    rfl

theorem iterates : ∀ k, seen (STEP^[k] (entryContents preI m c)) = states m c k ∧ Counts (STEP^[k] (entryContents preI m c)) k
  | 0 => entry m c
  | k + 1 => by
    rw [Function.iterate_succ_apply']
    have ih := iterates k
    exact ⟨(seen_step _ k ih.2).trans (congrArg (step k) ih.1), counts_step _ k ih.2⟩

/-- What the operations after the loop make of a state. -/
theorem after_loop (V : Valuation τ sig (Elt Ideal)) (s : State Ideal) (x6 : (⟨S32768x4096, .f32⟩ : BufTy).Contents (Elt Ideal))
    (x7 : (⟨S128, .f32⟩ : BufTy).Contents (Elt Ideal)) (h : V (Proc.devRef .tc main_v16_8) = s.main_v16_8)
    (h6 : V (Proc.devRef .tc main_arg6) = x6) (h7 : V (Proc.devRef .tc main_arg7) = x7) :
    out_main_v36 V = Step.R_main_v36 s x6 x7 := by
  unfold out_main_v36 Step.R_main_v36
  rw [h, h6, h7]
  rfl

/-- The result the operations after the loop make of the buffers after `n` trips. -/
theorem result_eq (n : ℕ) : out_main_v36 (STEP^[n] (entryContents preI m c))
    = Step.R_main_v36 (states m c n) (m (c.tc.loc main_arg6)) (m (c.tc.loc main_arg7)) :=
  after_loop _ _ _ _ (congrArg State.main_v16_8 (iterates m c n).1) (iter_main_arg6 m c n) (iter_main_arg7 m c n)

/-- The reference's run: the result is made of the state after 256 trips. -/
theorem run (ρ : Dev nD → PrngReg) :
    θ_run defs (onTc (τ := τ) (main (F := Ideal))) ⟨m, fun _ => 0, ρ⟩ fun r => ∀ c : Dev nD,
      r.2.mem (c.tc.loc main_v36)
          = Step.R_main_v36 (states m c 256) (m (c.tc.loc main_arg6)) (m (c.tc.loc main_arg7))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7) :=
  (θ_run defs _ _).mono (fun _ h c => ⟨(h c).1.trans (result_eq m c 256), (h c).2⟩) (Value.run (F := Ideal) m ρ)

end Cert.Rec.Ref

end
-- ==== Proof.Rec.RefValue.lean ====
/-
  The plain recurrence's result, one scalar at a time.
-/
module

public import proofs.«01_k».proof.Proof.Rec.RefRun
public import proofs.«01_k».proof.Proof.Rec.Spec
public import Idealize.ShloMosaic.Lib.Pointwise
public import Idealize.ShloMosaic.Lib.DynamicIndex

@[expose] public section

set_option maxRecDepth 16384

noncomputable section

namespace Cert.Rec.Ref

open Idealize.ShloMosaic Idealize.ShloMosaic.TcCoe Idealize.ShloMosaic.StableHlo
open Cert.Reference4Ideal Cert.Reference4Ideal.Gen
open Cert.Reference4Ideal.Step (State step init)

/-- A trip's number, read as the first of the starts of a slice. -/
theorem word_nat (n : ℕ) (hn : n < 256) : (BitVec.ofNat 32 n).toInt = (n : ℤ) := by
  rw [BitVec.toInt_eq_toNat_cond, BitVec.toNat_ofNat]
  rw [Nat.mod_eq_of_lt (by omega)]
  rw [if_pos (by omega)]

section slices

variable (s : State Ideal) (j : ℕ) (hj : j < 256)

include hj in
theorem slices_wide : S256x2x32x64x128.Slices ![j, 0, 0, 0, 0] S1x2x32x64x128 := ⟨rfl, by
  intro a; fin_cases a
  · show j + 1 ≤ 256; omega
  all_goals exact le_of_eq rfl⟩

include hj in
theorem slices_inner : S256x2x32x64x64.Slices ![j, 0, 0, 0, 0] S1x2x32x64x64 := ⟨rfl, by
  intro a; fin_cases a
  · show j + 1 ≤ 256; omega
  all_goals exact le_of_eq rfl⟩

include hj in
theorem slices_decay : S256x2x32.Slices ![j, 0, 0] S1x2x32 := ⟨rfl, by
  intro a; fin_cases a
  · show j + 1 ≤ 256; omega
  all_goals exact le_of_eq rfl⟩

theorem q_slice (b : Fin 2) (h : Fin 32) (i : Fin 64) (d : Fin 128) :
    Step.b5 j s (ix4 b h i d) = s.main_v16_0 (ix5 ⟨j, hj⟩ b h i d) := by
  unfold Step.b5 Step.b4
  rw [Host.dynamicSlice_eq_extractStridedSlice _ _ _ ![j, 0, 0, 0, 0] _ (slices_wide j hj) (by
    intro a; fin_cases a
    · exact word_nat j hj
    all_goals rfl)]
  pointwise

theorem k_slice (b : Fin 2) (h : Fin 32) (i : Fin 64) (d : Fin 128) :
    Step.b11 j s (ix4 b h i d) = s.main_v16_1 (ix5 ⟨j, hj⟩ b h i d) := by
  unfold Step.b11 Step.b10
  rw [Host.dynamicSlice_eq_extractStridedSlice _ _ _ ![j, 0, 0, 0, 0] _ (slices_wide j hj) (by
    intro a; fin_cases a
    · exact word_nat j hj
    all_goals rfl)]
  pointwise

theorem u_slice (b : Fin 2) (h : Fin 32) (i : Fin 64) (d : Fin 128) :
    Step.b17 j s (ix4 b h i d) = s.main_v16_2 (ix5 ⟨j, hj⟩ b h i d) := by
  unfold Step.b17 Step.b16
  rw [Host.dynamicSlice_eq_extractStridedSlice _ _ _ ![j, 0, 0, 0, 0] _ (slices_wide j hj) (by
    intro a; fin_cases a
    · exact word_nat j hj
    all_goals rfl)]
  pointwise

theorem w_slice (b : Fin 2) (h : Fin 32) (i : Fin 64) (d : Fin 128) :
    Step.b23 j s (ix4 b h i d) = s.main_v16_3 (ix5 ⟨j, hj⟩ b h i d) := by
  unfold Step.b23 Step.b22
  rw [Host.dynamicSlice_eq_extractStridedSlice _ _ _ ![j, 0, 0, 0, 0] _ (slices_wide j hj) (by
    intro a; fin_cases a
    · exact word_nat j hj
    all_goals rfl)]
  pointwise

theorem a_slice (b : Fin 2) (h : Fin 32) (i : Fin 64) (e : Fin 64) :
    Step.b29 j s (ix4 b h i e) = s.main_v16_4 (ix5 ⟨j, hj⟩ b h i e) := by
  unfold Step.b29 Step.b28
  rw [Host.dynamicSlice_eq_extractStridedSlice _ _ _ ![j, 0, 0, 0, 0] _ (slices_inner j hj) (by
    intro a; fin_cases a
    · exact word_nat j hj
    all_goals rfl)]
  pointwise

theorem g_slice (b : Fin 2) (h : Fin 32) :
    Step.b33 j s (ix2 b h) = s.main_v16_5 (ix3 ⟨j, hj⟩ b h) := by
  unfold Step.b33 Step.b32
  rw [Host.dynamicSlice_eq_extractStridedSlice _ _ _ ![j, 0, 0] _ (slices_decay j hj) (by
    intro a; fin_cases a
    · exact word_nat j hj
    all_goals rfl)]
  pointwise

theorem fresh_apply (b : Fin 2) (h : Fin 32) (i : Fin 64) (d : Fin 128) :
    Step.b35 j s (ix4 b h i d) = Step.b17 j s (ix4 b h i d)
      - ∑ e : Fin 128, Step.b23 j s (ix4 b h i e) * s.main_v16_7 (ix4 b h e d) := by
  unfold Step.b35 Step.b34
  pointwise

theorem out_apply (b : Fin 2) (h : Fin 32) (i : Fin 64) (d : Fin 128) :
    Step.b38 j s (ix4 b h i d) = ∑ e : Fin 128, Step.b5 j s (ix4 b h i e) * s.main_v16_7 (ix4 b h e d)
      + ∑ e : Fin 64, Step.b29 j s (ix4 b h i e) * Step.b35 j s (ix4 b h e d) := by
  unfold Step.b38 Step.b37 Step.b36
  pointwise

theorem next_apply (b : Fin 2) (h : Fin 32) (e d : Fin 128) :
    Step.b44 j s (ix4 b h e d) = s.main_v16_7 (ix4 b h e d) * Ideal.exp (Step.b33 j s (ix2 b h))
      + ∑ i : Fin 64, Step.b11 j s (ix4 b h i e) * Step.b35 j s (ix4 b h i d) := by
  unfold Step.b44 Step.b43 Step.b42 Step.b41 Step.b40 Step.b39
  pointwise

include hj in
theorem rows_apply (n : Fin 256) (b : Fin 2) (h : Fin 32) (i : Fin 64) (d : Fin 128) :
    Step.b50 j s (ix5 n b h i d) = if n.val = j then Step.b38 j s (ix4 b h i d) else s.main_v16_8 (ix5 n b h i d) := by
  unfold Step.b50 Step.b45
  rw [Host.dynamicUpdateSlice_eq_updateSlice _ _ _ _ ![j, 0, 0, 0, 0] (by
    intro a; fin_cases a
    · show (min (max ((BitVec.ofNat 32 j).toInt) 0) (((256 - 1 : ℕ)) : ℤ)).toNat = j
      rw [word_nat j hj]; omega
    all_goals rfl) (slices_wide j hj)]
  by_cases hn : n.val = j
  · rw [if_pos hn]
    refine (updateSlice_apply ..).trans ((dif_pos ?_).trans ?_)
    · intro a
      fin_cases a
      · show j ≤ n.val ∧ n.val < j + 1
        omega
      · exact ⟨Nat.zero_le _, (Nat.zero_add 2).symm ▸ b.isLt⟩
      · exact ⟨Nat.zero_le _, (Nat.zero_add 32).symm ▸ h.isLt⟩
      · exact ⟨Nat.zero_le _, (Nat.zero_add 64).symm ▸ i.isLt⟩
      · exact ⟨Nat.zero_le _, (Nat.zero_add 128).symm ▸ d.isLt⟩
    · pointwise
  · rw [if_neg hn]
    refine (updateSlice_apply ..).trans (dif_neg ?_)
    intro hin
    have h0 : j ≤ n.val ∧ n.val < j + 1 := hin 0
    omega

end slices

section entry

theorem row_eq (b : Fin 2) (n : Fin 256) (i : Fin 64) (x : Fin 32768) (hx : x.val = b.val * 16384 + n.val * 64 + i.val) : x = row b n.val i :=
  Fin.ext (by
    show x.val = (16384 * b.val + 64 * n.val + i.val) % 32768
    omega)

theorem col_eq (h : Fin 32) (d : Fin 128) (x : Fin 4096) (hx : x.val = h.val * 128 + d.val) : x = col h d :=
  Fin.ext (by
    show x.val = 128 * h.val + d.val
    omega)

variable (a0 a1 a2 a3 : (⟨S32768x4096, .f32⟩ : BufTy).Contents (Elt Ideal)) (a4 : (⟨S32768x32x64, .f32⟩ : BufTy).Contents (Elt Ideal))
  (a5 : (⟨S32768x32, .f32⟩ : BufTy).Contents (Elt Ideal))

theorem q_entry (n : Fin 256) (b : Fin 2) (h : Fin 32) (i : Fin 64) (d : Fin 128) :
    (init a0 a1 a2 a3 a4 a5).main_v16_0 (ix5 n b h i d) = a2 (ix2 (row b n.val i) (col h d)) := by
  show Step.A_main_v5 a0 a1 a2 a3 a4 a5 (ix5 n b h i d) = _
  unfold Step.A_main_v5 Step.A_main_v4
  pointwise
  exact congrArg₂ (fun x y => a2 (ix2 x y)) (row_eq b n i _ rfl) (col_eq h d _ rfl)

theorem k_entry (n : Fin 256) (b : Fin 2) (h : Fin 32) (i : Fin 64) (d : Fin 128) :
    (init a0 a1 a2 a3 a4 a5).main_v16_1 (ix5 n b h i d) = a3 (ix2 (row b n.val i) (col h d)) := by
  show Step.A_main_v7 a0 a1 a2 a3 a4 a5 (ix5 n b h i d) = _
  unfold Step.A_main_v7 Step.A_main_v6
  pointwise
  exact congrArg₂ (fun x y => a3 (ix2 x y)) (row_eq b n i _ rfl) (col_eq h d _ rfl)

theorem u_entry (n : Fin 256) (b : Fin 2) (h : Fin 32) (i : Fin 64) (d : Fin 128) :
    (init a0 a1 a2 a3 a4 a5).main_v16_2 (ix5 n b h i d) = a0 (ix2 (row b n.val i) (col h d)) := by
  show Step.A_main_v9 a0 a1 a2 a3 a4 a5 (ix5 n b h i d) = _
  unfold Step.A_main_v9 Step.A_main_v8
  pointwise
  exact congrArg₂ (fun x y => a0 (ix2 x y)) (row_eq b n i _ rfl) (col_eq h d _ rfl)

theorem w_entry (n : Fin 256) (b : Fin 2) (h : Fin 32) (i : Fin 64) (d : Fin 128) :
    (init a0 a1 a2 a3 a4 a5).main_v16_3 (ix5 n b h i d) = a1 (ix2 (row b n.val i) (col h d)) := by
  show Step.A_main_v11 a0 a1 a2 a3 a4 a5 (ix5 n b h i d) = _
  unfold Step.A_main_v11 Step.A_main_v10
  pointwise
  exact congrArg₂ (fun x y => a1 (ix2 x y)) (row_eq b n i _ rfl) (col_eq h d _ rfl)

theorem a_entry (n : Fin 256) (b : Fin 2) (h : Fin 32) (i : Fin 64) (d : Fin 64) :
    (init a0 a1 a2 a3 a4 a5).main_v16_4 (ix5 n b h i d) = a4 (ix3 (row b n.val i) h d) := by
  show Step.A_main_v13 a0 a1 a2 a3 a4 a5 (ix5 n b h i d) = _
  unfold Step.A_main_v13 Step.A_main_v12
  pointwise
  exact congrArg (fun x => a4 (ix3 x h d)) (row_eq b n i _ rfl)

theorem g_entry (n : Fin 256) (b : Fin 2) (h : Fin 32) :
    (init a0 a1 a2 a3 a4 a5).main_v16_5 (ix3 n b h) = a5 (ix2 (row b n.val 63) h) := by
  show Step.A_main_v3 a0 a1 a2 a3 a4 a5 (ix3 n b h) = _
  unfold Step.A_main_v3 Step.A_main_v2 Step.A_main_v1 Step.A_main_v0
  pointwise
  exact congrArg (fun x => a5 (ix2 x h)) (row_eq b n 63 _ rfl)

end entry

/-- The operations after the loop, at an element of head `e / 128`. -/
theorem final_apply (s : State Ideal) (x6 : (⟨S32768x4096, .f32⟩ : BufTy).Contents (Elt Ideal))
    (x7 : (⟨S128, .f32⟩ : BufTy).Contents (Elt Ideal)) (r : Fin 32768) (e : Fin 4096) :
    Step.R_main_v36 s x6 x7 (ix2 r e)
      = gated (fun d => s.main_v16_8 (ix5 ⟨r.val / 64 % 256, Nat.mod_lt _ (by decide)⟩ ⟨r.val / 16384, by omega⟩ ⟨e.val / 128, by omega⟩
            ⟨r.val % 64, Nat.mod_lt _ (by decide)⟩ d))
          (x7 (ix1 ⟨e.val % 128, Nat.mod_lt _ (by decide)⟩)) (x6 (ix2 r e)) ⟨e.val % 128, Nat.mod_lt _ (by decide)⟩ := by
  unfold Step.R_main_v36
  pointwise
  rfl

variable (m : (ℓ : Loc nD τ sig) → Buf (Elt Ideal) ℓ) (c : Dev nD)

/-- The arrays the recurrence reads. -/
def data : Data where
  u := m (c.tc.loc main_arg0)
  w := m (c.tc.loc main_arg1)
  q := m (c.tc.loc main_arg2)
  k := m (c.tc.loc main_arg3)
  a := m (c.tc.loc main_arg4)
  g := m (c.tc.loc main_arg5)

/-- The chunks of the arrays, which no trip changes. -/
theorem fixed : ∀ j, (states m c j).main_v16_0 = (states m c 0).main_v16_0 ∧ (states m c j).main_v16_1 = (states m c 0).main_v16_1
    ∧ (states m c j).main_v16_2 = (states m c 0).main_v16_2 ∧ (states m c j).main_v16_3 = (states m c 0).main_v16_3
    ∧ (states m c j).main_v16_4 = (states m c 0).main_v16_4 ∧ (states m c j).main_v16_5 = (states m c 0).main_v16_5
  | 0 => ⟨rfl, rfl, rfl, rfl, rfl, rfl⟩
  | j + 1 => fixed j

section trip

variable (j : ℕ) (hj : j < 256)
  (hS : ∀ b h e d, (states m c j).main_v16_7 (ix4 b h e d) = state (data m c) b h j e d)
include hj hS

theorem fresh_eq (b : Fin 2) (h : Fin 32) (i : Fin 64) (d : Fin 128) :
    Step.b35 j (states m c j) (ix4 b h i d) = fresh (data m c) b h (state (data m c) b h j) j i d := by
  rw [fresh_apply, u_slice _ _ hj, (fixed m c j).2.2.1]
  refine congrArg₂ (· - ·) (u_entry _ _ _ _ _ _ ⟨j, hj⟩ b h i d) (Finset.sum_congr rfl fun e _ => ?_)
  rw [w_slice _ _ hj, (fixed m c j).2.2.2.1, hS]
  exact congrArg (· * _) (w_entry _ _ _ _ _ _ ⟨j, hj⟩ b h i e)

theorem out_eq (b : Fin 2) (h : Fin 32) (i : Fin 64) (d : Fin 128) :
    Step.b38 j (states m c j) (ix4 b h i d) = out (data m c) b h (state (data m c) b h j) j i d := by
  rw [out_apply]
  refine congrArg₂ (· + ·) (Finset.sum_congr rfl fun e _ => ?_) (Finset.sum_congr rfl fun e _ => ?_)
  · rw [q_slice _ _ hj, (fixed m c j).1, hS]
    exact congrArg (· * _) (q_entry _ _ _ _ _ _ ⟨j, hj⟩ b h i e)
  · rw [a_slice _ _ hj, (fixed m c j).2.2.2.2.1, fresh_eq m c j hj hS]
    exact congrArg (· * _) (a_entry _ _ _ _ _ _ ⟨j, hj⟩ b h i e)

theorem next_eq (b : Fin 2) (h : Fin 32) (e d : Fin 128) :
    Step.b44 j (states m c j) (ix4 b h e d) = state (data m c) b h (j + 1) e d := by
  rw [next_apply, g_slice _ _ hj, (fixed m c j).2.2.2.2.2, hS]
  refine congrArg₂ (· + ·) (congrArg (_ * Ideal.exp ·) (g_entry _ _ _ _ _ _ ⟨j, hj⟩ b h)) (Finset.sum_congr rfl fun i _ => ?_)
  rw [k_slice _ _ hj, (fixed m c j).2.1, fresh_eq m c j hj hS]
  exact congrArg (· * _) (k_entry _ _ _ _ _ _ ⟨j, hj⟩ b h i e)

end trip

theorem matrix_eq : ∀ j, j ≤ 256 → ∀ b h e d, (states m c j).main_v16_7 (ix4 b h e d) = state (data m c) b h j e d
  | 0, _, b, h, e, d => by
    show Step.K_main_v14 (F := Ideal) (ix4 b h e d) = 0
    unfold Step.K_main_v14 Step.K_main_cst
    pointwise
  | j + 1, hj, b, h, e, d => next_eq m c j (by omega) (matrix_eq j (by omega)) b h e d

theorem rows_eq : ∀ j, j ≤ 256 → ∀ (n : Fin 256), n.val < j → ∀ b h i d,
    (states m c j).main_v16_8 (ix5 n b h i d) = out (data m c) b h (state (data m c) b h n.val) n.val i d
  | 0, _, n, hn, _, _, _, _ => absurd hn (Nat.not_lt_zero _)
  | j + 1, hj, n, hn, b, h, i, d => by
    show Step.b50 j (states m c j) (ix5 n b h i d) = _
    rw [rows_apply _ _ (by omega)]
    by_cases e : n.val = j
    · rw [if_pos e, out_eq m c j (by omega) (matrix_eq m c j (by omega)), e]
    · rw [if_neg e]
      exact rows_eq j (by omega) n (by omega) b h i d

/-- The reference's result at an element. -/
theorem value (r : Fin 32768) (e : Fin 4096) :
    Step.R_main_v36 (states m c 256) (m (c.tc.loc main_arg6)) (m (c.tc.loc main_arg7)) (ix2 r e)
      = resultAt (data m c) (m (c.tc.loc main_arg6)) (m (c.tc.loc main_arg7)) r e := by
  rw [final_apply]
  unfold resultAt result
  have hn : r.val % 16384 / 64 = r.val / 64 % 256 := by omega
  have hr : row ⟨r.val / 16384, by omega⟩ (r.val % 16384 / 64) ⟨r.val % 64, Nat.mod_lt _ (by decide)⟩ = r := Fin.ext (by
    show (16384 * (r.val / 16384) + 64 * (r.val % 16384 / 64) + r.val % 64) % 32768 = r.val
    omega)
  have he : col ⟨e.val / 128, by omega⟩ ⟨e.val % 128, Nat.mod_lt _ (by decide)⟩ = e := Fin.ext (by
    show 128 * (e.val / 128) + e.val % 128 = e.val
    omega)
  rw [hr, he, hn]
  exact congrArg (gated · _ _ _) (funext fun d => rows_eq m c 256 (le_refl _) ⟨r.val / 64 % 256, Nat.mod_lt _ (by decide)⟩ (Nat.mod_lt _ (by decide)) _ _ _ d)

end Cert.Rec.Ref

end
-- ==== Proof.Rec.Claim.lean ====
/-
  The recurrence: the kernel and its reference leave the same result.
-/
module

public import proofs.«01_k».proof.Defs
public import proofs.«01_k».proof.Proof.Gen.Kernel4
public import proofs.«01_k».proof.Proof.Rec.Final
public import proofs.«01_k».proof.Proof.Rec.RefValue
public import Idealize.ShloMosaic.Lib.Quiescent
public import Idealize.ShloMosaic.Lib.Tactic

@[expose] public section

set_option maxRecDepth 16384

noncomputable section

namespace Cert.Rec

open Idealize.ShloMosaic Idealize.SL.Sem Idealize.ShloMosaic.Tactic

theorem agree : algebraic_Kernel4Ideal_Reference4Ideal := by
  intro m ρ m' ρ' _ hagree
  refine ⟨_, (θ_run _ _ _).mono (fun _ h c => ⟨h.1 c, h.2 c⟩) (Cert.Kernel4Ideal.Rec.run m ρ), ?_⟩
  refine (θ_run Cert.Reference4Ideal.defs _ _).mono (fun _ h c => ⟨?_, (h c).2⟩) (Ref.run m' ρ')
  refine (h c).1.trans ?_
  funext i
  obtain ⟨r, e, rfl⟩ : ∃ (r : Fin 32768) (e : Fin 4096), i = ix2 r e := ⟨i 0, i 1, eq_ix2 i⟩
  refine (Ref.value m' c r e).trans ?_
  show resultAt (Ref.data m' c) _ _ r e = resultAt (Cert.Kernel4Ideal.Rec.data m c) _ _ r e
  unfold Ref.data Cert.Kernel4Ideal.Rec.data
  obtain ⟨h0, h1, h2, h3, h4, h5, h6, h7⟩ := hagree c
  rw [h0, h1, h2, h3, h4, h5, h6, h7]

/-- The reference runs to its end with its arguments unchanged and no semaphore to leave raised. -/
theorem reference_frame : quiescent_Reference4Ideal := fun m ρ _ =>
  (θ_run Cert.Reference4Ideal.defs _ _).mono (fun r h => ⟨fun c => (h c).2, sem_eq_zero_of_no_sems (by decide) r.2⟩)
    (Ref.run m ρ)

theorem ideal_frame : quiescent_Kernel4Ideal := fun m ρ _ => Cert.Kernel4Ideal.Rec.frame m ρ

/-- The two readings of the kernel are one text. -/
theorem bodies_eq : Cert.Kernel4.defs (F := Bits) = Cert.Kernel4Ideal.defs (F := Bits) := by sl_kernel_rfl

theorem main_eq : Cert.Kernel4.main (F := Bits) = Cert.Kernel4Ideal.main (F := Bits) := by sl_kernel_rfl

/-- So the run of the one is the run of the other. -/
theorem frame : quiescent_Kernel4 := by
  intro m ρ _
  rw [bodies_eq, main_eq]
  exact Cert.Kernel4Ideal.Rec.frame (F := Bits) m ρ

end Cert.Rec

end
-- ==== Proof.Query.KernelValue.lean ====
/-
  The attention's query product: what the kernel leaves. The grid runs over 64 blocks of 512 tokens, each point taking all
  the columns, so each point's block of the result is the product of its tokens and the weights.
-/
module

public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Query

open Idealize.ShloMosaic Idealize.SL.Sem
open Cert.Kernel5Ideal Cert.Kernel5Ideal.Gen

abbrev Tokens : Type := (⟨2, ![32768, 2048]⟩ : Shape).Idx → EReal
abbrev Weights : Type := (⟨2, ![2048, 2048]⟩ : Shape).Idx → EReal

/-- The product at token `r`, column `e`. -/
def proj (h : Tokens) (w : Weights) (r : Fin 32768) (e : Fin 2048) : EReal := ∑ d : Fin 2048, h (ix2 r d) * w (ix2 d e)

theorem out_point {F : FTy → Type} [FloatOps F] (m : (ℓ : Loc nD τ sig) → Buf (Elt F) ℓ) (c : Dev nD) (t : Fin cfg0.N) :
    outsAt0 m c t = k0_pay2 (k0_pay1 (iblk m c 0 t)) (iblk m c 1 t) := by
  unfold outsAt0
  frame_out

variable (m : (ℓ : Loc nD τ sig) → Buf (Elt Ideal) ℓ) (ρ : Dev nD → PrngReg) (c : Dev nD)

theorem blocks (t : Fin cfg0.N) :
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0]) t

abbrev tokens : Tokens := m (c.tc.loc main_arg0)
abbrev weights : Weights := m (c.tc.loc main_arg1)

/-- The result the kernel is to leave. -/
def whole : FVec Ideal S32768x2048 .f32 := fun i => proj (tokens m c) (weights m c) (i 0) (i 1)

theorem lt_N (t : Fin cfg0.N) : t.val < 64 := lt_of_lt_of_eq t.isLt N_0

def tok (t : Fin cfg0.N) (a : Fin 512) : Fin 32768 := ⟨512 * t.val + a.val, by have := lt_N t; omega⟩

theorem tokens_block (t : Fin cfg0.N) (a : Fin 512) (d : Fin 2048) :
    (iblk m c 0 t : Vec Ideal S512x2048 .f32) (ix2 a d) = tokens m c (ix2 (tok t a) d) := by
  blk_ext [iblk, V, (blocks t).1, tok]

theorem weights_block (t : Fin cfg0.N) (d : Fin 2048) (k : Fin 2048) :
    (iblk m c 1 t : Vec Ideal S2048x2048 .bf16) (ix2 d k) = weights m c (ix2 d k) := by
  unfold iblk
  entry_read
  pointwise
  blk_ext [(blocks t).2.1]

theorem prod_apply (x : FVec Ideal S512x2048 .f32) (w : FVec Ideal S2048x2048 .bf16) (r : Fin 512) (e : Fin 2048) :
    k0_pay2 (F := Ideal) (k0_pay1 (F := Ideal) x) w (ix2 r e) = ∑ d : Fin 2048, x (ix2 r d) * w (ix2 d e) := by
  pointwise [k0_pay2, k0_pay1]

theorem point_apply (t : Fin cfg0.N) (r : Fin 512) (e : Fin 2048) :
    (outsAt0 m c t : FVec Ideal S512x2048 .f32) (ix2 r e) = proj (tokens m c) (weights m c) (tok t r) e := by
  rw [out_point]
  refine (prod_apply _ _ r e).trans (Finset.sum_congr rfl fun d _ => ?_)
  rw [tokens_block, weights_block]

theorem flushed_whole (t : Fin cfg0.N) :
    (dats m 0 c).flushed 2 t = ((cfg0.win 2).blk t).view.read (Elt Ideal) (whole m c) := by
  rw [Cert.Kernel5Ideal.Value.flushed2]
  funext y
  have hb0 : (((cfg0.win 2).blk t).view.emb y 0).val = win0_2.index t (0 : Fin 2) * 512 + 1 * (y 0).val := rfl
  have hb1 : (((cfg0.win 2).blk t).view.emb y 1).val = win0_2.index t (1 : Fin 2) * 2048 + 1 * (y 1).val := rfl
  rw [(blocks t).2.2] at hb0 hb1
  show (outsAt0 m c t : FVec Ideal S512x2048 .f32) ((cfg0.win 2).xinj (grid0.coords t) y)
    = whole m c (((cfg0.win 2).blk t).view.emb y)
  rw [eq_ix2 ((cfg0.win 2).xinj (grid0.coords t) y)]
  refine (point_apply m c t _ _).trans ?_
  unfold whole
  congr 1
  · apply Fin.ext
    refine Eq.trans ?_ hb0.symm
    show 512 * t.val + (y 0).val = t.val * 512 + 1 * (y 0).val
    omega
  · apply Fin.ext
    refine Eq.trans ?_ hb1.symm
    show (y 1).val = 0 * 2048 + 1 * (y 1).val
    omega

/-- The point that writes the block of element `i`. -/
def owner (i : S32768x2048.Idx) : Fin cfg0.N :=
  ⟨(i 0).val / 512, lt_of_lt_of_eq (by
    have h0 : (i 0).val < 32768 := (i 0).isLt
    omega) N_0.symm⟩

theorem mem_owner (i : S32768x2048.Idx) : i ∈ ((cfg0.win 2).blk (owner i)).view.set := by
  have h0 : (i 0).val < 32768 := (i 0).isLt
  have h1 : (i 1).val < 2048 := (i 1).isLt
  show i ∈ ((View.whole main_v1).slice (win0_2.rect (owner i))).set
  rw [View.set_slice_whole, Rect.mem_set_unit]
  intro a
  match a with
  | ⟨0, _⟩ =>
    show win0_2.index (owner i) (0 : Fin 2) * 512 ≤ (i 0).val ∧ (i 0).val < win0_2.index (owner i) (0 : Fin 2) * 512 + 512
    rw [(blocks (owner i)).2.2]
    show (i 0).val / 512 * 512 ≤ (i 0).val ∧ (i 0).val < (i 0).val / 512 * 512 + 512
    omega
  | ⟨1, _⟩ =>
    show win0_2.index (owner i) (1 : Fin 2) * 2048 ≤ (i 1).val ∧ (i 1).val < win0_2.index (owner i) (1 : Fin 2) * 2048 + 2048
    rw [(blocks (owner i)).2.2]
    show 0 * 2048 ≤ (i 1).val ∧ (i 1).val < 0 * 2048 + 2048
    omega

theorem array_whole : (dats m 0 c).arrAt 2 cfg0.N = whole m c :=
  (dats m 0 c).arrAt_eq_of_cover 2 _ (fun t _ => flushed_whole m c t) (fun i => ⟨owner i, flush0_2 _, mem_owner i⟩)

/-- The kernel's run: its result is the product, its arguments are unchanged. -/
theorem run : θ_run defs (onTc (τ := τ) (main (F := Ideal))) ⟨m, fun _ => 0, ρ⟩ fun r => ∀ c : Dev nD,
      r.2.mem (c.tc.loc main_v1) = whole m c
      ∧ r.2.mem (c.tc.loc main_arg0) = m (c.tc.loc main_arg0)
      ∧ r.2.mem (c.tc.loc main_arg1) = m (c.tc.loc main_arg1) :=
  (θ_run defs _ _).mono (fun _ h c => ⟨(h c).1.trans (array_whole m c), (h c).2⟩)
    (Cert.Kernel5Ideal.Value.run_blocks (F := Ideal) m ρ)

end Cert.Query

end
-- ==== Proof.Query.Claim.lean ====
/-
  The attention's query product: the kernel and its reference leave the same result.
-/
module

public import proofs.«01_k».proof.Defs
public import proofs.«01_k».proof.Proof.Gen.Reference5Ideal.Run
public import proofs.«01_k».proof.Proof.Query.KernelValue

@[expose] public section

set_option maxRecDepth 16384

noncomputable section

namespace Cert.Query

open Idealize.ShloMosaic Idealize.SL.Sem

section
open Cert.Reference5Ideal Cert.Reference5Ideal.Gen

theorem reference_apply (h : FVec Ideal S32768x2048 .f32) (w : FVec Ideal S2048x2048 .f32) (r : Fin 32768) (e : Fin 2048) :
    Host.dotGeneral (F := Ideal) dot_S32768x2048_S2048x2048_S32768x2048_1_0_0_1_n_n none h w (ix2 r e) = proj h w r e := by
  pointwise [proj]

end

theorem agree : algebraic_Kernel5Ideal_Reference5Ideal := by
  intro m ρ m' ρ' _ hagree
  refine ⟨_, run m ρ, ?_⟩
  refine (θ_run Cert.Reference5Ideal.defs _ _).mono (fun _ h c => ⟨?_, (h c).2⟩)
    (Cert.Reference5Ideal.Value.run (F := Ideal) m' ρ')
  refine (h c).1.trans ?_
  funext i
  obtain ⟨r, e, rfl⟩ : ∃ (r : Fin 32768) (e : Fin 2048), i = ix2 r e := ⟨i 0, i 1, eq_ix2 i⟩
  refine (reference_apply _ _ r e).trans ?_
  obtain ⟨h0, h1⟩ := hagree c
  rw [h0, h1]
  rfl

end Cert.Query

end
-- ==== Proof.KeyValue.KernelValue.lean ====
/-
  The attention's key and value product: what the kernel leaves. The grid runs over 64 blocks of 512 tokens, each point taking all
  the columns, so each point's block of the result is the product of its tokens and the weights.
-/
module

public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

namespace Cert.KeyValue

open Idealize.ShloMosaic Idealize.SL.Sem
open Cert.Kernel6Ideal Cert.Kernel6Ideal.Gen

abbrev Tokens : Type := (⟨2, ![32768, 2048]⟩ : Shape).Idx → EReal
abbrev Weights : Type := (⟨2, ![2048, 1024]⟩ : Shape).Idx → EReal

/-- The product at token `r`, column `e`. -/
def proj (h : Tokens) (w : Weights) (r : Fin 32768) (e : Fin 1024) : EReal := ∑ d : Fin 2048, h (ix2 r d) * w (ix2 d e)

theorem out_point {F : FTy → Type} [FloatOps F] (m : (ℓ : Loc nD τ sig) → Buf (Elt F) ℓ) (c : Dev nD) (t : Fin cfg0.N) :
    outsAt0 m c t = k0_pay2 (k0_pay1 (iblk m c 0 t)) (iblk m c 1 t) := by
  unfold outsAt0
  frame_out

variable (m : (ℓ : Loc nD τ sig) → Buf (Elt Ideal) ℓ) (ρ : Dev nD → PrngReg) (c : Dev nD)

theorem blocks (t : Fin cfg0.N) :
    win0_0.index t = ![t.val, 0] ∧ win0_1.index t = ![0, 0] ∧ win0_2.index t = ![t.val, 0] :=
  (by decide +kernel : ∀ t : Fin grid0.N,
    win0_0.index t = ![t.val, 0] ∧ win0_1.index t = ![0, 0] ∧ win0_2.index t = ![t.val, 0]) t

abbrev tokens : Tokens := m (c.tc.loc main_arg0)
abbrev weights : Weights := m (c.tc.loc main_arg1)

/-- The result the kernel is to leave. -/
def whole : FVec Ideal S32768x1024 .f32 := fun i => proj (tokens m c) (weights m c) (i 0) (i 1)

theorem lt_N (t : Fin cfg0.N) : t.val < 64 := lt_of_lt_of_eq t.isLt N_0

def tok (t : Fin cfg0.N) (a : Fin 512) : Fin 32768 := ⟨512 * t.val + a.val, by have := lt_N t; omega⟩

theorem tokens_block (t : Fin cfg0.N) (a : Fin 512) (d : Fin 2048) :
    (iblk m c 0 t : Vec Ideal S512x2048 .f32) (ix2 a d) = tokens m c (ix2 (tok t a) d) := by
  blk_ext [iblk, V, (blocks t).1, tok]

theorem weights_block (t : Fin cfg0.N) (d : Fin 2048) (k : Fin 1024) :
    (iblk m c 1 t : Vec Ideal S2048x1024 .bf16) (ix2 d k) = weights m c (ix2 d k) := by
  unfold iblk
  entry_read
  pointwise
  blk_ext [(blocks t).2.1]

theorem prod_apply (x : FVec Ideal S512x2048 .f32) (w : FVec Ideal S2048x1024 .bf16) (r : Fin 512) (e : Fin 1024) :
    k0_pay2 (F := Ideal) (k0_pay1 (F := Ideal) x) w (ix2 r e) = ∑ d : Fin 2048, x (ix2 r d) * w (ix2 d e) := by
  pointwise [k0_pay2, k0_pay1]

theorem point_apply (t : Fin cfg0.N) (r : Fin 512) (e : Fin 1024) :
    (outsAt0 m c t : FVec Ideal S512x1024 .f32) (ix2 r e) = proj (tokens m c) (weights m c) (tok t r) e := by
  rw [out_point]
  refine (prod_apply _ _ r e).trans (Finset.sum_congr rfl fun d _ => ?_)
  rw [tokens_block, weights_block]

theorem flushed_whole (t : Fin cfg0.N) :
    (dats m 0 c).flushed 2 t = ((cfg0.win 2).blk t).view.read (Elt Ideal) (whole m c) := by
  rw [Cert.Kernel6Ideal.Value.flushed2]
  funext y
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  rw [(blocks t).2.2] at hb0 hb1
  show (outsAt0 m c t : FVec Ideal S512x1024 .f32) ((cfg0.win 2).xinj (grid0.coords t) y)
    = whole m c (((cfg0.win 2).blk t).view.emb y)
  rw [eq_ix2 ((cfg0.win 2).xinj (grid0.coords t) y)]
  refine (point_apply m c t _ _).trans ?_
  unfold whole
  congr 1
  · apply Fin.ext
    refine Eq.trans ?_ hb0.symm
    show 512 * t.val + (y 0).val = t.val * 512 + 1 * (y 0).val
    omega
  · apply Fin.ext
    refine Eq.trans ?_ hb1.symm
    show (y 1).val = 0 * 1024 + 1 * (y 1).val
    omega

/-- The point that writes the block of element `i`. -/
def owner (i : S32768x1024.Idx) : Fin cfg0.N :=
  ⟨(i 0).val / 512, lt_of_lt_of_eq (by
    have h0 : (i 0).val < 32768 := (i 0).isLt
    omega) N_0.symm⟩

theorem mem_owner (i : S32768x1024.Idx) : i ∈ ((cfg0.win 2).blk (owner i)).view.set := by
  have h0 : (i 0).val < 32768 := (i 0).isLt
  have h1 : (i 1).val < 1024 := (i 1).isLt
  show i ∈ ((View.whole main_v1).slice (win0_2.rect (owner i))).set
  rw [View.set_slice_whole, Rect.mem_set_unit]
  intro a
  match a with
  | ⟨0, _⟩ =>
    show win0_2.index (owner i) (0 : Fin 2) * 512 ≤ (i 0).val ∧ (i 0).val < win0_2.index (owner i) (0 : Fin 2) * 512 + 512
    rw [(blocks (owner i)).2.2]
    show (i 0).val / 512 * 512 ≤ (i 0).val ∧ (i 0).val < (i 0).val / 512 * 512 + 512
    omega
  | ⟨1, _⟩ =>
    show win0_2.index (owner i) (1 : Fin 2) * 1024 ≤ (i 1).val ∧ (i 1).val < win0_2.index (owner i) (1 : Fin 2) * 1024 + 1024
    rw [(blocks (owner i)).2.2]
    show 0 * 1024 ≤ (i 1).val ∧ (i 1).val < 0 * 1024 + 1024
    omega

theorem array_whole : (dats m 0 c).arrAt 2 cfg0.N = whole m c :=
  (dats m 0 c).arrAt_eq_of_cover 2 _ (fun t _ => flushed_whole m c t) (fun i => ⟨owner i, flush0_2 _, mem_owner i⟩)

/-- The kernel's run: its result is the product, its arguments are unchanged. -/
theorem run : θ_run defs (onTc (τ := τ) (main (F := Ideal))) ⟨m, fun _ => 0, ρ⟩ fun r => ∀ c : Dev nD,
      r.2.mem (c.tc.loc main_v1) = whole m c
      ∧ r.2.mem (c.tc.loc main_arg0) = m (c.tc.loc main_arg0)
      ∧ r.2.mem (c.tc.loc main_arg1) = m (c.tc.loc main_arg1) :=
  (θ_run defs _ _).mono (fun _ h c => ⟨(h c).1.trans (array_whole m c), (h c).2⟩)
    (Cert.Kernel6Ideal.Value.run_blocks (F := Ideal) m ρ)

end Cert.KeyValue

end
-- ==== Proof.KeyValue.Claim.lean ====
/-
  The attention's key and value product: the kernel and its reference leave the same result.
-/
module

public import proofs.«01_k».proof.Defs
public import proofs.«01_k».proof.Proof.Gen.Reference6Ideal.Run
public import proofs.«01_k».proof.Proof.KeyValue.KernelValue

@[expose] public section

set_option maxRecDepth 16384

noncomputable section

namespace Cert.KeyValue

open Idealize.ShloMosaic Idealize.SL.Sem

section
open Cert.Reference6Ideal Cert.Reference6Ideal.Gen

theorem reference_apply (h : FVec Ideal S32768x2048 .f32) (w : FVec Ideal S2048x1024 .f32) (r : Fin 32768) (e : Fin 1024) :
    Host.dotGeneral (F := Ideal) dot_S32768x2048_S2048x1024_S32768x1024_1_0_0_1_n_n none h w (ix2 r e) = proj h w r e := by
  pointwise [proj]

end

theorem agree : algebraic_Kernel6Ideal_Reference6Ideal := by
  intro m ρ m' ρ' _ hagree
  refine ⟨_, run m ρ, ?_⟩
  refine (θ_run Cert.Reference6Ideal.defs _ _).mono (fun _ h c => ⟨?_, (h c).2⟩)
    (Cert.Reference6Ideal.Value.run (F := Ideal) m' ρ')
  refine (h c).1.trans ?_
  funext i
  obtain ⟨r, e, rfl⟩ : ∃ (r : Fin 32768) (e : Fin 1024), i = ix2 r e := ⟨i 0, i 1, eq_ix2 i⟩
  refine (reference_apply _ _ r e).trans ?_
  obtain ⟨h0, h1⟩ := hagree c
  rw [h0, h1]
  rfl

end Cert.KeyValue

end
-- ==== Proof.AttnOut.KernelValue.lean ====
/-
  The attention's output product with its residual and norm: what the kernel leaves at each element. The grid runs over 64
  blocks of 512 tokens, each point taking all 2048 columns of the product at once.
-/
module

public import proofs.«01_k».proof.Proof.Gen.Kernel7Ideal.Value
public import Idealize.ShloMosaic.Lib.Pipeline.ValueKit
public import Idealize.ShloMosaic.Lib.Pipeline.ReadBack
public import proofs.«01_k».proof.Proof.Ffn.Spec

@[expose] public section

set_option maxRecDepth 16384

noncomputable section

namespace Cert.AttnOut

open Idealize.ShloMosaic Idealize.SL.Sem
open Cert.Kernel7Ideal Cert.Kernel7Ideal.Gen

abbrev Weights : Type := (⟨2, ![2048, 2048]⟩ : Shape).Idx → EReal

/-- The output product. -/
def proj (o : Ffn.Tokens) (w : Weights) (r : Fin 32768) (e : Fin 2048) : EReal := ∑ k : Fin 2048, o (ix2 r k) * w (ix2 k e)

/-- The layer's result at token `r`, column `e`: the residual `α h + o w`, normalised. -/
def layer (o : Ffn.Tokens) (w : Weights) (h : Ffn.Tokens) (g b : Ffn.Gains) (r : Fin 32768) (e : Fin 2048) : EReal :=
  Ffn.normed (fun d => Ideal.ofBits .f32 0x3FB504F3#32 * h (ix2 r d) + proj o w r d) (g (ix1 e)) (b (ix1 e)) e

theorem out_point {F : FTy → Type} [FloatOps F] (m : (ℓ : Loc nD τ sig) → Buf (Elt F) ℓ) (c : Dev nD) (t : Fin cfg0.N) :
    outsAt0 m c t = k0_pay3 (iblk m c 2 t) (k0_pay2 k0_pay1 (iblk m c 0 t) (iblk m c 1 t)) (iblk m c 3 t) (iblk m c 4 t) := by
  unfold outsAt0
  frame_out

variable (m : (ℓ : Loc nD τ sig) → Buf (Elt Ideal) ℓ) (ρ : Dev nD → PrngReg) (c : Dev nD)

theorem blocks (t : Fin cfg0.N) :
    win0_0.index t = ![t.val, 0] ∧ win0_1.index t = ![0, 0] ∧ win0_2.index t = ![t.val, 0]
      ∧ win0_3.index t = ![0, 0] ∧ win0_4.index t = ![0, 0] ∧ win0_5.index t = ![t.val, 0] :=
  (by decide +kernel : ∀ t : Fin grid0.N,
    win0_0.index t = ![t.val, 0] ∧ win0_1.index t = ![0, 0] ∧ win0_2.index t = ![t.val, 0]
      ∧ win0_3.index t = ![0, 0] ∧ win0_4.index t = ![0, 0] ∧ win0_5.index t = ![t.val, 0]) t

abbrev heads : Ffn.Tokens := m (c.tc.loc main_arg0)
abbrev weights : Weights := m (c.tc.loc main_arg1)
abbrev tokens : Ffn.Tokens := m (c.tc.loc main_arg2)
abbrev gains : Ffn.Gains := m (c.tc.loc main_arg3)
abbrev shifts : Ffn.Gains := m (c.tc.loc main_arg4)

/-- The result the kernel is to leave. -/
def whole : FVec Ideal S32768x2048 .f32 := fun i =>
  layer (heads m c) (weights m c) (tokens m c) (gains m c) (shifts m c) (i 0) (i 1)

theorem lt_N (t : Fin cfg0.N) : t.val < 64 := lt_of_lt_of_eq t.isLt N_0

def tok (t : Fin cfg0.N) (a : Fin 512) : Fin 32768 := ⟨512 * t.val + a.val, by have := lt_N t; omega⟩

theorem heads_block (t : Fin cfg0.N) (a : Fin 512) (k : Fin 2048) :
    (iblk m c 0 t : Vec Ideal S512x2048 .bf16) (ix2 a k) = heads m c (ix2 (tok t a) k) := by
  unfold iblk
  entry_read
  pointwise
  blk_ext [(blocks t).1, tok]

theorem weights_block (t : Fin cfg0.N) (k : Fin 2048) (e : Fin 2048) :
    (iblk m c 1 t : Vec Ideal S2048x2048 .bf16) (ix2 k e) = weights m c (ix2 k e) := by
  unfold iblk
  entry_read
  pointwise
  blk_ext [(blocks t).2.1]

theorem tokens_block (t : Fin cfg0.N) (a : Fin 512) (d : Fin 2048) :
    (iblk m c 2 t : Vec Ideal S512x2048 .f32) (ix2 a d) = tokens m c (ix2 (tok t a) d) := by
  blk_ext [iblk, V, (blocks t).2.2.1, tok]

theorem gains_block (t : Fin cfg0.N) (z : Fin 1) (e : Fin 2048) :
    (iblk m c 3 t : Vec Ideal S1x2048 .f32) (ix2 z e) = gains m c (ix1 e) := by
  have e' : ((cfg0.win 3).blk t).view.emb (ix2 z e) = (ix2 z e : S1x2048.Idx) := by
    blk_ext [(blocks t).2.2.2.1]
  unfold iblk
  rw [View.read_apply, e']
  entry_read
  pointwise
  blk_ext []

theorem shifts_block (t : Fin cfg0.N) (z : Fin 1) (e : Fin 2048) :
    (iblk m c 4 t : Vec Ideal S1x2048 .f32) (ix2 z e) = shifts m c (ix1 e) := by
  have e' : ((cfg0.win 4).blk t).view.emb (ix2 z e) = (ix2 z e : S1x2048.Idx) := by
    blk_ext [(blocks t).2.2.2.2.1]
  unfold iblk
  rw [View.read_apply, e']
  entry_read
  pointwise
  blk_ext []

theorem prod_apply (x : FVec Ideal S512x2048 .bf16) (w : FVec Ideal S2048x2048 .bf16) (r : Fin 512) (e : Fin 2048) :
    k0_pay2 (F := Ideal) (k0_pay1 (F := Ideal)) x w (ix2 r e) = ∑ k : Fin 2048, x (ix2 r k) * w (ix2 k e) := by
  pointwise [k0_pay2, k0_pay1]

/-- The closing normalisation. -/
theorem close_apply (x a : FVec Ideal S512x2048 .f32) (g b : FVec Ideal S1x2048 .f32) (r : Fin 512) (e : Fin 2048) :
    k0_pay3 (F := Ideal) x a g b (ix2 r e)
      = Ffn.normed (fun d => Ideal.ofBits .f32 0x3FB504F3#32 * x (ix2 r d) + a (ix2 r d)) (g (ix2 0 e)) (b (ix2 0 e)) e := by
  pointwise [k0_pay3, Ffn.normed, Ffn.mean]

theorem point_apply (t : Fin cfg0.N) (r : Fin 512) (e : Fin 2048) :
    (outsAt0 m c t : FVec Ideal S512x2048 .f32) (ix2 r e)
      = layer (heads m c) (weights m c) (tokens m c) (gains m c) (shifts m c) (tok t r) e := by
  rw [out_point, close_apply, gains_block, shifts_block]
  refine congrArg (Ffn.normed · _ _ e) (funext fun d => ?_)
  rw [tokens_block]
  refine congrArg (_ + ·) ((prod_apply _ _ r d).trans (Finset.sum_congr rfl fun k _ => ?_))
  rw [heads_block, weights_block]

theorem flushed_whole (t : Fin cfg0.N) :
    (dats m 0 c).flushed 5 t = ((cfg0.win 5).blk t).view.read (Elt Ideal) (whole m c) := by
  rw [Cert.Kernel7Ideal.Value.flushed5]
  funext y
  have hb0 : (((cfg0.win 5).blk t).view.emb y 0).val = win0_5.index t (0 : Fin 2) * 512 + 1 * (y 0).val := rfl
  have hb1 : (((cfg0.win 5).blk t).view.emb y 1).val = win0_5.index t (1 : Fin 2) * 2048 + 1 * (y 1).val := rfl
  rw [(blocks t).2.2.2.2.2] at hb0 hb1
  show (outsAt0 m c t : FVec Ideal S512x2048 .f32) ((cfg0.win 5).xinj (grid0.coords t) y)
    = whole m c (((cfg0.win 5).blk t).view.emb y)
  rw [eq_ix2 ((cfg0.win 5).xinj (grid0.coords t) y)]
  refine (point_apply m c t _ _).trans ?_
  unfold whole
  congr 1
  · apply Fin.ext
    refine Eq.trans ?_ hb0.symm
    show 512 * t.val + (y 0).val = t.val * 512 + 1 * (y 0).val
    omega
  · apply Fin.ext
    refine Eq.trans ?_ hb1.symm
    show (y 1).val = 0 * 2048 + 1 * (y 1).val
    omega

/-- The point that writes the block of element `i`. -/
def owner (i : S32768x2048.Idx) : Fin cfg0.N :=
  ⟨(i 0).val / 512, lt_of_lt_of_eq (by
    have h0 : (i 0).val < 32768 := (i 0).isLt
    omega) N_0.symm⟩

theorem mem_owner (i : S32768x2048.Idx) : i ∈ ((cfg0.win 5).blk (owner i)).view.set := by
  have h0 : (i 0).val < 32768 := (i 0).isLt
  have h1 : (i 1).val < 2048 := (i 1).isLt
  show i ∈ ((View.whole main_v4).slice (win0_5.rect (owner i))).set
  rw [View.set_slice_whole, Rect.mem_set_unit]
  intro a
  match a with
  | ⟨0, _⟩ =>
    show win0_5.index (owner i) (0 : Fin 2) * 512 ≤ (i 0).val ∧ (i 0).val < win0_5.index (owner i) (0 : Fin 2) * 512 + 512
    rw [(blocks (owner i)).2.2.2.2.2]
    show (i 0).val / 512 * 512 ≤ (i 0).val ∧ (i 0).val < (i 0).val / 512 * 512 + 512
    omega
  | ⟨1, _⟩ =>
    show win0_5.index (owner i) (1 : Fin 2) * 2048 ≤ (i 1).val ∧ (i 1).val < win0_5.index (owner i) (1 : Fin 2) * 2048 + 2048
    rw [(blocks (owner i)).2.2.2.2.2]
    show 0 * 2048 ≤ (i 1).val ∧ (i 1).val < 0 * 2048 + 2048
    omega

theorem array_whole : (dats m 0 c).arrAt 5 cfg0.N = whole m c :=
  (dats m 0 c).arrAt_eq_of_cover 5 _ (fun t _ => flushed_whole m c t) (fun i => ⟨owner i, flush0_5 _, mem_owner i⟩)

/-- The kernel's run: its result is the layer's, its arguments are unchanged. -/
theorem run : θ_run defs (onTc (τ := τ) (main (F := Ideal))) ⟨m, fun _ => 0, ρ⟩ fun r => ∀ c : Dev nD,
      r.2.mem (c.tc.loc main_v4) = whole m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans (array_whole m c), (h c).2⟩)
    (Cert.Kernel7Ideal.Value.run_blocks (F := Ideal) m ρ)

end Cert.AttnOut

end
-- ==== Proof.AttnOut.Claim.lean ====
/-
  The attention's output product with residual and norm: the kernel and its reference leave the same result.
-/
module

public import proofs.«01_k».proof.Defs
public import proofs.«01_k».proof.Proof.Gen.Reference7Ideal.Run
public import proofs.«01_k».proof.Proof.Ffn.RefValue
public import proofs.«01_k».proof.Proof.AttnOut.KernelValue

@[expose] public section

set_option maxRecDepth 16384

noncomputable section

namespace Cert.AttnOut

open Idealize.ShloMosaic Idealize.SL.Sem

section
open Cert.Reference7Ideal Cert.Reference7Ideal.Gen

/-- The reference's scaled residual. -/
def residual (o : FVec Ideal S32768x2048 .f32) (w : FVec Ideal S2048x2048 .f32) (h : FVec Ideal S32768x2048 .f32) :
    FVec Ideal S32768x2048 .f32 :=
  addf (mulf (broadcastInDim S32768x2048 ![] bcast_S_S32768x2048 (constant S_ .f32 0x3FB504F3#32)) h)
    (Host.dotGeneral (F := Ideal) dot_S32768x2048_S2048x2048_S32768x2048_1_0_0_1_n_n none o w)

theorem residual_apply (o : FVec Ideal S32768x2048 .f32) (w : FVec Ideal S2048x2048 .f32) (h : FVec Ideal S32768x2048 .f32)
    (r : Fin 32768) (d : Fin 2048) :
    residual o w h (ix2 r d) = Ideal.ofBits .f32 0x3FB504F3#32 * h (ix2 r d) + proj o w r d := by
  pointwise [residual, proj]

/-- The reference run, its result as the residual normalised. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v27) = Ffn.Ref.normalised (m (c.tc.loc main_arg3)) (m (c.tc.loc main_arg4))
        (residual (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans rfl, (h c).2⟩) (Cert.Reference7Ideal.Value.run (F := Ideal) m ρ)

end

theorem agree : algebraic_Kernel7Ideal_Reference7Ideal := by
  intro m ρ m' ρ' _ hagree
  refine ⟨_, run m ρ, ?_⟩
  refine (θ_run Cert.Reference7Ideal.defs _ _).mono (fun _ h c => ⟨?_, (h c).2⟩) (reference_run m' ρ')
  refine (h c).1.trans ?_
  funext i
  obtain ⟨r, e, rfl⟩ : ∃ (r : Fin 32768) (e : Fin 2048), i = ix2 r e := ⟨i 0, i 1, eq_ix2 i⟩
  refine (Ffn.Ref.normalised_apply _ _ _ r e).trans ?_
  simp only [residual_apply]
  obtain ⟨h0, h1, h2, h3, h4⟩ := hagree c
  rw [h0, h1, h2, h3, h4]
  rfl

end Cert.AttnOut

end
-- ==== Proof.Decay.Spec.lean ====
/-
  The gates of the delta rule: the strength of each write, and the decay summed up inside each chunk of 64 tokens. What
  the two are, and the doubling sums by which the kernel adds up the decay.
-/
module

public import Idealize.ShloMosaic.Lib.Pipeline.ValueKit

@[expose] public section

noncomputable section

namespace Cert.Decay

open Idealize.ShloMosaic

abbrev Tokens : Type := (⟨2, ![32768, 2048]⟩ : Shape).Idx → EReal
abbrev Weights : Type := (⟨2, ![2048, 12352]⟩ : Shape).Idx → EReal
abbrev Heads : Type := (⟨1, ![32]⟩ : Shape).Idx → EReal

/-- The last 64 columns of the projection, at token `r`. -/
def logit (h : Tokens) (w : Weights) (r : Fin 32768) (e : Fin 64) : EReal :=
  ∑ d : Fin 2048, h (ix2 r d) * w (ix2 d (⟨12288 + e.val, by omega⟩ : Fin 12352))

/-- The softplus of `z`, written so that the exponential stays at most one. -/
def softplus (z : EReal) : EReal := max z 0 + Ideal.log1p (Ideal.exp (-(max z (-z))))

/-- The strength of token `r`'s write, for head `n`. -/
def strength (h : Tokens) (w : Weights) (r : Fin 32768) (n : Fin 32) : EReal :=
  Ideal.logistic (logit h w r ⟨n.val, by omega⟩)

/-- Token `r`'s own decay, for head `n`. -/
def decay (h : Tokens) (w : Weights) (a b : Heads) (r : Fin 32768) (n : Fin 32) : EReal :=
  -(Ideal.exp (a (ix1 n))) * softplus (logit h w r ⟨32 + n.val, by omega⟩ + b (ix1 n))

/-- The sum of `y` over place `a` and the places before it in the same chunk, at most `k` of them. -/
def back (y : ℕ → EReal) (k a : ℕ) : EReal := ∑ i ∈ Finset.range k, if i ≤ a % 64 then y (a - i) else 0

theorem back_one (y : ℕ → EReal) (a : ℕ) : back y 1 a = y a := by
  unfold back
  rw [Finset.sum_range_one, if_pos (Nat.zero_le _), Nat.sub_zero]

/-- Adding the sum `k` places before, if that place is in the chunk, doubles the reach. -/
theorem back_double (y : ℕ → EReal) (k a : ℕ) :
    back y k a + (if k ≤ a % 64 then back y k (a - k) else 0) = back y (k + k) a := by
  unfold back
  rw [Finset.sum_range_add]
  congr 1
  split
  · next h =>
    refine Finset.sum_congr rfl fun i _ => ?_
    have e : (a - k) % 64 = a % 64 - k := by omega
    rw [e, Nat.sub_sub]
    by_cases hi : i ≤ a % 64 - k
    · rw [if_pos hi, if_pos (by omega)]
    · rw [if_neg hi, if_neg (by omega)]
  · next h =>
    symm
    refine Finset.sum_eq_zero fun i _ => if_neg (by omega)

/-- The sum over the chunk reads the same from the far end. -/
theorem back_reflect (y : ℕ → EReal) (a : ℕ) :
    back y 64 a = ∑ n ∈ Finset.range 64, if 63 ≤ a % 64 + n then y (a - (63 - n)) else 0 := by
  unfold back
  rw [← Finset.sum_range_reflect]
  refine Finset.sum_congr rfl fun n hn => ?_
  have := Finset.mem_range.mp hn
  have e : 64 - 1 - n = 63 - n := by omega
  rw [e]
  by_cases h : 63 ≤ a % 64 + n
  · rw [if_pos h, if_pos (by omega)]
  · rw [if_neg h, if_neg (by omega)]

/-- The sum looks at the chunk of `a` alone. -/
theorem back_congr (y z : ℕ → EReal) (a b : ℕ) (hm : a % 64 = b % 64)
    (h : ∀ i, i ≤ a % 64 → y (a - i) = z (b - i)) : back y 64 a = back z 64 b := by
  unfold back
  refine Finset.sum_congr rfl fun i _ => ?_
  rw [← hm]
  split
  · next hi => exact h i hi
  · rfl

/-- The decay of head `n` at place `r`, zero beyond the last token. -/
def decayAt (h : Tokens) (w : Weights) (a b : Heads) (n : Fin 32) (r : ℕ) : EReal :=
  if hr : r < 32768 then decay h w a b ⟨r, hr⟩ n else 0

/-- The decays of head `n` summed up over token `r`'s chunk, as far as token `r`. -/
def summed (h : Tokens) (w : Weights) (a b : Heads) (r : Fin 32768) (n : Fin 32) : EReal :=
  back (decayAt h w a b n) 64 r.val

end Cert.Decay

end
-- ==== Proof.Decay.KernelValue.lean ====
/-
  The gates: what the kernel leaves at each element. The grid runs over 64 blocks of 512 tokens, eight chunks each. Inside
  a block six additions, shifted by 1, 2, 4 and so on to 32 places, add up the decays of each chunk.
-/
module

public import proofs.«01_k».proof.Proof.Gen.Kernel8Ideal.Frame
public import proofs.«01_k».proof.Proof.Decay.Spec
public import Idealize.ShloMosaic.Lib.Pipeline.ValueKit
public import Idealize.ShloMosaic.Lib.Pipeline.ReadBack

@[expose] public section

set_option maxRecDepth 16384

noncomputable section

namespace Cert.Decay

open Idealize.ShloMosaic Idealize.SL.Sem
open Cert.Kernel8Ideal Cert.Kernel8Ideal.Gen

/-- The place in the chunk, as the kernel finds it. -/
theorem place_apply (r : Fin 512) (e : Fin 128) : k0_pay3 (ix2 r e) = BitVec.ofNat 32 (r.val % 64) := by
  pointwise [k0_pay3]
  revert r
  decide +kernel

theorem at_least (p k : ℕ) (hp : p < 64) (hk : k < 64) :
    IntOp.cmpi .sge (BitVec.ofNat 32 p) (BitVec.ofNat 32 k) = if k ≤ p then 1#1 else 0#1 :=
  (by decide +kernel : ∀ p k : Fin 64, IntOp.cmpi .sge (BitVec.ofNat 32 p.val) (BitVec.ofNat 32 k.val) = if k.val ≤ p.val then 1#1 else 0#1)
    ⟨p, hp⟩ ⟨k, hk⟩

theorem below (p k : ℕ) (hp : p < 128) (hk : k < 128) :
    IntOp.cmpi .slt (BitVec.ofNat 32 p) (BitVec.ofNat 32 k) = if p < k then 1#1 else 0#1 :=
  (by decide +kernel : ∀ p k : Fin 128, IntOp.cmpi .slt (BitVec.ofNat 32 p.val) (BitVec.ofNat 32 k.val) = if p.val < k.val then 1#1 else 0#1)
    ⟨p, hp⟩ ⟨k, hk⟩

theorem product_apply (v : FVec Ideal S512x128 .f32) (u : FVec Ideal S1x128 .f32) (r : Fin 512) (e : Fin 128) :
    mulf (broadcastTo S512x128 u broadcasts_S1x128_S512x128) v (ix2 r e) = u (ix2 (0 : Fin 1) e) * v (ix2 r e) := by
  pointwise

/-- One doubling step of the kernel's sums. -/
theorem step_apply (v : IVec S512x128 32) (hv : ∀ (r : Fin 512) (e : Fin 128), v (ix2 r e) = BitVec.ofNat 32 (r.val % 64))
    (k : ℕ) (hk : k < 64) (x : FVec Ideal S512x128 .f32) (y : ℕ → EReal) (e : Fin 128)
    (hx : ∀ r : Fin 512, x (ix2 r e) = back y k r.val) (r : Fin 512) :
    addf x (select (cmpi .sge v (broadcast S512x128 (BitVec.ofNat 32 k)))
      (dynamicRotate 0 (BitVec.ofNat 32 k) none x rotates_S512x128_d0)
      (broadcast S512x128 (Scalar.ofBits (F := Ideal) .f32 0x00000000#32))) (ix2 r e) = back y (k + k) r.val := by
  rw [← back_double]
  pointwise [hx]
  have hr := r.isLt
  have hw : (BitVec.ofNat 32 k).toNat = k := by
    rw [BitVec.toNat_ofNat]
    omega
  rw [hw, hv, at_least (r.val % 64) k (Nat.mod_lt _ (by decide)) hk]
  congr 1
  by_cases h : k ≤ r.val % 64
  · rw [if_pos h, if_pos h]
    have e : (r.val + 512 - k % 512) % 512 = r.val - k := by omega
    rw [e]
    rfl
  · rw [if_neg h, if_neg h]
    rfl

/-- The six doublings make the sum over the chunk. -/
theorem sums_apply (x : FVec Ideal S512x128 .f32) (u : FVec Ideal S1x128 .f32) (e : Fin 128) (y : ℕ → EReal)
    (hy : ∀ r : Fin 512, u (ix2 (0 : Fin 1) e) * x (ix2 r e) = y r.val) (r : Fin 512) :
    k0_pay7 (F := Ideal) k0_pay3 x u (ix2 r e) = back y 64 r.val := by
  have h0 : ∀ r : Fin 512, mulf (broadcastTo S512x128 u broadcasts_S1x128_S512x128) x (ix2 r e) = back y 1 r.val := fun r =>
    (product_apply x u r e).trans ((hy r).trans (back_one y r.val).symm)
  have h1 := step_apply k0_pay3 place_apply 1 (by decide) _ y e h0
  have h2 := step_apply k0_pay3 place_apply 2 (by decide) _ y e h1
  have h3 := step_apply k0_pay3 place_apply 4 (by decide) _ y e h2
  have h4 := step_apply k0_pay3 place_apply 8 (by decide) _ y e h3
  have h5 := step_apply k0_pay3 place_apply 16 (by decide) _ y e h4
  have h6 := step_apply k0_pay3 place_apply 32 (by decide) _ y e h5
  exact h6 r

theorem logit_apply (x : FVec Ideal S512x2048 .f32) (w : FVec Ideal S2048x128 .bf16) (r : Fin 512) (e : Fin 128) :
    k0_pay2 (F := Ideal) x w (ix2 r e) = ∑ d : Fin 2048, x (ix2 r d) * w (ix2 d e) := by
  pointwise [k0_pay2]

theorem strength_apply (x : FVec Ideal S512x2048 .f32) (w : FVec Ideal S2048x128 .bf16) (r : Fin 512) (e : Fin 128) :
    k0_pay4 (F := Ideal) x w (ix2 r e) = Ideal.logistic (k0_pay2 (F := Ideal) x w (ix2 r e)) := by
  pointwise [k0_pay4]

theorem softplus_apply (x : FVec Ideal S512x2048 .f32) (w : FVec Ideal S2048x128 .bf16) (b : FVec Ideal S1x128 .f32)
    (r : Fin 512) (e : Fin 128) :
    k0_pay5 (F := Ideal) x w b (ix2 r e) = softplus (k0_pay2 (F := Ideal) x w (ix2 r e) + b (ix2 (0 : Fin 1) e)) := by
  pointwise [k0_pay5, softplus]
  rw [zero_sub]
  rfl

theorem rate_apply (a : FVec Ideal S1x128 .f32) (e : Fin 128) :
    k0_pay6 (F := Ideal) a (ix2 (0 : Fin 1) e) = -(Ideal.exp (a (ix2 (0 : Fin 1) e))) := by
  pointwise [k0_pay6]
  rw [zero_sub]

/-- The kernel's rows of 128 lanes: 32 strengths, 32 summed decays, then zeros. -/
def lanes (h : Tokens) (w : Weights) (a b : Heads) (r : Fin 32768) (e : Fin 128) : EReal :=
  if h1 : e.val < 32 then strength h w r ⟨e.val, h1⟩
  else if h2 : e.val < 64 then summed h w a b r ⟨e.val - 32, by omega⟩
  else 0

variable (m : (ℓ : Loc nD τ sig) → Buf (Elt Ideal) ℓ) (ρ : Dev nD → PrngReg) (c : Dev nD)

theorem blocks (t : Fin cfg0.N) :
    win0_0.index t = ![t.val, 0] ∧ win0_1.index t = ![0, 0] ∧ win0_2.index t = ![0, 0] ∧ win0_3.index t = ![0, 0]
      ∧ win0_4.index t = ![t.val, 0] :=
  (by decide +kernel : ∀ t : Fin grid0.N,
    win0_0.index t = ![t.val, 0] ∧ win0_1.index t = ![0, 0] ∧ win0_2.index t = ![0, 0] ∧ win0_3.index t = ![0, 0]
      ∧ win0_4.index t = ![t.val, 0]) t

abbrev tokens : Tokens := m (c.tc.loc main_arg0)
abbrev weights : Weights := m (c.tc.loc main_arg1)
abbrev rates : Heads := m (c.tc.loc main_arg2)
abbrev biases : Heads := m (c.tc.loc main_arg3)

theorem lt_N (t : Fin cfg0.N) : t.val < 64 := lt_of_lt_of_eq t.isLt N_0

def tok (t : Fin cfg0.N) (a : Fin 512) : Fin 32768 := ⟨512 * t.val + a.val, by have := lt_N t; omega⟩

theorem tokens_block (t : Fin cfg0.N) (a : Fin 512) (d : Fin 2048) :
    (iblk m c 0 t : Vec Ideal S512x2048 .f32) (ix2 a d) = tokens m c (ix2 (tok t a) d) := by
  blk_ext [iblk, V, (blocks t).1, tok]

theorem weights_rows : (V m c main_v2 : FVec Ideal S2048x128 .bf16)
    = pad (α := EReal) S2048x128 ![0, 0] ![0, 64] ![0, 0]
        (extractStridedSlice S2048x64 ![0, 12288] (truncf .bf16 (m (c.tc.loc main_arg1) : FVec Ideal S2048x12352 .f32) bitsLt_bf16_f32 : FVec Ideal S2048x12352 .bf16)
          slices_S2048x12352_S2048x64_0_12288)
        (sitofp (F := Ideal) .bf16 (constantI S_ 32 0#32)) pads_S2048x64_S2048x128_000_0640 h_S_ := by
  sl_kernel_rfl

/-- A row of 128 lanes, the heads' values in lanes 32 to 64. -/
abbrev row (x : FVec Ideal S32 .f32) : FVec Ideal S1x128 .f32 :=
  broadcastInDim S1x128 ![1] bcast_S128_S1x128_1 (concatenate S128 0
    [⟨S32, (broadcastInDim S32 ![] bcast_S_S32 (constant S_ .f32 0x00000000#32) : FVec Ideal S32 .f32)⟩, ⟨S32, x⟩,
      ⟨S64, (broadcastInDim S64 ![] bcast_S_S64 (constant S_ .f32 0x00000000#32) : FVec Ideal S64 .f32)⟩] concatenates_S32_S32_S64_S128_d0)

theorem rates_row : (V m c main_v6 : FVec Ideal S1x128 .f32) = row (m (c.tc.loc main_arg2)) := by
  sl_kernel_rfl

theorem biases_row : (V m c main_v8 : FVec Ideal S1x128 .f32) = row (m (c.tc.loc main_arg3)) := by
  sl_kernel_rfl

theorem row_apply (x : FVec Ideal S32 .f32) (n : Fin 32) :
    row x (ix2 (0 : Fin 1) (⟨32 + n.val, by omega⟩ : Fin 128)) = x (ix1 n) := by
  pointwise [row]

theorem weights_block (t : Fin cfg0.N) (d : Fin 2048) (e : Fin 64) :
    (iblk m c 1 t : Vec Ideal S2048x128 .bf16) (ix2 d (⟨e.val, by omega⟩ : Fin 128))
      = weights m c (ix2 d (⟨12288 + e.val, by omega⟩ : Fin 12352)) := by
  have h : (iblk m c 1 t : Vec Ideal S2048x128 .bf16) (ix2 d (⟨e.val, by omega⟩ : Fin 128))
      = (V m c main_v2 : FVec Ideal S2048x128 .bf16) (ix2 d (⟨e.val, by omega⟩ : Fin 128)) := by
    blk_ext [iblk, (blocks t).2.1]
  rw [h, weights_rows]
  pointwise

theorem rates_block (t : Fin cfg0.N) (e : Fin 128) :
    (iblk m c 2 t : Vec Ideal S1x128 .f32) (ix2 (0 : Fin 1) e) = row (rates m c) (ix2 (0 : Fin 1) e) := by
  rw [← rates_row]
  blk_ext [iblk, (blocks t).2.2.1]

theorem biases_block (t : Fin cfg0.N) (e : Fin 128) :
    (iblk m c 3 t : Vec Ideal S1x128 .f32) (ix2 (0 : Fin 1) e) = row (biases m c) (ix2 (0 : Fin 1) e) := by
  rw [← biases_row]
  blk_ext [iblk, (blocks t).2.2.2.1]

/-- The kernel's result lanes: the strengths, the sums, zeros. -/
theorem lanes_apply (x0 : Vec Ideal S512x2048 .f32) (x1 : Vec Ideal S2048x128 .bf16) (x2 x3 : Vec Ideal S1x128 .f32)
    (v s : FVec Ideal S512x128 .f32) (r : Fin 512) (e : Fin 128) :
    k0_pay1 (F := Ideal) (k0_pay9 x0 x1 x2 x3) v s (k0_pay8 (k0_pay9 x0 x1 x2 x3)) 64#32 (ix2 r e)
      = if e.val < 32 then v (ix2 r e) else if e.val < 64 then s (ix2 r e) else 0 := by
  pointwise [k0_pay1, k0_pay8, k0_pay9]
  rw [below e.val 32 e.isLt (by decide), below e.val 64 e.isLt (by decide)]
  by_cases h1 : e.val < 32
  · rw [if_pos h1, if_pos h1]
    rfl
  · rw [if_neg h1, if_neg h1]
    by_cases h2 : e.val < 64
    · rw [if_pos h2, if_pos h2]
      rfl
    · rw [if_neg h2, if_neg h2]
      rfl

theorem out_eq (x0 : Vec Ideal S512x2048 .f32) (x1 : Vec Ideal S2048x128 .bf16) (x2 x3 : Vec Ideal S1x128 .f32) :
    out0_4 x0 x1 x2 x3 = k0_pay1 (k0_pay9 x0 x1 x2 x3) (k0_pay4 x0 x1) (k0_pay7 k0_pay3 (k0_pay5 x0 x1 x3) (k0_pay6 x2))
      (k0_pay8 (k0_pay9 x0 x1 x2 x3)) 64#32 := by
  unfold out0_4
  frame_out

theorem logit_block (t : Fin cfg0.N) (r : Fin 512) (e : Fin 64) :
    k0_pay2 (F := Ideal) (iblk m c 0 t) (iblk m c 1 t) (ix2 r (⟨e.val, by omega⟩ : Fin 128))
      = logit (tokens m c) (weights m c) (tok t r) e := by
  refine (logit_apply _ _ r _).trans (Finset.sum_congr rfl fun d _ => ?_)
  rw [tokens_block, weights_block]

/-- Lanes 32 to 64 hold the summed decays: a block starts at a chunk's first token. -/
theorem sum_block (t : Fin cfg0.N) (r : Fin 512) (n : Fin 32) :
    k0_pay7 (F := Ideal) k0_pay3 (k0_pay5 (iblk m c 0 t) (iblk m c 1 t) (iblk m c 3 t)) (k0_pay6 (iblk m c 2 t))
        (ix2 r (⟨32 + n.val, by omega⟩ : Fin 128))
      = summed (tokens m c) (weights m c) (rates m c) (biases m c) (tok t r) n := by
  unfold summed
  have hl := lt_N t
  refine (sums_apply _ _ _
    (fun a => decayAt (tokens m c) (weights m c) (rates m c) (biases m c) n (512 * t.val + a)) (fun a => ?_) r).trans ?_
  · rw [rate_apply, softplus_apply, rates_block, biases_block, row_apply, row_apply]
    have ha : 512 * t.val + a.val < 32768 := by omega
    have hz := logit_block m c t a ⟨32 + n.val, by omega⟩
    show _ = decayAt _ _ _ _ _ _
    unfold decayAt decay
    rw [dif_pos ha]
    exact congrArg (fun z => -(Ideal.exp (rates m c (ix1 n))) * softplus (z + biases m c (ix1 n))) hz
  · have hr := r.isLt
    show back _ 64 r.val = back _ 64 (512 * t.val + r.val)
    refine back_congr _ _ _ _ (by omega) fun i hi => ?_
    have e' : 512 * t.val + (r.val - i) = 512 * t.val + r.val - i := by omega
    show decayAt _ _ _ _ _ (512 * t.val + (r.val - i)) = _
    rw [e']

theorem point_apply (t : Fin cfg0.N) (r : Fin 512) (e : Fin 128) :
    (out0_4 (iblk m c 0 t) (iblk m c 1 t) (iblk m c 2 t) (iblk m c 3 t) : FVec Ideal S512x128 .f32) (ix2 r e)
      = lanes (tokens m c) (weights m c) (rates m c) (biases m c) (tok t r) e := by
  rw [out_eq]
  refine (lanes_apply _ _ _ _ _ _ r e).trans ?_
  unfold lanes
  by_cases h1 : e.val < 32
  · rw [if_pos h1, dif_pos h1]
    refine (strength_apply _ _ r e).trans (congrArg Ideal.logistic ?_)
    exact logit_block m c t r ⟨e.val, by omega⟩
  · rw [if_neg h1, dif_neg h1]
    by_cases h2 : e.val < 64
    · rw [if_pos h2, dif_pos h2]
      have he : e = (⟨32 + (e.val - 32), by omega⟩ : Fin 128) := Fin.ext (by
        show e.val = 32 + (e.val - 32)
        omega)
      refine Eq.trans (congrArg (fun e' => k0_pay7 (F := Ideal) k0_pay3 (k0_pay5 (iblk m c 0 t) (iblk m c 1 t) (iblk m c 3 t))
        (k0_pay6 (iblk m c 2 t)) (ix2 r e')) he) ?_
      exact sum_block m c t r ⟨e.val - 32, by omega⟩
    · rw [if_neg h2, dif_neg h2]

/-- The array the kernel is to leave. -/
def whole : FVec Ideal S32768x128 .f32 := fun i => lanes (tokens m c) (weights m c) (rates m c) (biases m c) (i 0) (i 1)

theorem flushed_whole (t : Fin cfg0.N) :
    (dats m 0 c).flushed 4 t = ((cfg0.win 4).blk t).view.read (Elt Ideal) (whole m c) := by
  show (cfg0.win 4).cut (grid0.coords t) ((dats m 0 c).after 4 t) = _
  rw [after0_4]
  funext y
  have hb0 : (((cfg0.win 4).blk t).view.emb y 0).val = win0_4.index t (0 : Fin 2) * 512 + 1 * (y 0).val := rfl
  have hb1 : (((cfg0.win 4).blk t).view.emb y 1).val = win0_4.index t (1 : Fin 2) * 128 + 1 * (y 1).val := rfl
  rw [(blocks t).2.2.2.2] at hb0 hb1
  show (out0_4 (iblk m c 0 t) (iblk m c 1 t) (iblk m c 2 t) (iblk m c 3 t) : FVec Ideal S512x128 .f32)
      ((cfg0.win 4).xinj (grid0.coords t) y)
    = whole m c (((cfg0.win 4).blk t).view.emb y)
  rw [eq_ix2 ((cfg0.win 4).xinj (grid0.coords t) y)]
  refine (point_apply m c t _ _).trans ?_
  unfold whole
  congr 1
  · apply Fin.ext
    refine Eq.trans ?_ hb0.symm
    show 512 * t.val + (y 0).val = t.val * 512 + 1 * (y 0).val
    omega
  · apply Fin.ext
    refine Eq.trans ?_ hb1.symm
    show (y 1).val = 0 * 128 + 1 * (y 1).val
    omega

/-- The point that writes the block of element `i`. -/
def owner (i : S32768x128.Idx) : Fin cfg0.N :=
  ⟨(i 0).val / 512, lt_of_lt_of_eq (by
    have h0 : (i 0).val < 32768 := (i 0).isLt
    omega) N_0.symm⟩

theorem mem_owner (i : S32768x128.Idx) : i ∈ ((cfg0.win 4).blk (owner i)).view.set := by
  have h0 : (i 0).val < 32768 := (i 0).isLt
  have h1 : (i 1).val < 128 := (i 1).isLt
  show i ∈ ((View.whole main_v9).slice (win0_4.rect (owner i))).set
  rw [View.set_slice_whole, Rect.mem_set_unit]
  intro a
  match a with
  | ⟨0, _⟩ =>
    show win0_4.index (owner i) (0 : Fin 2) * 512 ≤ (i 0).val ∧ (i 0).val < win0_4.index (owner i) (0 : Fin 2) * 512 + 512
    rw [(blocks (owner i)).2.2.2.2]
    show (i 0).val / 512 * 512 ≤ (i 0).val ∧ (i 0).val < (i 0).val / 512 * 512 + 512
    omega
  | ⟨1, _⟩ =>
    show win0_4.index (owner i) (1 : Fin 2) * 128 ≤ (i 1).val ∧ (i 1).val < win0_4.index (owner i) (1 : Fin 2) * 128 + 128
    rw [(blocks (owner i)).2.2.2.2]
    show 0 * 128 ≤ (i 1).val ∧ (i 1).val < 0 * 128 + 128
    omega

theorem array_whole : (dats m 0 c).arrAt 4 cfg0.N = whole m c :=
  (dats m 0 c).arrAt_eq_of_cover 4 _ (fun t _ => flushed_whole m c t) (fun i => ⟨owner i, flush0_4 _, mem_owner i⟩)

theorem arrays_distinct : Function.Injective (Pipeline.arrRef spec0) := by decide

/-- The host keeps the strengths' 32 lanes. -/
theorem kept_strengths : Pipeline.afterTail₀ cfgs (dats m) 0 (V0 m) [hostOps1] c main_v10
    = extractStridedSlice (α := EReal) S32768x32 ![0, 0] (whole m c) slices_S32768x128_S32768x32_0_0 := by
  rw [← array_whole m c, ← Pipeline.withArrays_arr spec0 arrays_distinct c (V0 m c) (fun w => (dats m 0 c).arrAt w cfg0.N) 4]
  unfold Pipeline.afterTail₀
  simp only [hostOps1, List.flatten_cons, List.flatten_nil, List.append_nil]
  after_results_simp

/-- And the summed decays' 32 lanes. -/
theorem kept_sums : Pipeline.afterTail₀ cfgs (dats m) 0 (V0 m) [hostOps1] c main_v11
    = extractStridedSlice (α := EReal) S32768x32 ![0, 32] (whole m c) slices_S32768x128_S32768x32_0_32 := by
  rw [← array_whole m c, ← Pipeline.withArrays_arr spec0 arrays_distinct c (V0 m c) (fun w => (dats m 0 c).arrAt w cfg0.N) 4]
  unfold Pipeline.afterTail₀
  simp only [hostOps1, List.flatten_cons, List.flatten_nil, List.append_nil]
  after_results_simp

theorem strengths_kept_apply (r : Fin 32768) (n : Fin 32) :
    extractStridedSlice (α := EReal) S32768x32 ![0, 0] (whole m c) slices_S32768x128_S32768x32_0_0 (ix2 r n)
      = strength (tokens m c) (weights m c) r n := by
  refine Eq.trans (b := whole m c (ix2 r (⟨n.val, by omega⟩ : Fin 128))) (by pointwise) ?_
  exact dif_pos n.isLt

theorem sums_kept_apply (r : Fin 32768) (n : Fin 32) :
    extractStridedSlice (α := EReal) S32768x32 ![0, 32] (whole m c) slices_S32768x128_S32768x32_0_32 (ix2 r n)
      = summed (tokens m c) (weights m c) (rates m c) (biases m c) r n := by
  refine Eq.trans (b := whole m c (ix2 r (⟨32 + n.val, by omega⟩ : Fin 128))) (by pointwise) ?_
  have h1 : ¬32 + n.val < 32 := by omega
  have h2 : 32 + n.val < 64 := by omega
  refine (dif_neg h1).trans ((dif_pos h2).trans ?_)
  exact congrArg (summed (tokens m c) (weights m c) (rates m c) (biases m c) r) (Fin.ext (by
    show 32 + n.val - 32 = n.val
    omega))

/-- The kernel's run: its results are the strengths and the summed decays, its arguments are unchanged. -/
theorem run : θ_run defs (onTc (τ := τ) (main (F := Ideal))) ⟨m, fun _ => 0, ρ⟩ fun r => ∀ c : Dev nD,
      r.2.mem (c.tc.loc main_v10) = extractStridedSlice (α := EReal) S32768x32 ![0, 0] (whole m c) slices_S32768x128_S32768x32_0_0
      ∧ r.2.mem (c.tc.loc main_v11) = extractStridedSlice (α := EReal) S32768x32 ![0, 32] (whole m c) slices_S32768x128_S32768x32_0_32
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun _ h c => ⟨
      ((h c).2 main_v10 (Pipeline.mem_restRefs_of main_v10 (by decide) (by decide))).trans (kept_strengths m c),
      ((h c).2 main_v11 (Pipeline.mem_restRefs_of main_v11 (by decide) (by decide))).trans (kept_sums m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main (F := Ideal) m ρ)

end Cert.Decay

end
-- ==== Proof.Decay.RefValue.lean ====
/-
  What the plain reference computes, element by element.
-/
module

public import proofs.«01_k».proof.Proof.Gen.Reference8Ideal.Run
public import proofs.«01_k».proof.Proof.Decay.Spec

@[expose] public section

set_option maxRecDepth 16384

noncomputable section

namespace Cert.Decay

open Idealize.ShloMosaic
open Cert.Reference8Ideal Cert.Reference8Ideal.Gen

/-- Adding up a list from the left is its sum. -/
theorem foldl_sum {n : ℕ} (f : Fin n → EReal) : (List.finRange n).foldl (fun r i => r + f i) 0 = ∑ i : Fin n, f i := by
  have h : ∀ (l : List (Fin n)) (v : EReal), l.foldl (fun r i => r + f i) v = v + (l.map f).sum := by
    intro l
    induction l with
    | nil => intro v; simp
    | cons a l ih => intro v; rw [List.foldl_cons, ih, List.map_cons, List.sum_cons, add_assoc]
  rw [h, zero_add, Fin.sum_univ_def]

theorem window_index : ∀ n : Fin (⟨3, ![1, 64, 1]⟩ : Shape).numel,
    ((⟨3, ![1, 64, 1]⟩ : Shape).rowMajor.symm n 0).val = 0 ∧ ((⟨3, ![1, 64, 1]⟩ : Shape).rowMajor.symm n 1).val = n.val
      ∧ ((⟨3, ![1, 64, 1]⟩ : Shape).rowMajor.symm n 2).val = 0 := by
  decide +kernel

/-- The running sum over a chunk's 64 tokens. -/
theorem cumsum_apply (x : FVec Ideal S512x64x32 .f32) (init : FVec Ideal S_ .f32) (hi : ∀ i, init i = (0 : EReal))
    (q : Fin 512) (p : Fin 64) (n : Fin 32) (y : ℕ → EReal) (hy : ∀ i : Fin 64, x (ix3 q i n) = y (64 * q.val + i.val)) :
    (Host.reduceWindowAdd ![1, 64, 1] ![1, 1, 1] ![0, 63, 0] ![0, 0, 0] x init
      reduceWindows_S512x64x32_S512x64x32_w1s1p0_0_w64s1p63_0_w1s1p0_0 h_S_ : FVec Ideal S512x64x32 .f32) (ix3 q p n)
      = back y 64 (64 * q.val + p.val) := by
  show Host.reduceWindow (α := EReal) (· + ·) ![1, 64, 1] ![1, 1, 1] ![0, 63, 0] ![0, 0, 0] x
    (fun _ : (⟨0, ![]⟩ : Shape).Idx => init (Shape.Idx.first h_S_))
    reduceWindows_S512x64x32_S512x64x32_w1s1p0_0_w64s1p63_0_w1s1p0_0 (by decide) (ix3 q p n) = _
  unfold Host.reduceWindow
  dsimp only
  rw [hi, foldl_sum]
  have hq := q.isLt
  have hp := p.isLt
  have hn := n.isLt
  have hm : (64 * q.val + p.val) % 64 = p.val := by omega
  rw [back_reflect, hm, ← Fin.sum_univ_eq_sum_range (fun k => if 63 ≤ p.val + k then y (64 * q.val + p.val - (63 - k)) else 0) 64]
  refine Finset.sum_congr rfl fun k _ => ?_
  obtain ⟨w0, w1, w2⟩ := window_index k
  have hk : k.val < 64 := k.isLt
  by_cases h : 63 ≤ p.val + k.val
  · refine Eq.trans (dif_pos ?_) (Eq.trans ?_ (if_pos h).symm)
    · intro a
      match a with
      | ⟨0, _⟩ =>
        show 0 ≤ q.val * 1 + ((⟨3, ![1, 64, 1]⟩ : Shape).rowMajor.symm k 0).val
          ∧ q.val * 1 + ((⟨3, ![1, 64, 1]⟩ : Shape).rowMajor.symm k 0).val - 0 < 512
        omega
      | ⟨1, _⟩ =>
        show 63 ≤ p.val * 1 + ((⟨3, ![1, 64, 1]⟩ : Shape).rowMajor.symm k 1).val
          ∧ p.val * 1 + ((⟨3, ![1, 64, 1]⟩ : Shape).rowMajor.symm k 1).val - 63 < 64
        omega
      | ⟨2, _⟩ =>
        show 0 ≤ n.val * 1 + ((⟨3, ![1, 64, 1]⟩ : Shape).rowMajor.symm k 2).val
          ∧ n.val * 1 + ((⟨3, ![1, 64, 1]⟩ : Shape).rowMajor.symm k 2).val - 0 < 32
        omega
    · have e : 64 * q.val + p.val - (63 - k.val) = 64 * q.val + (p.val + k.val - 63) := by omega
      refine Eq.trans (congrArg x (funext fun a => Fin.ext ?_)) ((hy ⟨p.val + k.val - 63, by omega⟩).trans (congrArg y e.symm))
      match a with
      | ⟨0, _⟩ =>
        show q.val * 1 + ((⟨3, ![1, 64, 1]⟩ : Shape).rowMajor.symm k 0).val - 0 = q.val
        omega
      | ⟨1, _⟩ =>
        show p.val * 1 + ((⟨3, ![1, 64, 1]⟩ : Shape).rowMajor.symm k 1).val - 63 = p.val + k.val - 63
        omega
      | ⟨2, _⟩ =>
        show n.val * 1 + ((⟨3, ![1, 64, 1]⟩ : Shape).rowMajor.symm k 2).val - 0 = n.val
        omega
  · refine Eq.trans (dif_neg fun hin => h ?_) (if_neg h).symm
    have h1 := (hin 1).1
    change 63 ≤ p.val * 1 + ((⟨3, ![1, 64, 1]⟩ : Shape).rowMajor.symm k 1).val at h1
    omega

abbrev projected (h : FVec Ideal S32768x2048 .f32) (w : FVec Ideal S2048x12352 .f32) : FVec Ideal S32768x12352 .f32 :=
  Host.dotGeneral dot_S32768x2048_S2048x12352_S32768x12352_1_0_0_1_n_n none h w

abbrev strengths (h : FVec Ideal S32768x2048 .f32) (w : FVec Ideal S2048x12352 .f32) : FVec Ideal S32768x32 .f32 :=
  Host.divf (broadcastInDim S32768x32 ![] bcast_S_S32768x32 (constant S_ .f32 0x3F800000#32)) (addf (broadcastInDim S32768x32 ![] bcast_S_S32768x32 (constant S_ .f32 0x3F800000#32)) (Host.exp (Host.negf (extractStridedSlice S32768x32 ![0, 12288] (projected h w) slices_S32768x12352_S32768x32_0_12288))))

abbrev zeros : FVec Ideal S32768x32 .f32 := broadcastInDim S32768x32 ![] bcast_S_S32768x32 (constant S_ .f32 0x00000000#32)

abbrev raised (h : FVec Ideal S32768x2048 .f32) (w : FVec Ideal S2048x12352 .f32) (b : FVec Ideal S32 .f32) : FVec Ideal S32768x32 .f32 :=
  addf (extractStridedSlice S32768x32 ![0, 12320] (projected h w) slices_S32768x12352_S32768x32_0_12320) (broadcastInDim S32768x32 ![0, 1] bcast_S1x32_S32768x32_0_1 (broadcastInDim S1x32 ![1] bcast_S32_S1x32_1 b))

abbrev softened (z : FVec Ideal S32768x32 .f32) : FVec Ideal S32768x32 .f32 :=
  select (cmpf .une (subf z zeros) (subf z zeros)) (addf z zeros) (addf (maximumf z zeros) (Host.log1p (Host.exp (Host.negf (Host.absf (subf z zeros))))))

abbrev decays (h : FVec Ideal S32768x2048 .f32) (w : FVec Ideal S2048x12352 .f32) (a b : FVec Ideal S32 .f32) : FVec Ideal S32768x32 .f32 :=
  mulf (broadcastInDim S32768x32 ![0, 1] bcast_S1x32_S32768x32_0_1 (broadcastInDim S1x32 ![1] bcast_S32_S1x32_1 (Host.negf (Host.exp a)))) (softened (raised h w b))

abbrev sums (g : FVec Ideal S32768x32 .f32) : FVec Ideal S32768x32 .f32 :=
  shapeCast _ (Host.reduceWindowAdd ![1, 64, 1] ![1, 1, 1] ![0, 63, 0] ![0, 0, 0] (shapeCast _ g shapeCasts_S32768x32_S512x64x32) (broadcastInDim S_ ![] bcast_S_S_ (constant S_ .f32 0x00000000#32)) reduceWindows_S512x64x32_S512x64x32_w1s1p0_0_w64s1p63_0_w1s1p0_0 h_S_ : FVec Ideal S512x64x32 .f32) shapeCasts_S512x64x32_S32768x32

theorem strengths_apply (h : FVec Ideal S32768x2048 .f32) (w : FVec Ideal S2048x12352 .f32) (r : Fin 32768) (n : Fin 32) :
    strengths h w (ix2 r n) = strength h w r n := by
  pointwise [strengths, projected, strength, logit, Ideal.logistic]

theorem raised_apply (h : FVec Ideal S32768x2048 .f32) (w : FVec Ideal S2048x12352 .f32) (b : FVec Ideal S32 .f32) (r : Fin 32768) (n : Fin 32) :
    raised h w b (ix2 r n) = logit h w r ⟨32 + n.val, by omega⟩ + b (ix1 n) := by
  pointwise [raised, projected, logit]
  congr 1
  refine Finset.sum_congr rfl fun d _ => ?_
  have e : (⟨12320 + n.val, by omega⟩ : Fin 12352) = ⟨12288 + (32 + n.val), by omega⟩ := Fin.ext (by
    show 12320 + n.val = 12288 + (32 + n.val)
    omega)
  rw [e]

theorem softened_apply (z : FVec Ideal S32768x32 .f32) (r : Fin 32768) (n : Fin 32) :
    softened z (ix2 r n) = softplus (z (ix2 r n)) := by
  pointwise [softened, zeros, softplus]
  exact if_neg (fun h => h rfl)

theorem decays_apply (h : FVec Ideal S32768x2048 .f32) (w : FVec Ideal S2048x12352 .f32) (a b : FVec Ideal S32 .f32) (r : Fin 32768) (n : Fin 32) :
    decays h w a b (ix2 r n) = decay h w a b r n := by
  have e : decays h w a b (ix2 r n) = -(Ideal.exp (a (ix1 n))) * softened (raised h w b) (ix2 r n) := by
    unfold decays
    generalize softened (raised h w b) = s
    pointwise
  rw [e, softened_apply, raised_apply]
  rfl

theorem chunk_apply (g : FVec Ideal S32768x32 .f32) (r : Fin 32768) (n : Fin 32) (y : ℕ → EReal)
    (hy : ∀ i : Fin 32768, g (ix2 i n) = y i.val) : sums g (ix2 r n) = back y 64 r.val := by
  have hr := r.isLt
  have e : 64 * (r.val / 64) + r.val % 64 = r.val := by omega
  have k := cumsum_apply (shapeCast _ g shapeCasts_S32768x32_S512x64x32)
    (broadcastInDim S_ ![] bcast_S_S_ (constant S_ .f32 0x00000000#32)) (fun i => by pointwise)
    ⟨r.val / 64, by omega⟩ ⟨r.val % 64, by omega⟩ n y (fun i => by
      refine Eq.trans ?_ (hy ⟨64 * (r.val / 64) + i.val, by omega⟩)
      pointwise
      have e' : (⟨r.val / 64 * 64 + i.val, by omega⟩ : Fin 32768) = ⟨64 * (r.val / 64) + i.val, by omega⟩ := Fin.ext (by
        show r.val / 64 * 64 + i.val = 64 * (r.val / 64) + i.val
        omega)
      rw [e'])
  rw [e] at k
  refine Eq.trans ?_ k
  unfold sums
  generalize (Host.reduceWindowAdd ![1, 64, 1] ![1, 1, 1] ![0, 63, 0] ![0, 0, 0] (shapeCast _ g shapeCasts_S32768x32_S512x64x32) (broadcastInDim S_ ![] bcast_S_S_ (constant S_ .f32 0x00000000#32)) reduceWindows_S512x64x32_S512x64x32_w1s1p0_0_w64s1p63_0_w1s1p0_0 h_S_ : FVec Ideal S512x64x32 .f32) = u
  pointwise

theorem result_apply (h : FVec Ideal S32768x2048 .f32) (w : FVec Ideal S2048x12352 .f32) (a b : FVec Ideal S32 .f32) (r : Fin 32768) (n : Fin 32) :
    sums (decays h w a b) (ix2 r n) = summed h w a b r n :=
  chunk_apply (decays h w a b) r n (decayAt h w a b n) (fun i => by
    rw [decays_apply]
    unfold decayAt
    rw [dif_pos i.isLt])

end Cert.Decay

end
-- ==== Proof.Decay.Claim.lean ====
/-
  The gates of the delta rule: the kernel and its reference leave the same result.
-/
module

public import proofs.«01_k».proof.Defs
public import proofs.«01_k».proof.Proof.Decay.KernelValue
public import proofs.«01_k».proof.Proof.Decay.RefValue

@[expose] public section

set_option maxRecDepth 16384

noncomputable section

namespace Cert.Decay

open Idealize.ShloMosaic Idealize.SL.Sem

theorem agree : algebraic_Kernel8Ideal_Reference8Ideal := by
  intro m ρ m' ρ' _ hagree
  refine ⟨_, _, run m ρ, ?_⟩
  refine (θ_run Cert.Reference8Ideal.defs _ _).mono (fun _ h c => ⟨?_, ?_, (h c).2.2⟩)
    (Cert.Reference8Ideal.Value.run (F := Ideal) m' ρ')
  · refine (h c).1.trans ?_
    funext i
    obtain ⟨r, n, rfl⟩ : ∃ (r : Fin 32768) (n : Fin 32), i = ix2 r n := ⟨i 0, i 1, eq_ix2 i⟩
    refine (strengths_apply _ _ r n).trans (Eq.trans ?_ (strengths_kept_apply m c r n).symm)
    obtain ⟨h0, h1, h2, h3⟩ := hagree c
    rw [h0, h1]
  · refine (h c).2.1.trans ?_
    funext i
    obtain ⟨r, n, rfl⟩ : ∃ (r : Fin 32768) (n : Fin 32), i = ix2 r n := ⟨i 0, i 1, eq_ix2 i⟩
    refine (result_apply _ _ _ _ r n).trans (Eq.trans ?_ (sums_kept_apply m c r n).symm)
    obtain ⟨h0, h1, h2, h3⟩ := hagree c
    rw [h0, h1, h2, h3]

end Cert.Decay

end
-- ==== Proof.Keys.Spec.lean ====
/-
  The attention's keys and values: each key turned by its token's place, the mean of the turned keys over each block of 256
  tokens, and the values laid out with the tokens last.
-/
module

public import Idealize.ShloMosaic.Lib.Pipeline.ValueKit

@[expose] public section

noncomputable section

namespace Cert.Keys

open Idealize.ShloMosaic

abbrev Tokens : Type := (⟨2, ![32768, 1024]⟩ : Shape).Idx → EReal
abbrev Angles : Type := (⟨2, ![16384, 16]⟩ : Shape).Idx → EReal

/-- The turn of a head's 128 numbers: the first 16 and the next 16 are turned in pairs, the rest stay. -/
def turn (x : Fin 128 → EReal) (c s : Fin 16 → EReal) (e : Fin 128) : EReal :=
  if h : e.val < 16 then x e * c ⟨e.val, h⟩ - x ⟨e.val + 16, by omega⟩ * s ⟨e.val, h⟩
  else if h' : e.val < 32 then x e * c ⟨e.val - 16, by omega⟩ + x ⟨e.val - 16, by omega⟩ * s ⟨e.val - 16, by omega⟩
  else x e

/-- The cosines as the kernel lays them over 128 lanes. -/
def cosLane (c : Fin 16 → EReal) (e : Fin 128) : EReal :=
  if h : e.val < 16 then c ⟨e.val, h⟩ else if h' : e.val < 32 then c ⟨e.val - 16, by omega⟩ else 1

/-- The sines that meet the number 16 lanes to the right, with their sign. -/
def sinLow (s : Fin 16 → EReal) (e : Fin 128) : EReal :=
  if h : e.val < 16 then -(s ⟨e.val, h⟩) else 0

/-- The sines that meet the number 16 lanes to the left. -/
def sinHigh (s : Fin 16 → EReal) (e : Fin 128) : EReal :=
  if e.val < 16 then 0 else if h' : e.val < 32 then s ⟨e.val - 16, by omega⟩ else 0

/-- Three products over the lanes make the turn, infinities included: what does not belong is multiplied by zero. -/
theorem turn_of_lanes (x : Fin 128 → EReal) (c s : Fin 16 → EReal) (e u v : Fin 128) (hu : u.val = (e.val + 16) % 128)
    (hv : v.val = (e.val + 112) % 128) : x e * cosLane c e + x u * sinLow s e + x v * sinHigh s e = turn x c s e := by
  unfold cosLane sinLow sinHigh turn
  by_cases h : e.val < 16
  · have eu : u = ⟨e.val + 16, by omega⟩ := Fin.ext (by
      show u.val = e.val + 16
      omega)
    rw [dif_pos h, dif_pos h, if_pos h, dif_pos h, mul_zero, add_zero, mul_neg, ← sub_eq_add_neg, eu]
  · by_cases h' : e.val < 32
    · have ev : v = ⟨e.val - 16, by omega⟩ := Fin.ext (by
        show v.val = e.val - 16
        omega)
      rw [dif_neg h, dif_pos h', dif_neg h, if_neg h, dif_pos h', dif_neg h, dif_pos h', mul_zero, add_zero, ev]
    · rw [dif_neg h, dif_neg h', dif_neg h, if_neg h, dif_neg h', dif_neg h, dif_neg h', mul_zero, mul_zero, add_zero,
        add_zero, mul_one]

/-- The turned key of token `r`, head `n`. -/
def key (kv : Tokens) (c s : Angles) (r : Fin 32768) (n : Fin 4) (e : Fin 128) : EReal :=
  turn (fun d => kv (ix2 r (⟨128 * n.val + d.val, by omega⟩ : Fin 1024)))
    (fun d => c (ix2 (⟨r.val % 16384, Nat.mod_lt _ (by decide)⟩ : Fin 16384) d))
    (fun d => s (ix2 (⟨r.val % 16384, Nat.mod_lt _ (by decide)⟩ : Fin 16384) d)) e

/-- The mean of a block's turned keys. -/
def keyMean (kv : Tokens) (c s : Angles) (b : Fin 128) (n : Fin 4) (e : Fin 128) : EReal :=
  Ideal.div (∑ a : Fin 256, key kv c s ⟨256 * b.val + a.val, by omega⟩ n e) (Ideal.ofBits .f32 0x43800000#32)

/-- The value of token `p` of sequence `q`, head `n`. -/
def value (kv : Tokens) (q : Fin 2) (n : Fin 4) (e : Fin 128) (p : Fin 16384) : EReal :=
  kv (ix2 (⟨16384 * q.val + p.val, by omega⟩ : Fin 32768) (⟨512 + (128 * n.val + e.val), by omega⟩ : Fin 1024))

end Cert.Keys

end
-- ==== Proof.Keys.KernelValue.lean ====
/-
  The attention's keys and values: what the kernel leaves at each element. The grid runs over 128 blocks of 256 tokens.
-/
module

public import proofs.«01_k».proof.Proof.Gen.Kernel9Ideal.Frame
public import proofs.«01_k».proof.Proof.Keys.Spec
public import Idealize.ShloMosaic.Lib.Pipeline.ValueKit
public import Idealize.ShloMosaic.Lib.Pipeline.ReadBack

@[expose] public section

set_option maxRecDepth 16384

noncomputable section

namespace Cert.Keys

open Idealize.ShloMosaic Idealize.SL.Sem
open Cert.Kernel9Ideal Cert.Kernel9Ideal.Gen

/-- The turn as the kernel computes it, over a head's 128 lanes. -/
theorem turned_apply (v0 v2 v4 x : FVec Ideal S256x128 .f32) (c s : Fin 16 → EReal) (r : Fin 256)
    (h0 : ∀ e : Fin 128, v0 (ix2 r e) = cosLane c e) (h2 : ∀ e : Fin 128, v2 (ix2 r e) = sinLow s e)
    (h4 : ∀ e : Fin 128, v4 (ix2 r e) = sinHigh s e) (e : Fin 128) :
    k0_pay9 (F := Ideal) v0 v2 v4 x (ix2 r e) = turn (fun d => x (ix2 r d)) c s e := by
  refine Eq.trans ?_ (turn_of_lanes (fun d => x (ix2 r d)) c s e ⟨(e.val + 16) % 128, Nat.mod_lt _ (by decide)⟩
    ⟨(e.val + 112) % 128, Nat.mod_lt _ (by decide)⟩ rfl rfl)
  pointwise [k0_pay9, k0_pay6, k0_pay7, k0_pay8]
  rw [h0, h2, h4]
  rfl

/-- A head's 128 columns of the block, read through its rectangle. -/
theorem head_read (x0 : Vec Ideal S256x1024 .f32) (o : ℕ) (inb) (r : Fin 256) (d : Fin 128) (k : Fin 1024) (hk : k.val = o + d.val) :
    (View.ld (Val := Elt Ideal) (e' := .f32) x0 (Rect.unit (s := S256x1024) ![0, o] ![256, 128] inb) : Vec Ideal S256x128 .f32) (ix2 r d) = x0 (ix2 r k) := by
  refine congrArg x0 (funext fun a => Fin.ext ?_)
  match a with
  | ⟨0, _⟩ =>
    show 0 + 1 * r.val = r.val
    omega
  | ⟨1, _⟩ =>
    show o + 1 * d.val = k.val
    omega

/-- The tables' rows, as the kernel reads them. -/
structure Tables (x1 x2 x3 : FVec Ideal S256x128 .f32) (c s : Fin 256 → Fin 16 → EReal) : Prop where
  cos : ∀ (r : Fin 256) (e : Fin 128), x1 (ix2 r e) = cosLane (c r) e
  low : ∀ (r : Fin 256) (e : Fin 128), x2 (ix2 r e) = sinLow (s r) e
  high : ∀ (r : Fin 256) (e : Fin 128), x3 (ix2 r e) = sinHigh (s r) e

/-- The turned key of row `r` of a block. -/
def keyBlk (x0 : FVec Ideal S256x1024 .f32) (c s : Fin 256 → Fin 16 → EReal) (r : Fin 256) (n : Fin 4) (e : Fin 128) : EReal :=
  turn (fun d => x0 (ix2 r (⟨128 * n.val + d.val, by omega⟩ : Fin 1024))) (c r) (s r) e

theorem head_apply (x0 : Vec Ideal S256x1024 .f32) (x1 x2 x3 : FVec Ideal S256x128 .f32) (c s : Fin 256 → Fin 16 → EReal)
    (hT : Tables x1 x2 x3 c s) (o : ℕ) (inb) (n : Fin 4) (hn : o = 128 * n.val) (r : Fin 256) (e : Fin 128) :
    k0_pay9 (F := Ideal) x1 x2 x3 (View.ld (Val := Elt Ideal) (e' := .f32) x0 (Rect.unit (s := S256x1024) ![0, o] ![256, 128] inb)) (ix2 r e) = keyBlk x0 c s r n e := by
  refine (turned_apply x1 x2 x3 _ (c r) (s r) r (hT.cos r) (hT.low r) (hT.high r) e).trans ?_
  unfold keyBlk
  congr 1
  funext d
  exact head_read x0 o inb r d _ (by
    show 128 * n.val + d.val = o + d.val
    omega)

abbrev meanOf (x : FVec Ideal S256x128 .f32) : FVec Ideal S1x1x128 .f32 :=
  shapeCast S1x1x128 (divf (shapeCast S1x128 (multiReduction .add [0] S128 x 0x00000000#32 reduces_S256x128_S128 (.inl rfl) rfl)
    shapeCasts_S128_S1x128) (broadcast S1x128 (Scalar.ofBits (F := Ideal) .f32 0x43800000#32))) shapeCasts_S1x128_S1x1x128

theorem mean_apply (x : FVec Ideal S256x128 .f32) (a b : Fin 1) (e : Fin 128) :
    meanOf x (ix3 a b e) = Ideal.div (∑ r : Fin 256, x (ix2 r e)) (Ideal.ofBits .f32 0x43800000#32) := by
  pointwise [meanOf]

abbrev laid (x : FVec Ideal S256x128 .f32) : FVec Ideal S1x1x128x256 .bf16 :=
  shapeCast S1x1x128x256 (truncf .bf16 (transpose S128x256 [1, 0] x transposes_S256x128_p1_0_S128x256) bitsLt_bf16_f32)
    shapeCasts_S128x256_S1x1x128x256

theorem laid_apply (x : FVec Ideal S256x128 .f32) (a b : Fin 1) (e : Fin 128) (p : Fin 256) :
    laid x (ix4 a b e p) = x (ix2 p e) := by
  pointwise [laid]

theorem ones_apply (z : S1x1x16x256.Idx) : (k0_pay5 (F := Ideal)) z = Ideal.ofBits .bf16 0x3F80#16 := by
  obtain ⟨a, b, p, q, rfl⟩ : ∃ (a : Fin 1) (b : Fin 1) (p : Fin 16) (q : Fin 256), z = ix4 a b p q := ⟨z 0, z 1, z 2, z 3, eq_ix4 z⟩
  pointwise [k0_pay5]

/-- A piece of the value output: 128 rows of values, tokens last. -/
theorem value_piece (x0 : Vec Ideal S256x1024 .f32) (o : ℕ) (inb) (n : Fin 4) (e : Fin 144) (p : Fin 256) (z : S1x1x128x256.Idx)
    (hn : o = 512 + 128 * n.val) (h2 : e.val = (z 2).val) (h3 : p.val = (z 3).val) :
    laid (View.ld (Val := Elt Ideal) (e' := .f32) x0 (Rect.unit (s := S256x1024) ![0, o] ![256, 128] inb)) z
      = if h : e.val < 128 then x0 (ix2 p (⟨512 + (128 * n.val + e.val), by omega⟩ : Fin 1024)) else Ideal.ofBits .bf16 0x3F80#16 := by
  obtain ⟨a, b, d, q, rfl⟩ : ∃ (a : Fin 1) (b : Fin 1) (d : Fin 128) (q : Fin 256), z = ix4 a b d q := ⟨z 0, z 1, z 2, z 3, eq_ix4 z⟩
  have hd := d.isLt
  change e.val = d.val at h2
  have hq : p = q := Fin.ext h3
  have he : e.val < 128 := by omega
  rw [dif_pos he, laid_apply, hq]
  exact head_read x0 o inb q d _ (by
    show 512 + (128 * n.val + e.val) = o + d.val
    omega)

/-- The other pieces: 16 rows of ones. -/
theorem one_piece (x0 : Vec Ideal S256x1024 .f32) (n : Fin 4) (e : Fin 144) (p : Fin 256) (z : S1x1x16x256.Idx) (k : ℕ)
    (h2 : e.val = 128 + k) :
    (k0_pay5 (F := Ideal)) z
      = if h : e.val < 128 then x0 (ix2 p (⟨512 + (128 * n.val + e.val), by omega⟩ : Fin 1024)) else Ideal.ofBits .bf16 0x3F80#16 := by
  have he : ¬e.val < 128 := by omega
  rw [dif_neg he, ones_apply]

variable (c : Dev nD)

section Block

variable (x0 : Vec Ideal S256x1024 .f32) (x1 x2 x3 : Vec Ideal S256x128 .f32) (cs sn : Fin 256 → Fin 16 → EReal) (hT : Tables x1 x2 x3 cs sn)

include hT in
theorem keys_eq (i : grid0.Coords)
    (arg1 : Memref sig .tc .vmem S256x1024 .f32) (harg1 : arg1.IsWhole) (arg2 : Memref sig .tc .vmem S256x128 .f32) (harg2 : arg2.IsWhole)
    (arg3 : Memref sig .tc .vmem S256x128 .f32) (harg3 : arg3.IsWhole) (arg4 : Memref sig .tc .vmem S256x128 .f32) (harg4 : arg4.IsWhole)
    (arg5 : Memref sig .tc .vmem S256x512 .bf16) (harg5 : arg5.IsWhole) (arg6 : Memref sig .tc .vmem S1x4x144x256 .bf16) (harg6 : arg6.IsWhole)
    (arg7 : Memref sig .tc .vmem S1x1x512 .f32) (harg7 : arg7.IsWhole)
    (r : Fin 256) (j : Fin 512) :
    (out0_A_4 c i arg1 harg1 arg2 harg2 arg3 harg3 arg4 harg4 arg5 harg5 arg6 harg6 arg7 harg7 x0 x1 x2 x3 : FVec Ideal S256x512 .bf16) (ix2 r j)
      = keyBlk x0 cs sn r ⟨j.val / 128, by omega⟩ ⟨j.val % 128, Nat.mod_lt _ (by decide)⟩ := by
  have hj := j.isLt
  frame_out
  canon_tiles z h
  all_goals
    obtain ⟨p, e, rfl⟩ : ∃ (p : Fin 256) (e : Fin 128), z = ix2 p e := ⟨z 0, z 1, eq_ix2 z⟩
    have h0' : p = r := Fin.ext h0.symm
    subst h0'
    change j.val = _ at h1
    have he : e.val < 128 := e.isLt
    have e' : (⟨j.val % 128, Nat.mod_lt _ (by decide)⟩ : Fin 128) = e := Fin.ext (by
      show j.val % 128 = e.val
      simp at h1
      omega)
    rw [e']
  · exact head_apply x0 x1 x2 x3 cs sn hT 384 _ ⟨j.val / 128, by omega⟩ (by simp at h1; show 384 = 128 * (j.val / 128); omega) p e
  · exact head_apply x0 x1 x2 x3 cs sn hT 256 _ ⟨j.val / 128, by omega⟩ (by simp at h1; show 256 = 128 * (j.val / 128); omega) p e
  · exact head_apply x0 x1 x2 x3 cs sn hT 128 _ ⟨j.val / 128, by omega⟩ (by simp at h1; show 128 = 128 * (j.val / 128); omega) p e
  · exact head_apply x0 x1 x2 x3 cs sn hT 0 _ ⟨j.val / 128, by omega⟩ (by simp at h1; show 0 = 128 * (j.val / 128); omega) p e

theorem mean_head (x : FVec Ideal S256x128 .f32) (n : Fin 4) (hx : ∀ (r : Fin 256) (e : Fin 128), x (ix2 r e) = keyBlk x0 cs sn r n e)
    (a b : Fin 1) (e : Fin 128) :
    meanOf x (ix3 a b e) = Ideal.div (∑ r : Fin 256, keyBlk x0 cs sn r n e) (Ideal.ofBits .f32 0x43800000#32) := by
  rw [mean_apply]
  exact congrArg (fun z => Ideal.div z _) (Finset.sum_congr rfl fun r _ => hx r e)

include hT in
theorem means_eq (i : grid0.Coords)
    (arg1 : Memref sig .tc .vmem S256x1024 .f32) (harg1 : arg1.IsWhole) (arg2 : Memref sig .tc .vmem S256x128 .f32) (harg2 : arg2.IsWhole)
    (arg3 : Memref sig .tc .vmem S256x128 .f32) (harg3 : arg3.IsWhole) (arg4 : Memref sig .tc .vmem S256x128 .f32) (harg4 : arg4.IsWhole)
    (arg5 : Memref sig .tc .vmem S256x512 .bf16) (harg5 : arg5.IsWhole) (arg6 : Memref sig .tc .vmem S1x4x144x256 .bf16) (harg6 : arg6.IsWhole)
    (arg7 : Memref sig .tc .vmem S1x1x512 .f32) (harg7 : arg7.IsWhole)
    (u v : Fin 1) (j : Fin 512) :
    (out0_A_6 c i arg1 harg1 arg2 harg2 arg3 harg3 arg4 harg4 arg5 harg5 arg6 harg6 arg7 harg7 x0 x1 x2 x3 : FVec Ideal S1x1x512 .f32) (ix3 u v j)
      = Ideal.div (∑ r : Fin 256, keyBlk x0 cs sn r ⟨j.val / 128, by omega⟩ ⟨j.val % 128, Nat.mod_lt _ (by decide)⟩)
          (Ideal.ofBits .f32 0x43800000#32) := by
  have hj := j.isLt
  frame_out
  canon_tiles z h
  all_goals
    obtain ⟨p, q, e, rfl⟩ : ∃ (p : Fin 1) (q : Fin 1) (e : Fin 128), z = ix3 p q e := ⟨z 0, z 1, z 2, eq_ix3 z⟩
    change j.val = _ at h2
    have he : e.val < 128 := e.isLt
    have e' : (⟨j.val % 128, Nat.mod_lt _ (by decide)⟩ : Fin 128) = e := Fin.ext (by
      show j.val % 128 = e.val
      simp at h2
      omega)
    rw [e']
  · exact mean_head x0 cs sn _ _ (head_apply x0 x1 x2 x3 cs sn hT 384 _ ⟨j.val / 128, by omega⟩ (by simp at h2; show 384 = 128 * (j.val / 128); omega)) p q e
  · exact mean_head x0 cs sn _ _ (head_apply x0 x1 x2 x3 cs sn hT 256 _ ⟨j.val / 128, by omega⟩ (by simp at h2; show 256 = 128 * (j.val / 128); omega)) p q e
  · exact mean_head x0 cs sn _ _ (head_apply x0 x1 x2 x3 cs sn hT 128 _ ⟨j.val / 128, by omega⟩ (by simp at h2; show 128 = 128 * (j.val / 128); omega)) p q e
  · exact mean_head x0 cs sn _ _ (head_apply x0 x1 x2 x3 cs sn hT 0 _ ⟨j.val / 128, by omega⟩ (by simp at h2; show 0 = 128 * (j.val / 128); omega)) p q e

theorem values_eq (i : grid0.Coords)
    (arg1 : Memref sig .tc .vmem S256x1024 .f32) (harg1 : arg1.IsWhole) (arg2 : Memref sig .tc .vmem S256x128 .f32) (harg2 : arg2.IsWhole)
    (arg3 : Memref sig .tc .vmem S256x128 .f32) (harg3 : arg3.IsWhole) (arg4 : Memref sig .tc .vmem S256x128 .f32) (harg4 : arg4.IsWhole)
    (arg5 : Memref sig .tc .vmem S256x512 .bf16) (harg5 : arg5.IsWhole) (arg6 : Memref sig .tc .vmem S1x4x144x256 .bf16) (harg6 : arg6.IsWhole)
    (arg7 : Memref sig .tc .vmem S1x1x512 .f32) (harg7 : arg7.IsWhole)
    (u : Fin 1) (n : Fin 4) (e : Fin 144) (p : Fin 256) :
    (out0_A_5 c i arg1 harg1 arg2 harg2 arg3 harg3 arg4 harg4 arg5 harg5 arg6 harg6 arg7 harg7 x0 x1 x2 x3 : FVec Ideal S1x4x144x256 .bf16) (ix4 u n e p)
      = if h : e.val < 128 then x0 (ix2 p (⟨512 + (128 * n.val + e.val), by omega⟩ : Fin 1024)) else Ideal.ofBits .bf16 0x3F80#16 := by
  frame_out
  canon_tiles z h using View.cover_of_tiledBy _ ![1, 1, 16, 256] (by sl_kernel_rfl) _
  · exact one_piece x0 n e p z _ h2
  · exact value_piece x0 896 _ n e p z (by change n.val = 3 + (z 1).val at h1; omega) h2 h3
  · exact one_piece x0 n e p z _ h2
  · exact value_piece x0 768 _ n e p z (by change n.val = 2 + (z 1).val at h1; omega) h2 h3
  · exact one_piece x0 n e p z _ h2
  · exact value_piece x0 640 _ n e p z (by change n.val = 1 + (z 1).val at h1; omega) h2 h3
  · exact one_piece x0 n e p z _ h2
  · exact value_piece x0 512 _ n e p z (by change n.val = (z 1).val at h1; omega) h2 h3

end Block

end Cert.Keys

end
-- ==== Proof.Keys.Blocks.lean ====
/-
  The attention's keys and values: what the kernel finds in the blocks it reads.
-/
module

public import proofs.«01_k».proof.Proof.Keys.KernelValue

@[expose] public section

set_option maxRecDepth 16384

noncomputable section

namespace Cert.Keys

open Idealize.ShloMosaic Idealize.SL.Sem
open Cert.Kernel9Ideal Cert.Kernel9Ideal.Gen

variable (m : (ℓ : Loc nD τ sig) → Buf (Elt Ideal) ℓ) (ρ : Dev nD → PrngReg) (c : Dev nD)

theorem in_blocks (t : Fin cfg0.N) :
    win0_0.index t = ![t.val, 0] ∧ win0_1.index t = ![t.val % 64, 0] ∧ win0_2.index t = ![t.val % 64, 0]
      ∧ win0_3.index t = ![t.val % 64, 0] :=
  (by decide +kernel : ∀ t : Fin grid0.N,
    win0_0.index t = ![t.val, 0] ∧ win0_1.index t = ![t.val % 64, 0] ∧ win0_2.index t = ![t.val % 64, 0]
      ∧ win0_3.index t = ![t.val % 64, 0]) t

theorem out_blocks (t : Fin cfg0.N) :
    win0_4.index t = ![t.val, 0] ∧ win0_5.index t = ![t.val / 64, 0, 0, t.val % 64] ∧ win0_6.index t = ![t.val, 0, 0] :=
  (by decide +kernel : ∀ t : Fin grid0.N,
    win0_4.index t = ![t.val, 0] ∧ win0_5.index t = ![t.val / 64, 0, 0, t.val % 64] ∧ win0_6.index t = ![t.val, 0, 0]) t

abbrev tokens : Tokens := m (c.tc.loc main_arg0)
abbrev cosines : Angles := m (c.tc.loc main_arg1)
abbrev sines : Angles := m (c.tc.loc main_arg2)

theorem lt_N (t : Fin cfg0.N) : t.val < 128 := lt_of_lt_of_eq t.isLt N_0

def tok (t : Fin cfg0.N) (a : Fin 256) : Fin 32768 := ⟨256 * t.val + a.val, by have := lt_N t; omega⟩

/-- The place in the sequence of a block's token. -/
def place (t : Fin cfg0.N) (a : Fin 256) : Fin 16384 := ⟨256 * (t.val % 64) + a.val, by omega⟩

theorem place_eq (t : Fin cfg0.N) (a : Fin 256) : (⟨(tok t a).val % 16384, Nat.mod_lt _ (by decide)⟩ : Fin 16384) = place t a := Fin.ext (by
  show (256 * t.val + a.val) % 16384 = 256 * (t.val % 64) + a.val
  omega)

theorem tokens_block (t : Fin cfg0.N) (a : Fin 256) (d : Fin 1024) :
    (iblk m c 0 t : Vec Ideal S256x1024 .f32) (ix2 a d) = tokens m c (ix2 (tok t a) d) := by
  blk_ext [iblk, V, (in_blocks t).1, tok]

abbrev cosTable (x : FVec Ideal S16384x16 .f32) : FVec Ideal S16384x128 .f32 :=
  concatenate S16384x128 1 [⟨S16384x16, x⟩, ⟨S16384x16, x⟩,
    ⟨S16384x96, (broadcastInDim S16384x96 ![] bcast_S_S16384x96 (constant S_ .f32 0x3F800000#32) : FVec Ideal S16384x96 .f32)⟩]
    concatenates_S16384x16_S16384x16_S16384x96_S16384x128_d1

abbrev lowTable (x : FVec Ideal S16384x16 .f32) : FVec Ideal S16384x128 .f32 :=
  concatenate S16384x128 1 [⟨S16384x16, (Host.negf x : FVec Ideal S16384x16 .f32)⟩,
    ⟨S16384x112, (broadcastInDim S16384x112 ![] bcast_S_S16384x112 (constant S_ .f32 0x00000000#32) : FVec Ideal S16384x112 .f32)⟩]
    concatenates_S16384x16_S16384x112_S16384x128_d1

abbrev highTable (x : FVec Ideal S16384x16 .f32) : FVec Ideal S16384x128 .f32 :=
  concatenate S16384x128 1 [⟨S16384x16, (broadcastInDim S16384x16 ![] bcast_S_S16384x16 (constant S_ .f32 0x00000000#32) : FVec Ideal S16384x16 .f32)⟩,
    ⟨S16384x16, x⟩,
    ⟨S16384x96, (broadcastInDim S16384x96 ![] bcast_S_S16384x96 (constant S_ .f32 0x00000000#32) : FVec Ideal S16384x96 .f32)⟩]
    concatenates_S16384x16_S16384x16_S16384x96_S16384x128_d1

theorem cos_table : (V m c main_v1 : FVec Ideal S16384x128 .f32) = cosTable (m (c.tc.loc main_arg1)) := by
  sl_kernel_rfl

theorem low_table : (V m c main_v4 : FVec Ideal S16384x128 .f32) = lowTable (m (c.tc.loc main_arg2)) := by
  sl_kernel_rfl

theorem high_table : (V m c main_v7 : FVec Ideal S16384x128 .f32) = highTable (m (c.tc.loc main_arg2)) := by
  sl_kernel_rfl

theorem cosTable_apply (x : FVec Ideal S16384x16 .f32) (r : Fin 16384) (e : Fin 128) :
    cosTable x (ix2 r e) = cosLane (fun d => x (ix2 r d)) e := by
  pointwise [cosTable, cosLane]
  by_cases h : e.val < 16
  · rw [dif_pos h, dif_pos h]
  · by_cases h' : e.val < 32
    · have h1 : e.val - 16 < 16 := by omega
      rw [dif_neg h, dif_neg h, dif_pos h', dif_pos h1]
    · have h1 : ¬e.val - 16 < 16 := by omega
      rw [dif_neg h, dif_neg h, dif_neg h', dif_neg h1]

theorem lowTable_apply (x : FVec Ideal S16384x16 .f32) (r : Fin 16384) (e : Fin 128) :
    lowTable x (ix2 r e) = sinLow (fun d => x (ix2 r d)) e := by
  pointwise [lowTable, sinLow]

theorem highTable_apply (x : FVec Ideal S16384x16 .f32) (r : Fin 16384) (e : Fin 128) :
    highTable x (ix2 r e) = sinHigh (fun d => x (ix2 r d)) e := by
  pointwise [highTable, sinHigh]
  by_cases h : e.val < 16
  · rw [dif_pos h, if_pos h]
  · by_cases h' : e.val < 32
    · have h1 : e.val - 16 < 16 := by omega
      rw [dif_neg h, if_neg h, dif_pos h', dif_pos h1]
    · have h1 : ¬e.val - 16 < 16 := by omega
      rw [dif_neg h, if_neg h, dif_neg h', dif_neg h1]

theorem cos_block (t : Fin cfg0.N) (r : Fin 256) (e : Fin 128) :
    (iblk m c 1 t : Vec Ideal S256x128 .f32) (ix2 r e) = cosLane (fun d => cosines m c (ix2 (place t r) d)) e := by
  have h : (iblk m c 1 t : Vec Ideal S256x128 .f32) (ix2 r e) = (V m c main_v1 : FVec Ideal S16384x128 .f32) (ix2 (place t r) e) := by
    blk_ext [iblk, (in_blocks t).2.1, place]
  rw [h, cos_table, cosTable_apply]

theorem low_block (t : Fin cfg0.N) (r : Fin 256) (e : Fin 128) :
    (iblk m c 2 t : Vec Ideal S256x128 .f32) (ix2 r e) = sinLow (fun d => sines m c (ix2 (place t r) d)) e := by
  have h : (iblk m c 2 t : Vec Ideal S256x128 .f32) (ix2 r e) = (V m c main_v4 : FVec Ideal S16384x128 .f32) (ix2 (place t r) e) := by
    blk_ext [iblk, (in_blocks t).2.2.1, place]
  rw [h, low_table, lowTable_apply]

theorem high_block (t : Fin cfg0.N) (r : Fin 256) (e : Fin 128) :
    (iblk m c 3 t : Vec Ideal S256x128 .f32) (ix2 r e) = sinHigh (fun d => sines m c (ix2 (place t r) d)) e := by
  have h : (iblk m c 3 t : Vec Ideal S256x128 .f32) (ix2 r e) = (V m c main_v7 : FVec Ideal S16384x128 .f32) (ix2 (place t r) e) := by
    blk_ext [iblk, (in_blocks t).2.2.2, place]
  rw [h, high_table, highTable_apply]

theorem tables (t : Fin cfg0.N) : Tables (iblk m c 1 t) (iblk m c 2 t) (iblk m c 3 t)
    (fun r d => cosines m c (ix2 (place t r) d)) (fun r d => sines m c (ix2 (place t r) d)) :=
  ⟨cos_block m c t, low_block m c t, high_block m c t⟩

theorem keyBlk_eq (t : Fin cfg0.N) (r : Fin 256) (n : Fin 4) (e : Fin 128) :
    keyBlk (iblk m c 0 t) (fun r d => cosines m c (ix2 (place t r) d)) (fun r d => sines m c (ix2 (place t r) d)) r n e
      = key (tokens m c) (cosines m c) (sines m c) (tok t r) n e := by
  unfold keyBlk key
  rw [place_eq]
  congr 1
  funext d
  exact tokens_block m c t r _

end Cert.Keys

end
-- ==== Proof.Keys.KernelRun.lean ====
/-
  The attention's keys and values: the kernel's blocks put together, and its run.
-/
module

public import proofs.«01_k».proof.Proof.Keys.Blocks

@[expose] public section

set_option maxRecDepth 16384

noncomputable section

namespace Cert.Keys

open Idealize.ShloMosaic Idealize.SL.Sem
open Cert.Kernel9Ideal Cert.Kernel9Ideal.Gen

variable (m : (ℓ : Loc nD τ sig) → Buf (Elt Ideal) ℓ) (ρ : Dev nD → PrngReg) (c : Dev nD)

/-- The arrays the kernel is to leave. -/
def keysW : FVec Ideal S32768x512 .bf16 := fun i =>
  key (tokens m c) (cosines m c) (sines m c) (i 0) ⟨(i 1).val / 128, by have h : (i 1).val < 512 := (i 1).isLt; omega⟩
    ⟨(i 1).val % 128, Nat.mod_lt _ (by decide)⟩

def valuesW : FVec Ideal S2x4x144x16384 .bf16 := fun i =>
  if h : (i 2).val < 128 then value (tokens m c) (i 0) (i 1) ⟨(i 2).val, h⟩ (i 3) else Ideal.ofBits .bf16 0x3F80#16

def meansW : FVec Ideal S128x1x512 .f32 := fun i =>
  keyMean (tokens m c) (cosines m c) (sines m c) (i 0) ⟨(i 2).val / 128, by have h : (i 2).val < 512 := (i 2).isLt; omega⟩
    ⟨(i 2).val % 128, Nat.mod_lt _ (by decide)⟩

theorem outs_keys (t : Fin cfg0.N) : (outsAt0 m c t).1 = out0_A_4 (F := Ideal) c (grid0.coords t)
      (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) := by
  dsimp only [outsAt0]

theorem outs_values (t : Fin cfg0.N) : (outsAt0 m c t).2.1 = out0_A_5 (F := Ideal) c (grid0.coords t)
      (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) := by
  dsimp only [outsAt0]

theorem outs_means (t : Fin cfg0.N) : (outsAt0 m c t).2.2 = out0_A_6 (F := Ideal) c (grid0.coords t)
      (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (iblk m c 0 t) (iblk m c 1 t) (iblk m c 2 t) (iblk m c 3 t) := by
  dsimp only [outsAt0]

theorem keys_block (cs sn : Fin 256 → Fin 16 → EReal) (t : Fin cfg0.N) (hT : Tables (iblk m c 1 t) (iblk m c 2 t) (iblk m c 3 t) cs sn) (r : Fin 256) (j : Fin 512) :
    ((outsAt0 m c t).1 : FVec Ideal S256x512 .bf16) (ix2 r j)
      = keyBlk (iblk m c 0 t) cs sn r ⟨j.val / 128, by omega⟩ ⟨j.val % 128, Nat.mod_lt _ (by decide)⟩ :=
  (congrFun (outs_keys m c t) (ix2 r j)).trans <|
    keys_eq c (iblk m c 0 t) (iblk m c 1 t) (iblk m c 2 t) (iblk m c 3 t) cs sn hT (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) r j

theorem keys_point (t : Fin cfg0.N) (r : Fin 256) (j : Fin 512) :
    ((outsAt0 m c t).1 : FVec Ideal S256x512 .bf16) (ix2 r j)
      = key (tokens m c) (cosines m c) (sines m c) (tok t r) ⟨j.val / 128, by omega⟩ ⟨j.val % 128, Nat.mod_lt _ (by decide)⟩ := by
  have h := keys_block m c _ _ t (tables m c t) r j
  rw [keyBlk_eq] at h
  exact h

theorem means_block (cs sn : Fin 256 → Fin 16 → EReal) (t : Fin cfg0.N)
    (hT : Tables (iblk m c 1 t) (iblk m c 2 t) (iblk m c 3 t) cs sn) (u v : Fin 1) (j : Fin 512) :
    ((outsAt0 m c t).2.2 : FVec Ideal S1x1x512 .f32) (ix3 u v j)
      = Ideal.div (∑ r : Fin 256, keyBlk (iblk m c 0 t) cs sn r ⟨j.val / 128, by omega⟩ ⟨j.val % 128, Nat.mod_lt _ (by decide)⟩)
          (Ideal.ofBits .f32 0x43800000#32) :=
  (congrFun (outs_means m c t) (ix3 u v j)).trans <|
    means_eq c (iblk m c 0 t) (iblk m c 1 t) (iblk m c 2 t) (iblk m c 3 t) cs sn hT (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) u v j

theorem means_point (t : Fin cfg0.N) (u v : Fin 1) (j : Fin 512) :
    ((outsAt0 m c t).2.2 : FVec Ideal S1x1x512 .f32) (ix3 u v j)
      = Ideal.div (∑ r : Fin 256, key (tokens m c) (cosines m c) (sines m c) (tok t r) ⟨j.val / 128, by omega⟩
          ⟨j.val % 128, Nat.mod_lt _ (by decide)⟩) (Ideal.ofBits .f32 0x43800000#32) := by
  have h := means_block m c _ _ t (tables m c t) u v j
  refine h.trans (congrArg (fun z => Ideal.div z (Ideal.ofBits .f32 0x43800000#32)) (Finset.sum_congr rfl fun r _ => ?_))
  rw [keyBlk_eq]

theorem values_point (t : Fin cfg0.N) (u : Fin 1) (n : Fin 4) (e : Fin 144) (p : Fin 256) :
    ((outsAt0 m c t).2.1 : FVec Ideal S1x4x144x256 .bf16) (ix4 u n e p)
      = if h : e.val < 128 then (iblk m c 0 t : Vec Ideal S256x1024 .f32) (ix2 p (⟨512 + (128 * n.val + e.val), by omega⟩ : Fin 1024))
        else Ideal.ofBits .bf16 0x3F80#16 :=
  (congrFun (outs_values m c t) (ix4 u n e p)).trans <|
    values_eq c (iblk m c 0 t) (iblk m c 1 t) (iblk m c 2 t) (iblk m c 3 t) (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) u n e p

theorem keys_flushed (t : Fin cfg0.N) :
    (dats m 0 c).flushed 4 t = ((cfg0.win 4).blk t).view.read (Elt Ideal) (keysW m c) := by
  show (cfg0.win 4).cut (grid0.coords t) ((dats m 0 c).after 4 t) = _
  rw [after0_4]
  funext y
  have hb0 : (((cfg0.win 4).blk t).view.emb y 0).val = win0_4.index t (0 : Fin 2) * 256 + 1 * (y 0).val := rfl
  have hb1 : (((cfg0.win 4).blk t).view.emb y 1).val = win0_4.index t (1 : Fin 2) * 512 + 1 * (y 1).val := rfl
  rw [(out_blocks t).1] at hb0 hb1
  change _ = t.val * 256 + 1 * (y 0).val at hb0
  change _ = 0 * 512 + 1 * (y 1).val at hb1
  show ((outsAt0 m c t).1 : FVec Ideal S256x512 .bf16) ((cfg0.win 4).xinj (grid0.coords t) y)
    = keysW m c (((cfg0.win 4).blk t).view.emb y)
  rw [eq_ix2 ((cfg0.win 4).xinj (grid0.coords t) y)]
  refine (keys_point m c t _ _).trans ?_
  unfold keysW
  congr 1
  · apply Fin.ext
    refine Eq.trans ?_ hb0.symm
    show 256 * t.val + (y 0).val = _
    omega
  · apply Fin.ext
    show (y 1).val / 128 = (((cfg0.win 4).blk t).view.emb y 1).val / 128
    rw [hb1]
    omega
  · apply Fin.ext
    show (y 1).val % 128 = (((cfg0.win 4).blk t).view.emb y 1).val % 128
    rw [hb1]
    omega

theorem means_flushed (t : Fin cfg0.N) :
    (dats m 0 c).flushed 6 t = ((cfg0.win 6).blk t).view.read (Elt Ideal) (meansW m c) := by
  show (cfg0.win 6).cut (grid0.coords t) ((dats m 0 c).after 6 t) = _
  rw [after0_6]
  funext y
  have hb0 : (((cfg0.win 6).blk t).view.emb y 0).val = win0_6.index t (0 : Fin 3) * 1 + 1 * (y 0).val := rfl
  have hb2 : (((cfg0.win 6).blk t).view.emb y 2).val = win0_6.index t (2 : Fin 3) * 512 + 1 * (y 2).val := rfl
  rw [(out_blocks t).2.2] at hb0 hb2
  change _ = t.val * 1 + 1 * (y 0).val at hb0
  change _ = 0 * 512 + 1 * (y 2).val at hb2
  have hy : (y 0).val < 1 := (y 0).isLt
  show ((outsAt0 m c t).2.2 : FVec Ideal S1x1x512 .f32) ((cfg0.win 6).xinj (grid0.coords t) y)
    = meansW m c (((cfg0.win 6).blk t).view.emb y)
  rw [eq_ix3 ((cfg0.win 6).xinj (grid0.coords t) y)]
  refine (means_point m c t _ _ _).trans ?_
  unfold meansW keyMean
  refine congrArg (fun z => Ideal.div z _) (Finset.sum_congr rfl fun r _ => ?_)
  congr 1
  · apply Fin.ext
    show 256 * t.val + r.val = 256 * (((cfg0.win 6).blk t).view.emb y 0).val + r.val
    rw [hb0]
    omega
  · apply Fin.ext
    show (y 2).val / 128 = (((cfg0.win 6).blk t).view.emb y 2).val / 128
    rw [hb2]
    omega
  · apply Fin.ext
    show (y 2).val % 128 = (((cfg0.win 6).blk t).view.emb y 2).val % 128
    rw [hb2]
    omega

theorem values_flushed (t : Fin cfg0.N) :
    (dats m 0 c).flushed 5 t = ((cfg0.win 5).blk t).view.read (Elt Ideal) (valuesW m c) := by
  show (cfg0.win 5).cut (grid0.coords t) ((dats m 0 c).after 5 t) = _
  rw [after0_5]
  funext y
  have hb0 : (((cfg0.win 5).blk t).view.emb y 0).val = win0_5.index t (0 : Fin 4) * 1 + 1 * (y 0).val := rfl
  have hb1 : (((cfg0.win 5).blk t).view.emb y 1).val = win0_5.index t (1 : Fin 4) * 4 + 1 * (y 1).val := rfl
  have hb2 : (((cfg0.win 5).blk t).view.emb y 2).val = win0_5.index t (2 : Fin 4) * 144 + 1 * (y 2).val := rfl
  have hb3 : (((cfg0.win 5).blk t).view.emb y 3).val = win0_5.index t (3 : Fin 4) * 256 + 1 * (y 3).val := rfl
  rw [(out_blocks t).2.1] at hb0 hb1 hb2 hb3
  change _ = t.val / 64 * 1 + 1 * (y 0).val at hb0
  change _ = 0 * 4 + 1 * (y 1).val at hb1
  change _ = 0 * 144 + 1 * (y 2).val at hb2
  change _ = t.val % 64 * 256 + 1 * (y 3).val at hb3
  have hy : (y 0).val < 1 := (y 0).isLt
  have ht := lt_N t
  show ((outsAt0 m c t).2.1 : FVec Ideal S1x4x144x256 .bf16) ((cfg0.win 5).xinj (grid0.coords t) y)
    = valuesW m c (((cfg0.win 5).blk t).view.emb y)
  rw [eq_ix4 ((cfg0.win 5).xinj (grid0.coords t) y)]
  refine (values_point m c t _ _ _ _).trans ?_
  unfold valuesW
  by_cases h : (y 2).val < 128
  · refine (dif_pos h).trans (Eq.trans ?_ (dif_pos (by rw [hb2]; omega)).symm)
    refine (tokens_block m c t _ _).trans ?_
    unfold value
    apply congrArg (tokens m c)
    apply congrArg₂ ix2
    · apply Fin.ext
      show 256 * t.val + (y 3).val = 16384 * (((cfg0.win 5).blk t).view.emb y 0).val + (((cfg0.win 5).blk t).view.emb y 3).val
      rw [hb0, hb3]
      omega
    · apply Fin.ext
      show 512 + (128 * (y 1).val + (y 2).val)
        = 512 + (128 * (((cfg0.win 5).blk t).view.emb y 1).val + (((cfg0.win 5).blk t).view.emb y 2).val)
      rw [hb1, hb2]
      omega
  · have h' : ¬(((cfg0.win 5).blk t).view.emb y 2).val < 128 := by
      rw [hb2]
      omega
    rw [dif_neg h']
    exact dif_neg h

/-- The points that write the blocks of an element of the keys, of the values and of the means. -/
def keysOwner (i : S32768x512.Idx) : Fin cfg0.N :=
  ⟨(i 0).val / 256, lt_of_lt_of_eq (by
    have h0 : (i 0).val < 32768 := (i 0).isLt
    omega) N_0.symm⟩

def valuesOwner (i : S2x4x144x16384.Idx) : Fin cfg0.N :=
  ⟨64 * (i 0).val + (i 3).val / 256, lt_of_lt_of_eq (by
    have h0 : (i 0).val < 2 := (i 0).isLt
    have h3 : (i 3).val < 16384 := (i 3).isLt
    omega) N_0.symm⟩

def meansOwner (i : S128x1x512.Idx) : Fin cfg0.N :=
  ⟨(i 0).val, lt_of_lt_of_eq (by
    have h0 : (i 0).val < 128 := (i 0).isLt
    omega) N_0.symm⟩

theorem mem_keysOwner (i : S32768x512.Idx) : i ∈ ((cfg0.win 4).blk (keysOwner i)).view.set := by
  have h0 : (i 0).val < 32768 := (i 0).isLt
  have h1 : (i 1).val < 512 := (i 1).isLt
  show i ∈ ((View.whole main_v8_0).slice (win0_4.rect (keysOwner i))).set
  rw [View.set_slice_whole, Rect.mem_set_unit]
  intro a
  match a with
  | ⟨0, _⟩ =>
    show win0_4.index (keysOwner i) (0 : Fin 2) * 256 ≤ (i 0).val ∧ (i 0).val < win0_4.index (keysOwner i) (0 : Fin 2) * 256 + 256
    rw [(out_blocks (keysOwner i)).1]
    show (i 0).val / 256 * 256 ≤ (i 0).val ∧ (i 0).val < (i 0).val / 256 * 256 + 256
    omega
  | ⟨1, _⟩ =>
    show win0_4.index (keysOwner i) (1 : Fin 2) * 512 ≤ (i 1).val ∧ (i 1).val < win0_4.index (keysOwner i) (1 : Fin 2) * 512 + 512
    rw [(out_blocks (keysOwner i)).1]
    show 0 * 512 ≤ (i 1).val ∧ (i 1).val < 0 * 512 + 512
    omega

theorem mem_valuesOwner (i : S2x4x144x16384.Idx) : i ∈ ((cfg0.win 5).blk (valuesOwner i)).view.set := by
  have h0 : (i 0).val < 2 := (i 0).isLt
  have h1 : (i 1).val < 4 := (i 1).isLt
  have h2 : (i 2).val < 144 := (i 2).isLt
  have h3 : (i 3).val < 16384 := (i 3).isLt
  show i ∈ ((View.whole main_v8_1).slice (win0_5.rect (valuesOwner i))).set
  rw [View.set_slice_whole, Rect.mem_set_unit]
  intro a
  match a with
  | ⟨0, _⟩ =>
    show win0_5.index (valuesOwner i) (0 : Fin 4) * 1 ≤ (i 0).val ∧ (i 0).val < win0_5.index (valuesOwner i) (0 : Fin 4) * 1 + 1
    rw [(out_blocks (valuesOwner i)).2.1]
    show (64 * (i 0).val + (i 3).val / 256) / 64 * 1 ≤ (i 0).val ∧ (i 0).val < (64 * (i 0).val + (i 3).val / 256) / 64 * 1 + 1
    omega
  | ⟨1, _⟩ =>
    show win0_5.index (valuesOwner i) (1 : Fin 4) * 4 ≤ (i 1).val ∧ (i 1).val < win0_5.index (valuesOwner i) (1 : Fin 4) * 4 + 4
    rw [(out_blocks (valuesOwner i)).2.1]
    show 0 * 4 ≤ (i 1).val ∧ (i 1).val < 0 * 4 + 4
    omega
  | ⟨2, _⟩ =>
    show win0_5.index (valuesOwner i) (2 : Fin 4) * 144 ≤ (i 2).val ∧ (i 2).val < win0_5.index (valuesOwner i) (2 : Fin 4) * 144 + 144
    rw [(out_blocks (valuesOwner i)).2.1]
    show 0 * 144 ≤ (i 2).val ∧ (i 2).val < 0 * 144 + 144
    omega
  | ⟨3, _⟩ =>
    show win0_5.index (valuesOwner i) (3 : Fin 4) * 256 ≤ (i 3).val ∧ (i 3).val < win0_5.index (valuesOwner i) (3 : Fin 4) * 256 + 256
    rw [(out_blocks (valuesOwner i)).2.1]
    show (64 * (i 0).val + (i 3).val / 256) % 64 * 256 ≤ (i 3).val ∧ (i 3).val < (64 * (i 0).val + (i 3).val / 256) % 64 * 256 + 256
    omega

theorem mem_meansOwner (i : S128x1x512.Idx) : i ∈ ((cfg0.win 6).blk (meansOwner i)).view.set := by
  have h0 : (i 0).val < 128 := (i 0).isLt
  have h1 : (i 1).val < 1 := (i 1).isLt
  have h2 : (i 2).val < 512 := (i 2).isLt
  show i ∈ ((View.whole main_v8_2).slice (win0_6.rect (meansOwner i))).set
  rw [View.set_slice_whole, Rect.mem_set_unit]
  intro a
  match a with
  | ⟨0, _⟩ =>
    show win0_6.index (meansOwner i) (0 : Fin 3) * 1 ≤ (i 0).val ∧ (i 0).val < win0_6.index (meansOwner i) (0 : Fin 3) * 1 + 1
    rw [(out_blocks (meansOwner i)).2.2]
    show (i 0).val * 1 ≤ (i 0).val ∧ (i 0).val < (i 0).val * 1 + 1
    omega
  | ⟨1, _⟩ =>
    show win0_6.index (meansOwner i) (1 : Fin 3) * 1 ≤ (i 1).val ∧ (i 1).val < win0_6.index (meansOwner i) (1 : Fin 3) * 1 + 1
    rw [(out_blocks (meansOwner i)).2.2]
    show 0 * 1 ≤ (i 1).val ∧ (i 1).val < 0 * 1 + 1
    omega
  | ⟨2, _⟩ =>
    show win0_6.index (meansOwner i) (2 : Fin 3) * 512 ≤ (i 2).val ∧ (i 2).val < win0_6.index (meansOwner i) (2 : Fin 3) * 512 + 512
    rw [(out_blocks (meansOwner i)).2.2]
    show 0 * 512 ≤ (i 2).val ∧ (i 2).val < 0 * 512 + 512
    omega

theorem keys_whole : (dats m 0 c).arrAt 4 cfg0.N = keysW m c :=
  (dats m 0 c).arrAt_eq_of_cover 4 _ (fun t _ => keys_flushed m c t) (fun i => ⟨keysOwner i, flush0_4 _, mem_keysOwner i⟩)

theorem values_whole : (dats m 0 c).arrAt 5 cfg0.N = valuesW m c :=
  (dats m 0 c).arrAt_eq_of_cover 5 _ (fun t _ => values_flushed m c t) (fun i => ⟨valuesOwner i, flush0_5 _, mem_valuesOwner i⟩)

theorem means_whole : (dats m 0 c).arrAt 6 cfg0.N = meansW m c :=
  (dats m 0 c).arrAt_eq_of_cover 6 _ (fun t _ => means_flushed m c t) (fun i => ⟨meansOwner i, flush0_6 _, mem_meansOwner i⟩)

theorem arrays_distinct : Function.Injective (Pipeline.arrRef spec0) := by decide

/-- The host keeps the values' 128 rows of each head. -/
theorem kept_values : Pipeline.afterTail₀ cfgs (dats m) 0 (V0 m) [hostOps1] c main_v9
    = extractStridedSlice (α := EReal) S2x4x128x16384 ![0, 0, 0, 0] (valuesW m c) slices_S2x4x144x16384_S2x4x128x16384_0_0_0_0 := by
  rw [← values_whole m c, ← Pipeline.withArrays_arr spec0 arrays_distinct c (V0 m c) (fun w => (dats m 0 c).arrAt w cfg0.N) 5]
  unfold Pipeline.afterTail₀
  simp only [hostOps1, List.flatten_cons, List.flatten_nil, List.append_nil]
  after_results_simp

theorem values_kept_apply (q : Fin 2) (n : Fin 4) (e : Fin 128) (p : Fin 16384) :
    extractStridedSlice (α := EReal) S2x4x128x16384 ![0, 0, 0, 0] (valuesW m c) slices_S2x4x144x16384_S2x4x128x16384_0_0_0_0 (ix4 q n e p)
      = value (tokens m c) q n e p := by
  refine Eq.trans (b := valuesW m c (ix4 q n (⟨e.val, by omega⟩ : Fin 144) p)) (by pointwise) ?_
  exact dif_pos e.isLt

/-- The kernel's run: its results are the keys, the values and the mean keys, its arguments are unchanged. -/
theorem run : θ_run defs (onTc (τ := τ) (main (F := Ideal))) ⟨m, fun _ => 0, ρ⟩ fun r => ∀ c : Dev nD,
      r.2.mem (c.tc.loc main_v8_0) = keysW m c
      ∧ r.2.mem (c.tc.loc main_v9) = extractStridedSlice (α := EReal) S2x4x128x16384 ![0, 0, 0, 0] (valuesW m c) slices_S2x4x144x16384_S2x4x128x16384_0_0_0_0
      ∧ r.2.mem (c.tc.loc main_v8_2) = meansW m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun _ h c => ⟨
      ((h c).1 4).trans (keys_whole m c),
      ((h c).2 main_v9 (Pipeline.mem_restRefs_of main_v9 (by decide) (by decide))).trans (kept_values m c),
      ((h c).1 6).trans (means_whole m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main (F := Ideal) m ρ)

end Cert.Keys

end
-- ==== Proof.Keys.RefValue.lean ====
/-
  What the plain reference computes, element by element.
-/
module

public import proofs.«01_k».proof.Proof.Gen.Reference9Ideal.Run
public import proofs.«01_k».proof.Proof.Keys.Spec

@[expose] public section

set_option maxRecDepth 16384

noncomputable section

namespace Cert.Keys

open Idealize.ShloMosaic
open Cert.Reference9Ideal Cert.Reference9Ideal.Gen

abbrev heads (kv : FVec Ideal S32768x1024 .f32) : FVec Ideal S2x16384x4x128 .f32 :=
  shapeCast _ (extractStridedSlice S32768x512 ![0, 0] kv slices_S32768x1024_S32768x512_0_0) shapeCasts_S32768x512_S2x16384x4x128

abbrev first (kv : FVec Ideal S32768x1024 .f32) : FVec Ideal S2x16384x4x16 .f32 :=
  extractStridedSlice S2x16384x4x16 ![0, 0, 0, 0] (heads kv) slices_S2x16384x4x128_S2x16384x4x16_0_0_0_0

abbrev second (kv : FVec Ideal S32768x1024 .f32) : FVec Ideal S2x16384x4x16 .f32 :=
  extractStridedSlice S2x16384x4x16 ![0, 0, 0, 16] (heads kv) slices_S2x16384x4x128_S2x16384x4x16_0_0_0_16

abbrev spread (x : FVec Ideal S16384x16 .f32) : FVec Ideal S2x16384x4x16 .f32 :=
  broadcastInDim S2x16384x4x16 ![0, 1, 2, 3] bcast_S1x16384x1x16_S2x16384x4x16_0_1_2_3 (broadcastInDim S1x16384x1x16 ![1, 3] bcast_S16384x16_S1x16384x1x16_1_3 x)

abbrev turned (kv : FVec Ideal S32768x1024 .f32) (c s : FVec Ideal S16384x16 .f32) : FVec Ideal S2x16384x4x128 .f32 :=
  concatenate S2x16384x4x128 3 [⟨S2x16384x4x16, (subf (mulf (first kv) (spread c)) (mulf (second kv) (spread s)) : FVec Ideal S2x16384x4x16 .f32)⟩,
    ⟨S2x16384x4x16, (addf (mulf (second kv) (spread c)) (mulf (first kv) (spread s)) : FVec Ideal S2x16384x4x16 .f32)⟩,
    ⟨S2x16384x4x96, (extractStridedSlice S2x16384x4x96 ![0, 0, 0, 32] (heads kv) slices_S2x16384x4x128_S2x16384x4x96_0_0_0_32 : FVec Ideal S2x16384x4x96 .f32)⟩]
    concatenates_S2x16384x4x16_S2x16384x4x16_S2x16384x4x96_S2x16384x4x128_d3

abbrev keys (k : FVec Ideal S2x16384x4x128 .f32) : FVec Ideal S32768x512 .bf16 :=
  truncf .bf16 (shapeCast S32768x512 k shapeCasts_S2x16384x4x128_S32768x512) bitsLt_bf16_f32

abbrev values (kv : FVec Ideal S32768x1024 .f32) : FVec Ideal S2x4x128x16384 .bf16 :=
  truncf .bf16 (transpose S2x4x128x16384 [0, 2, 3, 1] (shapeCast S2x16384x4x128 (extractStridedSlice S32768x512 ![0, 512] kv slices_S32768x1024_S32768x512_0_512) shapeCasts_S32768x512_S2x16384x4x128) transposes_S2x16384x4x128_S2x4x128x16384_0_2_3_1) bitsLt_bf16_f32

abbrev means (k : FVec Ideal S2x16384x4x128 .f32) : FVec Ideal S128x1x512 .f32 :=
  shapeCast S128x1x512 (Host.divf (Host.reduceAdd (shapeCast S2x64x256x4x128 k shapeCasts_S2x16384x4x128_S2x64x256x4x128) (constant S_ .f32 0x00000000#32) reducesTo_S2x64x256x4x128_S2x64x4x128_d2 h_S_) (broadcastInDim S2x64x4x128 ![] bcast_S_S2x64x4x128 (constant S_ .f32 0x43800000#32))) shapeCasts_S2x64x4x128_S128x1x512

/-- Two readings of a matrix at equal places are equal. -/
theorem same {R C : ℕ} (f : (⟨2, ![R, C]⟩ : Shape).Idx → EReal) {a a' : Fin R} {b b' : Fin C} (ha : a.val = a'.val) (hb : b.val = b'.val) :
    f (ix2 a b) = f (ix2 a' b') := by
  rw [Fin.ext ha, Fin.ext hb]

set_option maxHeartbeats 1600000 in
theorem turned_at (kv : FVec Ideal S32768x1024 .f32) (c s : FVec Ideal S16384x16 .f32) (q : Fin 2) (p : Fin 16384) (n : Fin 4) (e : Fin 128) :
    turned kv c s (ix4 q p n e) = key kv c s ⟨16384 * q.val + p.val, by omega⟩ n e := by
  pointwise [turned, first, second, spread, heads, key, turn]
  by_cases h : e.val < 16
  · rw [dif_pos h, dif_pos h]
    exact congrArg₂ (fun x y : EReal => x - y) (congrArg₂ (fun x y : EReal => x * y) (same kv (by dsimp only; omega) (by dsimp only; omega)) (same c (by dsimp only; omega) rfl))
      (congrArg₂ (fun x y : EReal => x * y) (same kv (by dsimp only; omega) (by dsimp only; omega)) (same s (by dsimp only; omega) rfl))
  · by_cases h' : e.val < 32
    · have h1 : e.val - 16 < 16 := by omega
      rw [dif_neg h, dif_neg h, dif_pos h', dif_pos h1]
      exact congrArg₂ (fun x y : EReal => x + y) (congrArg₂ (fun x y : EReal => x * y) (same kv (by dsimp only; omega) (by dsimp only; omega)) (same c (by dsimp only; omega) rfl))
        (congrArg₂ (fun x y : EReal => x * y) (same kv (by dsimp only; omega) (by dsimp only; omega)) (same s (by dsimp only; omega) rfl))
    · have h1 : ¬e.val - 16 < 16 := by omega
      rw [dif_neg h, dif_neg h, dif_neg h', dif_neg h1]
      exact same kv (by dsimp only; omega) (by dsimp only; omega)

theorem keys_at (k : FVec Ideal S2x16384x4x128 .f32) (r : Fin 32768) (j : Fin 512) :
    keys k (ix2 r j) = k (ix4 (⟨r.val / 16384, by omega⟩ : Fin 2) (⟨r.val % 16384, Nat.mod_lt _ (by decide)⟩ : Fin 16384)
      (⟨j.val / 128, by omega⟩ : Fin 4) (⟨j.val % 128, Nat.mod_lt _ (by decide)⟩ : Fin 128)) := by
  pointwise [keys]

theorem values_at (kv : FVec Ideal S32768x1024 .f32) (q : Fin 2) (n : Fin 4) (e : Fin 128) (p : Fin 16384) :
    values kv (ix4 q n e p) = value kv q n e p := by
  pointwise [values, value]
  apply congrArg kv
  apply congrArg₂ ix2
  · apply Fin.ext
    show q.val * 16384 + p.val = 16384 * q.val + p.val
    omega
  · apply Fin.ext
    show 512 + (n.val * 128 + e.val) = 512 + (128 * n.val + e.val)
    omega

theorem means_at (k : FVec Ideal S2x16384x4x128 .f32) (b : Fin 128) (u : Fin 1) (j : Fin 512) :
    means k (ix3 b u j) = Ideal.div (∑ a : Fin 256, k (ix4 (⟨b.val / 64, by omega⟩ : Fin 2) (⟨256 * (b.val % 64) + a.val, by omega⟩ : Fin 16384)
      (⟨j.val / 128, by omega⟩ : Fin 4) (⟨j.val % 128, Nat.mod_lt _ (by decide)⟩ : Fin 128))) (Ideal.ofBits .f32 0x43800000#32) := by
  pointwise [means]
  refine congrArg (fun z => Ideal.div z _) (Finset.sum_congr rfl fun a _ => ?_)
  have ea : (⟨b.val % 64 * 256 + a.val, by omega⟩ : Fin 16384) = ⟨256 * (b.val % 64) + a.val, by omega⟩ := Fin.ext (by
    show b.val % 64 * 256 + a.val = 256 * (b.val % 64) + a.val
    omega)
  rw [ea]

theorem result_keys (kv : FVec Ideal S32768x1024 .f32) (c s : FVec Ideal S16384x16 .f32) (r : Fin 32768) (j : Fin 512) :
    keys (turned kv c s) (ix2 r j) = key kv c s r ⟨j.val / 128, by omega⟩ ⟨j.val % 128, Nat.mod_lt _ (by decide)⟩ := by
  refine (keys_at _ r j).trans ((turned_at kv c s _ _ _ _).trans ?_)
  exact congrArg (fun a => key kv c s a _ _) (Fin.ext (by
    show 16384 * (r.val / 16384) + r.val % 16384 = r.val
    omega))

theorem result_means (kv : FVec Ideal S32768x1024 .f32) (c s : FVec Ideal S16384x16 .f32) (b : Fin 128) (u : Fin 1) (j : Fin 512) :
    means (turned kv c s) (ix3 b u j) = keyMean kv c s b ⟨j.val / 128, by omega⟩ ⟨j.val % 128, Nat.mod_lt _ (by decide)⟩ := by
  refine (means_at _ b u j).trans ?_
  unfold keyMean
  refine congrArg (fun z => Ideal.div z _) (Finset.sum_congr rfl fun a _ => (turned_at kv c s _ _ _ _).trans ?_)
  exact congrArg (fun x => key kv c s x _ _) (Fin.ext (by
    show 16384 * (b.val / 64) + (256 * (b.val % 64) + a.val) = 256 * b.val + a.val
    omega))

end Cert.Keys

end
-- ==== Proof.Keys.Claim.lean ====
/-
  The attention's keys and values: the kernel and its reference leave the same results.
-/
module

public import proofs.«01_k».proof.Defs
public import proofs.«01_k».proof.Proof.Keys.KernelRun
public import proofs.«01_k».proof.Proof.Keys.RefValue

@[expose] public section

set_option maxRecDepth 16384

noncomputable section

namespace Cert.Keys

open Idealize.ShloMosaic Idealize.SL.Sem

theorem agree : algebraic_Kernel9Ideal_Reference9Ideal := by
  intro m ρ m' ρ' _ hagree
  refine ⟨_, _, _, run m ρ, ?_⟩
  refine (θ_run Cert.Reference9Ideal.defs _ _).mono (fun _ h c => ⟨?_, ?_, ?_, (h c).2.2.2⟩)
    (Cert.Reference9Ideal.Value.run (F := Ideal) m' ρ')
  · refine (h c).1.trans ?_
    funext i
    obtain ⟨r, j, rfl⟩ : ∃ (r : Fin 32768) (j : Fin 512), i = ix2 r j := ⟨i 0, i 1, eq_ix2 i⟩
    refine (result_keys _ _ _ r j).trans ?_
    obtain ⟨h0, h1, h2⟩ := hagree c
    rw [h0, h1, h2]
    rfl
  · refine (h c).2.1.trans ?_
    funext i
    obtain ⟨q, n, e, p, rfl⟩ : ∃ (q : Fin 2) (n : Fin 4) (e : Fin 128) (p : Fin 16384), i = ix4 q n e p := ⟨i 0, i 1, i 2, i 3, eq_ix4 i⟩
    refine (values_at _ q n e p).trans (Eq.trans ?_ (values_kept_apply m c q n e p).symm)
    obtain ⟨h0, h1, h2⟩ := hagree c
    rw [h0]
  · refine (h c).2.2.1.trans ?_
    funext i
    obtain ⟨b, u, j, rfl⟩ : ∃ (b : Fin 128) (u : Fin 1) (j : Fin 512), i = ix3 b u j := ⟨i 0, i 1, i 2, eq_ix3 i⟩
    refine (result_means _ _ _ b u j).trans ?_
    obtain ⟨h0, h1, h2⟩ := hagree c
    rw [h0, h1, h2]
    rfl

end Cert.Keys

end
-- ==== Proof.lean ====
/-
  The certificate: every claim of the statement, from the generated frames and runs and the value proofs.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal.Run
public import proofs.«01_k».proof.Proof.Gen.Reference4Ideal.Step
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Ffn.Claim
public import proofs.«01_k».proof.Proof.Out.Claim
public import proofs.«01_k».proof.Proof.Gate.Claim
public import proofs.«01_k».proof.Proof.Rec.Claim
public import proofs.«01_k».proof.Proof.Query.Claim
public import proofs.«01_k».proof.Proof.KeyValue.Claim
public import proofs.«01_k».proof.Proof.AttnOut.Claim
public import proofs.«01_k».proof.Proof.Decay.Claim
public import proofs.«01_k».proof.Proof.Keys.Claim
public import Idealize.ShloMosaic.Adequacy
public import Idealize.ShloMosaic.Init
public import Idealize.ShloMosaic.Lib.Quiescent

@[expose] public section

noncomputable section

namespace Cert.Proof

open Idealize.ShloMosaic Idealize.SL.Sem

/-- Each reference runs to its end with its arguments unchanged and no semaphore to leave raised. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem reference2_frame : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem reference3_frame : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem reference5_frame : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem reference6_frame : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem reference7_frame : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem reference8_frame : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem reference9_frame : quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  Cert.Rec.frame, Cert.Rec.ideal_frame, Cert.Rec.reference_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  trivial, Cert.Ffn.agree, trivial, Cert.Out.agree, trivial, Cert.Gate.agree, trivial, Cert.Rec.agree,
  trivial, Cert.Query.agree, trivial, Cert.KeyValue.agree, trivial, Cert.AttnOut.agree, trivial, Cert.Decay.agree,
  trivial, Cert.Keys.agree⟩

end Cert.Proof

end
